-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Bias (m : (ℓ : Loc Cert.Bias.nD Cert.Bias.τ Cert.Bias.sig) → Buf (Elt Bits) ℓ) : Prop :=
  True

def Pre_BiasIdeal (m : (ℓ : Loc Cert.BiasIdeal.nD Cert.BiasIdeal.τ Cert.BiasIdeal.sig) → Buf (Elt Ideal) ℓ) : Prop :=
  True

def Pre_BiasRefIdeal (m : (ℓ : Loc Cert.BiasRefIdeal.nD Cert.BiasRefIdeal.τ Cert.BiasRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Bias [hBias : Cert.Bias.Facts] : Prop :=
  ∀ (m : (ℓ : Loc Cert.Bias.nD Cert.Bias.τ Cert.Bias.sig) → Buf (Elt Bits) ℓ) (g : Dev Cert.Bias.nD → PrngReg), Pre_Bias m →
    θ_run (Cert.Bias.defs (F := Bits)) (onTc (τ := Cert.Bias.τ) (Cert.Bias.main (F := Bits))) ⟨m, fun _ => 0, g⟩ (fun r => (∀ c : Dev Cert.Bias.nD,
      r.2.mem ((c.tc : Thread Cert.Bias.nD Cert.Bias.τ).loc Cert.Bias.main_arg0) = m ((c.tc : Thread Cert.Bias.nD Cert.Bias.τ).loc Cert.Bias.main_arg0))
      ∧ r.2.sem = fun _ => 0)

def quiescent_BiasIdeal [hBiasIdeal : Cert.BiasIdeal.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ r.2.sem = fun _ => 0)

def quiescent_BiasRefIdeal [hBiasRefIdeal : Cert.BiasRefIdeal.Facts] : Prop :=
  ∀ (m : (ℓ : Loc Cert.BiasRefIdeal.nD Cert.BiasRefIdeal.τ Cert.BiasRefIdeal.sig) → Buf (Elt Ideal) ℓ) (g : Dev Cert.BiasRefIdeal.nD → PrngReg), Pre_BiasRefIdeal m →
    θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v12)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v12) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v28) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)) →
    ∃ (v0 : (c : Dev Cert.MixIdeal.nD) → Buf (Elt Ideal) ((c.tc : Thread Cert.MixIdeal.nD Cert.MixIdeal.τ).loc Cert.MixIdeal.main_v21)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v21) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v90) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v4_0)) (v1 : (c : Dev Cert.ProjIdeal.nD) → Buf (Elt Ideal) ((c.tc : Thread Cert.ProjIdeal.nD Cert.ProjIdeal.τ).loc Cert.ProjIdeal.main_v4_1)) (v2 : (c : Dev Cert.ProjIdeal.nD) → Buf (Elt Ideal) ((c.tc : Thread Cert.ProjIdeal.nD Cert.ProjIdeal.τ).loc Cert.ProjIdeal.main_v4_2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v4_0) = v0 c
          ∧ r.2.mem ((c.tc : Thread Cert.ProjIdeal.nD Cert.ProjIdeal.τ).loc Cert.ProjIdeal.main_v4_1) = v1 c
          ∧ r.2.mem ((c.tc : Thread Cert.ProjIdeal.nD Cert.ProjIdeal.τ).loc Cert.ProjIdeal.main_v4_2) = v2 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v23) = v0 c
          ∧ r.2.mem ((c.tc : Thread Cert.ProjRefIdeal.nD Cert.ProjRefIdeal.τ).loc Cert.ProjRefIdeal.main_v24) = v1 c
          ∧ r.2.mem ((c.tc : Thread Cert.ProjRefIdeal.nD Cert.ProjRefIdeal.τ).loc Cert.ProjRefIdeal.main_v22) = v2 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Bias_BiasIdeal : Prop :=
  IdealRules.named_const.Statement Cert.BiasIdeal.κ "mask" .f32 0xF149F2CA#32 ⊥

def algebraic_BiasIdeal_BiasRefIdeal [hBiasIdeal : Cert.BiasIdeal.Facts] [hBiasRefIdeal : Cert.BiasRefIdeal.Facts] : Prop :=
  ∀ (m : (ℓ : Loc Cert.BiasIdeal.nD Cert.BiasIdeal.τ Cert.BiasIdeal.sig) → Buf (Elt Ideal) ℓ) (g : Dev Cert.BiasIdeal.nD → PrngReg)
    (m' : (ℓ : Loc Cert.BiasRefIdeal.nD Cert.BiasRefIdeal.τ Cert.BiasRefIdeal.sig) → Buf (Elt Ideal) ℓ) (g' : Dev Cert.BiasRefIdeal.nD → PrngReg), Pre_BiasIdeal m →
    (∀ c : Dev Cert.BiasIdeal.nD,
      m' ((c.tc : Thread Cert.BiasRefIdeal.nD Cert.BiasRefIdeal.τ).loc Cert.BiasRefIdeal.main_arg0) = m ((c.tc : Thread Cert.BiasIdeal.nD Cert.BiasIdeal.τ).loc Cert.BiasIdeal.main_arg0)) →
    ∃ (v0 : (c : Dev Cert.BiasIdeal.nD) → Buf (Elt Ideal) ((c.tc : Thread Cert.BiasIdeal.nD Cert.BiasIdeal.τ).loc Cert.BiasIdeal.main_v37)),
      θ_run (Cert.BiasIdeal.defs (F := Ideal)) (onTc (τ := Cert.BiasIdeal.τ) (Cert.BiasIdeal.main (F := Ideal))) ⟨m, fun _ => 0, g⟩ (fun r => ∀ c : Dev Cert.BiasIdeal.nD,
          r.2.mem ((c.tc : Thread Cert.BiasIdeal.nD Cert.BiasIdeal.τ).loc Cert.BiasIdeal.main_v37) = v0 c
          ∧ r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ θ_run (Cert.BiasRefIdeal.defs (F := Ideal)) (onTc (τ := Cert.BiasRefIdeal.τ) (Cert.BiasRefIdeal.main (F := Ideal))) ⟨m', fun _ => 0, g'⟩ (fun r => ∀ c : Dev Cert.BiasRefIdeal.nD,
          r.2.mem ((c.tc : Thread Cert.BiasRefIdeal.nD Cert.BiasRefIdeal.τ).loc Cert.BiasRefIdeal.main_v53) = v0 c
          ∧ r.2.mem ((c.tc : Thread Cert.BiasRefIdeal.nD Cert.BiasRefIdeal.τ).loc Cert.BiasRefIdeal.main_arg0) = m' ((c.tc : Thread Cert.BiasRefIdeal.nD Cert.BiasRefIdeal.τ).loc Cert.BiasRefIdeal.main_arg0))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hMix : Cert.Mix.Facts) (hMixIdeal : Cert.MixIdeal.Facts) (hMixRefIdeal : Cert.MixRefIdeal.Facts) (hProj : Cert.Proj.Facts) (hProjIdeal : Cert.ProjIdeal.Facts) (hProjRefIdeal : Cert.ProjRefIdeal.Facts) (hBias : Cert.Bias.Facts) (hBiasIdeal : Cert.BiasIdeal.Facts) (hBiasRefIdeal : Cert.BiasRefIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Ffn (hFfn := hFfn)
    ∧ quiescent_FfnIdeal (hFfnIdeal := hFfnIdeal)
    ∧ quiescent_FfnRefIdeal (hFfnRefIdeal := hFfnRefIdeal)
    ∧ quiescent_Mix (hMix := hMix)
    ∧ quiescent_MixIdeal (hMixIdeal := hMixIdeal)
    ∧ quiescent_MixRefIdeal (hMixRefIdeal := hMixRefIdeal)
    ∧ quiescent_Proj (hProj := hProj)
    ∧ quiescent_ProjIdeal (hProjIdeal := hProjIdeal)
    ∧ quiescent_ProjRefIdeal (hProjRefIdeal := hProjRefIdeal)
    ∧ quiescent_Bias (hBias := hBias)
    ∧ quiescent_BiasIdeal (hBiasIdeal := hBiasIdeal)
    ∧ quiescent_BiasRefIdeal (hBiasRefIdeal := hBiasRefIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Ffn_FfnIdeal
    ∧ algebraic_FfnIdeal_FfnRefIdeal (hFfnIdeal := hFfnIdeal) (hFfnRefIdeal := hFfnRefIdeal)
    ∧ preserves_Mix_MixIdeal
    ∧ algebraic_MixIdeal_MixRefIdeal (hMixIdeal := hMixIdeal) (hMixRefIdeal := hMixRefIdeal)
    ∧ preserves_Proj_ProjIdeal
    ∧ algebraic_ProjIdeal_ProjRefIdeal (hProjIdeal := hProjIdeal) (hProjRefIdeal := hProjRefIdeal)
    ∧ preserves_Bias_BiasIdeal
    ∧ algebraic_BiasIdeal_BiasRefIdeal (hBiasIdeal := hBiasIdeal) (hBiasRefIdeal := hBiasRefIdeal)
-- ==== Pre_finite_scores.lean ====
abbrev S8x4096x512 : Shape := ⟨3, ![8, 4096, 512]⟩
abbrev S8x4096x256 : Shape := ⟨3, ![8, 4096, 256]⟩
abbrev S8x128x384 : Shape := ⟨3, ![8, 128, 384]⟩
abbrev S4x8 : Shape := ⟨2, ![4, 8]⟩
abbrev S4x512 : Shape := ⟨2, ![4, 512]⟩
abbrev S_ : Shape := ⟨0, ![]⟩
abbrev S8x4096x128 : Shape := ⟨3, ![8, 4096, 128]⟩

class Facts : Prop where
  bitsLt_bf16_f32 : FTy.bits .bf16 < FTy.bits .f32
  bcast_S_S8x4096x512 : S_.BroadcastsInDim S8x4096x512 (![] : Fin 0 → Fin S8x4096x512.rank)
  slices_S8x4096x256_S8x4096x128_0_0_0 : S8x4096x256.Slices ![0, 0, 0] S8x4096x128
  bcast_S_S8x4096x128 : S_.BroadcastsInDim S8x4096x128 (![] : Fin 0 → Fin S8x4096x128.rank)
  bcast_S_S8x128x384 : S_.BroadcastsInDim S8x128x384 (![] : Fin 0 → Fin S8x128x384.rank)
  bcast_S_S4x8 : S_.BroadcastsInDim S4x8 (![] : Fin 0 → Fin S4x8.rank)

variable [Facts]

def fn {F : FTy → Type} [FloatOps F] (main_arg0 : FVec F S8x4096x512 .bf16) (main_arg1 : FVec F S8x4096x256 .bf16) (main_arg2 : FVec F S8x128x384 .f32) (main_arg3 : FVec F S4x8 .f32) (main_arg4 : FVec F S4x512 .f32) : IVec S8x4096x512 1 × IVec S8x4096x128 1 × IVec S8x128x384 1 × IVec S4x8 1 :=
  let main_v0 : FVec F S8x4096x512 .f32 := (extf .f32 · bitsLt_bf16_f32) main_arg0
  let main_v1 : FVec F S8x4096x512 .f32 := Host.absf main_v0
  let main_cst : FVec F S_ .f32 := constant S_ .f32 0x7F800000#32
  let main_v2 : FVec F S8x4096x512 .f32 := broadcastInDim S8x4096x512 ![] bcast_S_S8x4096x512 main_cst
  let main_v3 : IVec S8x4096x512 1 := cmpf .olt main_v1 main_v2
  let main_v4 : FVec F S8x4096x128 .bf16 := (extractStridedSlice S8x4096x128 ![0, 0, 0] · slices_S8x4096x256_S8x4096x128_0_0_0) main_arg1
  let main_v5 : FVec F S8x4096x128 .f32 := (extf .f32 · bitsLt_bf16_f32) main_v4
  let main_v6 : FVec F S8x4096x128 .f32 := Host.absf main_v5
  let main_cst_0 : FVec F S_ .f32 := constant S_ .f32 0x7F800000#32
  let main_v7 : FVec F S8x4096x128 .f32 := broadcastInDim S8x4096x128 ![] bcast_S_S8x4096x128 main_cst_0
  let main_v8 : IVec S8x4096x128 1 := cmpf .olt main_v6 main_v7
  let main_cst_1 : FVec F S_ .f32 := constant S_ .f32 0x7F800000#32
  let main_v9 : FVec F S8x128x384 .f32 := broadcastInDim S8x128x384 ![] bcast_S_S8x128x384 main_cst_1
  let main_v10 : IVec S8x128x384 1 := cmpf .olt main_arg2 main_v9
  let main_v11 : FVec F S4x8 .f32 := Host.absf main_arg3
  let main_cst_2 : FVec F S_ .f32 := constant S_ .f32 0x7F800000#32
  let main_v12 : FVec F S4x8 .f32 := broadcastInDim S4x8 ![] bcast_S_S4x8 main_cst_2
  let main_v13 : IVec S4x8 1 := cmpf .olt main_v11 main_v12
  (main_v3, main_v8, main_v10, main_v13)
-- ==== Kernel.lean ====
abbrev S8x4096x512 : Shape := ⟨3, ![8, 4096, 512]⟩
abbrev S8x4096x256 : Shape := ⟨3, ![8, 4096, 256]⟩
abbrev S8x128x384 : Shape := ⟨3, ![8, 128, 384]⟩
abbrev S4x8 : Shape := ⟨2, ![4, 8]⟩
abbrev S4x512 : Shape := ⟨2, ![4, 512]⟩
abbrev S4 : Shape := ⟨1, ![4]⟩
abbrev S2x4x128x384 : Shape := ⟨4, ![2, 4, 128, 384]⟩
abbrev S_ : Shape := ⟨0, ![]⟩
abbrev S4x1 : Shape := ⟨2, ![4, 1]⟩
abbrev S2x512x384 : Shape := ⟨3, ![2, 512, 384]⟩
abbrev S4x1x512 : Shape := ⟨3, ![4, 1, 512]⟩
abbrev S1x1024x512 : Shape := ⟨3, ![1, 1024, 512]⟩
abbrev S1x128x256 : Shape := ⟨3, ![1, 128, 256]⟩
abbrev S1x1024x256 : Shape := ⟨3, ![1, 1024, 256]⟩
abbrev S1x1x512 : Shape := ⟨3, ![1, 1, 512]⟩
abbrev S2x1280x128 : Shape := ⟨3, ![2, 1280, 128]⟩
abbrev S2x1280x256 : Shape := ⟨3, ![2, 1280, 256]⟩
abbrev S1x128 : Shape := ⟨2, ![1, 128]⟩
abbrev S128x256 : Shape := ⟨2, ![128, 256]⟩
abbrev S1024x256 : Shape := ⟨2, ![1024, 256]⟩
abbrev S1280x256 : Shape := ⟨2, ![1280, 256]⟩
abbrev S1280x128 : Shape := ⟨2, ![1280, 128]⟩
abbrev S1280x64 : Shape := ⟨2, ![1280, 64]⟩
abbrev S1x1280x128 : Shape := ⟨3, ![1, 1280, 128]⟩
abbrev S1x1280x256 : Shape := ⟨3, ![1, 1280, 256]⟩
abbrev S1x384 : Shape := ⟨2, ![1, 384]⟩
abbrev S1x128x128 : Shape := ⟨3, ![1, 128, 128]⟩
abbrev S128x128 : Shape := ⟨2, ![128, 128]⟩
abbrev S512x128 : Shape := ⟨2, ![512, 128]⟩
abbrev S1x384x128 : Shape := ⟨3, ![1, 384, 128]⟩
abbrev S384x128 : Shape := ⟨2, ![384, 128]⟩
abbrev S512x384 : Shape := ⟨2, ![512, 384]⟩
abbrev S1x512x384 : Shape := ⟨3, ![1, 512, 384]⟩
abbrev S1x1 : Shape := ⟨2, ![1, 1]⟩
abbrev S128 : Shape := ⟨1, ![128]⟩
abbrev S128x1 : Shape := ⟨2, ![128, 1]⟩
abbrev S128x384 : Shape := ⟨2, ![128, 384]⟩
abbrev S1x384x256 : Shape := ⟨3, ![1, 384, 256]⟩
abbrev S384x256 : Shape := ⟨2, ![384, 256]⟩
abbrev S128x512 : Shape := ⟨2, ![128, 512]⟩
abbrev S1x512 : Shape := ⟨2, ![1, 512]⟩
abbrev S1x128x512 : Shape := ⟨3, ![1, 128, 512]⟩

abbrev nBuf : Space → Nat
  | .hbm => 19
  | .vmem => 16
  | .smem => 1
  | _ => 0

abbrev bufTy : (tb : Table) → Fin (tcTables nBuf tb) → BufTy
  | .hbm, ⟨0, _⟩ => ⟨S8x4096x512, .bf16⟩
  | .hbm, ⟨1, _⟩ => ⟨S8x4096x256, .bf16⟩
  | .hbm, ⟨2, _⟩ => ⟨S8x128x384, .f32⟩
  | .hbm, ⟨3, _⟩ => ⟨S4x8, .f32⟩
  | .hbm, ⟨4, _⟩ => ⟨S4x512, .f32⟩
  | .hbm, ⟨5, _⟩ => ⟨S4, .i32⟩
  | .hbm, ⟨6, _⟩ => ⟨S2x4x128x384, .f32⟩
  | .hbm, ⟨7, _⟩ => ⟨S_, .i32⟩
  | .hbm, ⟨8, _⟩ => ⟨S4, .i32⟩
  | .hbm, ⟨9, _⟩ => ⟨S4, .i1⟩
  | .hbm, ⟨10, _⟩ => ⟨S_, .i32⟩
  | .hbm, ⟨11, _⟩ => ⟨S4, .i32⟩
  | .hbm, ⟨12, _⟩ => ⟨S4, .i32⟩
  | .hbm, ⟨13, _⟩ => ⟨S4, .i32⟩
  | .hbm, ⟨14, _⟩ => ⟨S4x1, .i32⟩
  | .hbm, ⟨15, _⟩ => ⟨S2x4x128x384, .f32⟩
  | .hbm, ⟨16, _⟩ => ⟨S2x512x384, .f32⟩
  | .hbm, ⟨17, _⟩ => ⟨S4x1x512, .f32⟩
  | .hbm, ⟨18, _⟩ => ⟨S8x4096x512, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x128x256, .bf16⟩
  | .local _ .vmem, ⟨3, _⟩ => ⟨S1x128x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x128x256, .bf16⟩
  | .local _ .vmem, ⟨7, _⟩ => ⟨S1x128x256, .bf16⟩
  | .local _ .vmem, ⟨8, _⟩ => ⟨S2x512x384, .f32⟩
  | .local _ .vmem, ⟨9, _⟩ => ⟨S1x1x512, .f32⟩
  | .local _ .vmem, ⟨10, _⟩ => ⟨S1x1024x512, .bf16⟩
  | .local _ .vmem, ⟨11, _⟩ => ⟨S1x1024x512, .bf16⟩
  | .local _ .vmem, ⟨12, _⟩ => ⟨S2x1280x128, .bf16⟩
  | .local _ .vmem, ⟨13, _⟩ => ⟨S2x1280x256, .bf16⟩
  | .local _ .vmem, ⟨14, _⟩ => ⟨S2x1280x256, .bf16⟩
  | .local _ .vmem, ⟨15, _⟩ => ⟨S2x512x384, .f32⟩
  | .local _ .smem, ⟨0, _⟩ => ⟨S4x8, .f32⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_c_0 : Ref sig .tc := ⟨.hbm, 7, rfl⟩
abbrev main_v1 : Ref sig .tc := ⟨.hbm, 8, rfl⟩
abbrev main_v2 : Ref sig .tc := ⟨.hbm, 9, rfl⟩
abbrev main_c_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c31_i32 : BitVec 32 := 31#32
  let v2 : BitVec 32 := Scalar.minsi v1 c31_i32
  let c0_i32 : BitVec 32 := 0#32
  let c0_i32_0 : BitVec 32 := 0#32
  ![arg0.toNat, v2.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S4x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S2x512x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x4096x512 : Shape := ⟨3, ![8, 4096, 512]⟩
abbrev S8x4096x256 : Shape := ⟨3, ![8, 4096, 256]⟩
abbrev S8x128x384 : Shape := ⟨3, ![8, 128, 384]⟩
abbrev S4x8 : Shape := ⟨2, ![4, 8]⟩
abbrev S4x512 : Shape := ⟨2, ![4, 512]⟩
abbrev S8x4096x128 : Shape := ⟨3, ![8, 4096, 128]⟩
abbrev S8x32x128x2x4x64 : Shape := ⟨6, ![8, 32, 128, 2, 4, 64]⟩
abbrev S8x32x128x2x64 : Shape := ⟨5, ![8, 32, 128, 2, 64]⟩
abbrev S_ : Shape := ⟨0, ![]⟩
abbrev S8x34x128x2x64 : Shape := ⟨5, ![8, 34, 128, 2, 64]⟩
abbrev S8x32x384x2x64 : Shape := ⟨5, ![8, 32, 384, 2, 64]⟩
abbrev S8x32x2x384x128x4 : Shape := ⟨6, ![8, 32, 2, 384, 128, 4]⟩
abbrev S8x32x2x4x128x384 : Shape := ⟨6, ![8, 32, 2, 4, 128, 384]⟩
abbrev S2x4x128x384 : Shape := ⟨4, ![2, 4, 128, 384]⟩
abbrev S1x1x2x4x128x384 : Shape := ⟨6, ![1, 1, 2, 4, 128, 384]⟩
abbrev S384 : Shape := ⟨1, ![384]⟩
abbrev S32 : Shape := ⟨1, ![32]⟩
abbrev S32x1 : Shape := ⟨2, ![32, 1]⟩
abbrev S1x384 : Shape := ⟨2, ![1, 384]⟩
abbrev S32x384 : Shape := ⟨2, ![32, 384]⟩
abbrev S1x32x1x1x1x384 : Shape := ⟨6, ![1, 32, 1, 1, 1, 384]⟩
abbrev S1x8 : Shape := ⟨2, ![1, 8]⟩
abbrev S8 : Shape := ⟨1, ![8]⟩
abbrev S2x4x1x1 : Shape := ⟨4, ![2, 4, 1, 1]⟩
abbrev S8x32x2x4x128 : Shape := ⟨5, ![8, 32, 2, 4, 128]⟩
abbrev S8x32x2x4x128x1 : Shape := ⟨6, ![8, 32, 2, 4, 128, 1]⟩
abbrev S1x1x2x4x1x1 : Shape := ⟨6, ![1, 1, 2, 4, 1, 1]⟩
abbrev S8x32x2x64x4x128 : Shape := ⟨6, ![8, 32, 2, 64, 4, 128]⟩
abbrev S1x512 : Shape := ⟨2, ![1, 512]⟩
abbrev S512 : Shape := ⟨1, ![512]⟩
abbrev S8x4096 : Shape := ⟨2, ![8, 4096]⟩
abbrev S8x4096x1 : Shape := ⟨3, ![8, 4096, 1]⟩
abbrev S1x1x512 : Shape := ⟨3, ![1, 1, 512]⟩

abbrev nBuf : Space → Nat
  | .hbm => 102
  | .vmem => 0
  | .smem => 0
  | _ => 0

abbrev bufTy : (tb : Table) → Fin (tcTables nBuf tb) → BufTy
  | .hbm, ⟨0, _⟩ => ⟨S8x4096x512, .bf16⟩
  | .hbm, ⟨1, _⟩ => ⟨S8x4096x256, .bf16⟩
  | .hbm, ⟨2, _⟩ => ⟨S8x128x384, .f32⟩
  | .hbm, ⟨3, _⟩ => ⟨S4x8, .f32⟩
  | .hbm, ⟨4, _⟩ => ⟨S4x512, .f32⟩
  | .hbm, ⟨5, _⟩ => ⟨S8x4096x512, .f32⟩
  | .hbm, ⟨6, _⟩ => ⟨S8x4096x256, .f32⟩
  | .hbm, ⟨7, _⟩ => ⟨S8x4096x128, .f32⟩
  | .hbm, ⟨8, _⟩ => ⟨S8x4096x128, .f32⟩
  | .hbm, ⟨9, _⟩ => ⟨S8x32x128x2x4x64, .f32⟩
  | .hbm, ⟨10, _⟩ => ⟨S8x32x128x2x64, .f32⟩
  | .hbm, ⟨11, _⟩ => ⟨S_, .i32⟩
  | .hbm, ⟨12, _⟩ => ⟨S_, .f32⟩
  | .hbm, ⟨13, _⟩ => ⟨S8x34x128x2x64, .f32⟩
  | .hbm, ⟨14, _⟩ => ⟨S8x32x128x2x64, .f32⟩
  | .hbm, ⟨15, _⟩ => ⟨S8x32x128x2x64, .f32⟩
  | .hbm, ⟨16, _⟩ => ⟨S8x32x128x2x64, .f32⟩
  | .hbm, ⟨17, _⟩ => ⟨S8x32x384x2x64, .f32⟩
  | .hbm, ⟨18, _⟩ => ⟨S8x32x128x2x64, .f32⟩
  | .hbm, ⟨19, _⟩ => ⟨S_, .i32⟩
  | .hbm, ⟨20, _⟩ => ⟨S_, .f32⟩
  | .hbm, ⟨21, _⟩ => ⟨S8x34x128x2x64, .f32⟩
  | .hbm, ⟨22, _⟩ => ⟨S8x32x128x2x64, .f32⟩
  | .hbm, ⟨23, _⟩ => ⟨S8x32x128x2x64, .f32⟩
  | .hbm, ⟨24, _⟩ => ⟨S8x32x128x2x64, .f32⟩
  | .hbm, ⟨25, _⟩ => ⟨S8x32x384x2x64, .f32⟩
  | .hbm, ⟨26, _⟩ => ⟨S8x32x2x384x128x4, .f32⟩
  | .hbm, ⟨27, _⟩ => ⟨S8x32x2x4x128x384, .f32⟩
  | .hbm, ⟨28, _⟩ => ⟨S2x4x128x384, .f32⟩
  | .hbm, ⟨29, _⟩ => ⟨S1x1x2x4x128x384, .f32⟩
  | .hbm, ⟨30, _⟩ => ⟨S8x32x2x4x128x384, .f32⟩
  | .hbm, ⟨31, _⟩ => ⟨S8x32x2x4x128x384, .f32⟩
  | .hbm, ⟨32, _⟩ => ⟨S384, .i32⟩
  | .hbm, ⟨33, _⟩ => ⟨S_, .i32⟩
  | .hbm, ⟨34, _⟩ => ⟨S384, .i32⟩
  | .hbm, ⟨35, _⟩ => ⟨S384, .i32⟩
  | .hbm, ⟨36, _⟩ => ⟨S32, .i32⟩
  | .hbm, ⟨37, _⟩ => ⟨S32x1, .i32⟩
  | .hbm, ⟨38, _⟩ => ⟨S_, .i32⟩
  | .hbm, ⟨39, _⟩ => ⟨S32x1, .i32⟩
  | .hbm, ⟨40, _⟩ => ⟨S32x1, .i32⟩
  | .hbm, ⟨41, _⟩ => ⟨S1x384, .i32⟩
  | .hbm, ⟨42, _⟩ => ⟨S32x384, .i32⟩
  | .hbm, ⟨43, _⟩ => ⟨S32x384, .i32⟩
  | .hbm, ⟨44, _⟩ => ⟨S32x384, .i32⟩
  | .hbm, ⟨45, _⟩ => ⟨S_, .i32⟩
  | .hbm, ⟨46, _⟩ => ⟨S32x384, .i32⟩
  | .hbm, ⟨47, _⟩ => ⟨S32x384, .i1⟩
  | .hbm, ⟨48, _⟩ => ⟨S_, .i32⟩
  | .hbm, ⟨49, _⟩ => ⟨S32x384, .i32⟩
  | .hbm, ⟨50, _⟩ => ⟨S32x384, .i1⟩
  | .hbm, ⟨51, _⟩ => ⟨S32x384, .i1⟩
  | .hbm, ⟨52, _⟩ => ⟨S1x32x1x1x1x384, .i1⟩
  | .hbm, ⟨53, _⟩ => ⟨S_, .f32⟩
  | .hbm, ⟨54, _⟩ => ⟨S_, .f32⟩
  | .hbm, ⟨55, _⟩ => ⟨S8x32x2x4x128x384, .i1⟩
  | .hbm, ⟨56, _⟩ => ⟨S8x32x2x4x128x384, .f32⟩
  | .hbm, ⟨57, _⟩ => ⟨S8x32x2x4x128x384, .f32⟩
  | .hbm, ⟨58, _⟩ => ⟨S1x8, .f32⟩
  | .hbm, ⟨59, _⟩ => ⟨S8, .f32⟩
  | .hbm, ⟨60, _⟩ => ⟨S2x4x1x1, .f32⟩
  | .hbm, ⟨61, _⟩ => ⟨S_, .f32⟩
  | .hbm, ⟨62, _⟩ => ⟨S8x32x2x4x128, .f32⟩
  | .hbm, ⟨63, _⟩ => ⟨S8x32x2x4x128x1, .f32⟩
  | .hbm, ⟨64, _⟩ => ⟨S1x1x2x4x1x1, .f32⟩
  | .hbm, ⟨65, _⟩ => ⟨S8x32x2x4x128x1, .f32⟩
  | .hbm, ⟨66, _⟩ => ⟨S8x32x2x4x128x1, .f32⟩
  | .hbm, ⟨67, _⟩ => ⟨S8x32x2x4x128x384, .f32⟩
  | .hbm, ⟨68, _⟩ => ⟨S8x32x2x4x128x384, .f32⟩
  | .hbm, ⟨69, _⟩ => ⟨S8x32x2x4x128x384, .f32⟩
  | .hbm, ⟨70, _⟩ => ⟨S_, .f32⟩
  | .hbm, ⟨71, _⟩ => ⟨S8x32x2x4x128, .f32⟩
  | .hbm, ⟨72, _⟩ => ⟨S8x32x2x4x128x1, .f32⟩
  | .hbm, ⟨73, _⟩ => ⟨S1x1x2x4x1x1, .f32⟩
  | .hbm, ⟨74, _⟩ => ⟨S8x32x2x4x128x1, .f32⟩
  | .hbm, ⟨75, _⟩ => ⟨S8x32x2x4x128x1, .f32⟩
  | .hbm, ⟨76, _⟩ => ⟨S8x32x2x4x128x1, .f32⟩
  | .hbm, ⟨77, _⟩ => ⟨S8x32x2x4x128x1, .f32⟩
  | .hbm, ⟨78, _⟩ => ⟨S8x32x2x4x128x384, .f32⟩
  | .hbm, ⟨79, _⟩ => ⟨S8x32x2x4x128x384, .f32⟩
  | .hbm, ⟨80, _⟩ => ⟨S8x32x2x64x4x128, .f32⟩
  | .hbm, ⟨81, _⟩ => ⟨S8x32x128x2x4x64, .f32⟩
  | .hbm, ⟨82, _⟩ => ⟨S8x4096x512, .f32⟩
  | .hbm, ⟨83, _⟩ => ⟨S1x512, .f32⟩
  | .hbm, ⟨84, _⟩ => ⟨S512, .f32⟩
  | .hbm, ⟨85, _⟩ => ⟨S8x4096x512, .f32⟩
  | .hbm, ⟨86, _⟩ => ⟨S_, .f32⟩
  | .hbm, ⟨87, _⟩ => ⟨S8x4096, .f32⟩
  | .hbm, ⟨88, _⟩ => ⟨S8x4096x1, .f32⟩
  | .hbm, ⟨89, _⟩ => ⟨S_, .f32⟩
  | .hbm, ⟨90, _⟩ => ⟨S8x4096x1, .f32⟩
  | .hbm, ⟨91, _⟩ => ⟨S8x4096x1, .f32⟩
  | .hbm, ⟨92, _⟩ => ⟨S_, .f32⟩
  | .hbm, ⟨93, _⟩ => ⟨S8x4096x1, .f32⟩
  | .hbm, ⟨94, _⟩ => ⟨S8x4096x1, .f32⟩
  | .hbm, ⟨95, _⟩ => ⟨S8x4096x1, .f32⟩
  | .hbm, ⟨96, _⟩ => ⟨S8x4096x512, .f32⟩
  | .hbm, ⟨97, _⟩ => ⟨S8x4096x512, .f32⟩
  | .hbm, ⟨98, _⟩ => ⟨S1x1x512, .f32⟩
  | .hbm, ⟨99, _⟩ => ⟨S8x4096x512, .f32⟩
  | .hbm, ⟨100, _⟩ => ⟨S8x4096x512, .f32⟩
  | .hbm, ⟨101, _⟩ => ⟨S8x4096x512, .bf16⟩
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_call1_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_3 : Ref sig .tc := ⟨.hbm, 45, rfl⟩
abbrev main_v34 : Ref sig .tc := ⟨.hbm, 46, rfl⟩
abbrev main_v35 : Ref sig .tc := ⟨.hbm, 47, rfl⟩
abbrev main_c_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_5 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_6 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_7 : Ref sig .tc := ⟨.hbm, 86, rfl⟩
abbrev main_v67 : Ref sig .tc := ⟨.hbm, 87, rfl⟩
abbrev main_v68 : Ref sig .tc := ⟨.hbm, 88, rfl⟩
abbrev main_cst_8 : Ref sig .tc := ⟨.hbm, 89, rfl⟩
abbrev main_v69 : Ref sig .tc := ⟨.hbm, 90, rfl⟩
abbrev main_v70 : Ref sig .tc := ⟨.hbm, 91, rfl⟩
abbrev main_cst_9 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩

abbrev nD : Nat := 1
abbrev τ : Topo := Topo.v7x

variable {F : FTy → Type} [FloatOps F]
-- ==== Ffn.lean ====
abbrev S32768x1024 : Shape := ⟨2, ![32768, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S4x1x1024 : Shape := ⟨3, ![4, 1, 1024]⟩
abbrev S_ : Shape := ⟨0, ![]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S512x1024 : Shape := ⟨2, ![512, 1024]⟩
abbrev S1x1x1024 : Shape := ⟨3, ![1, 1, 1024]⟩
abbrev S2x512x512 : Shape := ⟨3, ![2, 512, 512]⟩
abbrev S1x1024 : Shape := ⟨2, ![1, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x512x256 : Shape := ⟨3, ![1, 512, 256]⟩
abbrev S1x512x512 : Shape := ⟨3, ![1, 512, 512]⟩
abbrev S512x512 : Shape := ⟨2, ![512, 512]⟩
abbrev S1x256x1024 : Shape := ⟨3, ![1, 256, 1024]⟩
abbrev S256x1024 : Shape := ⟨2, ![256, 1024]⟩

abbrev nBuf : Space → Nat
  | .hbm => 19
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S4x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S4x1x1024, .f32⟩
  | .hbm, ⟨6, _⟩ => ⟨S4x1024x2816, .bf16⟩
  | .hbm, ⟨7, _⟩ => ⟨S4x1024x2816, .bf16⟩
  | .hbm, ⟨8, _⟩ => ⟨S_, .f32⟩
  | .hbm, ⟨9, _⟩ => ⟨S4x2816x1024, .f32⟩
  | .hbm, ⟨10, _⟩ => ⟨S4x2816x1024, .f32⟩
  | .hbm, ⟨11, _⟩ => ⟨S4x2816x1024, .bf16⟩
  | .hbm, ⟨12, _⟩ => ⟨S1x1024x2816, .bf16⟩
  | .hbm, ⟨13, _⟩ => ⟨S1024x2816, .bf16⟩
  | .hbm, ⟨14, _⟩ => ⟨S1x1024x2816, .bf16⟩
  | .hbm, ⟨15, _⟩ => ⟨S1024x2816, .bf16⟩
  | .hbm, ⟨16, _⟩ => ⟨S1x2816x1024, .bf16⟩
  | .hbm, ⟨17, _⟩ => ⟨S2816x1024, .bf16⟩
  | .hbm, ⟨18, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S2x512x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S32768x1024 : Shape := ⟨2, ![32768, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1x1024 : Shape := ⟨2, ![1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S32768x2816 : Shape := ⟨2, ![32768, 2816]⟩

abbrev nBuf : Space → Nat
  | .hbm => 46
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S1x1024, .f32⟩
  | .hbm, ⟨6, _⟩ => ⟨S1024, .f32⟩
  | .hbm, ⟨7, _⟩ => ⟨S32768x1024, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x1024, .f32⟩
  | .hbm, ⟨19, _⟩ => ⟨S32768x1024, .f32⟩
  | .hbm, ⟨20, _⟩ => ⟨S1x1024, .f32⟩
  | .hbm, ⟨21, _⟩ => ⟨S32768x1024, .f32⟩
  | .hbm, ⟨22, _⟩ => ⟨S32768x1024, .f32⟩
  | .hbm, ⟨23, _⟩ => ⟨S1x1024x2816, .f32⟩
  | .hbm, ⟨24, _⟩ => ⟨S1024x2816, .f32⟩
  | .hbm, ⟨25, _⟩ => ⟨S1x1024x2816, .f32⟩
  | .hbm, ⟨26, _⟩ => ⟨S1024x2816, .f32⟩
  | .hbm, ⟨27, _⟩ => ⟨S1x2816x1024, .f32⟩
  | .hbm, ⟨28, _⟩ => ⟨S2816x1024, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S_, .f32⟩
  | .hbm, ⟨33, _⟩ => ⟨S32768x2816, .f32⟩
  | .hbm, ⟨34, _⟩ => ⟨S32768x2816, .f32⟩
  | .hbm, ⟨35, _⟩ => ⟨S_, .f32⟩
  | .hbm, ⟨36, _⟩ => ⟨S32768x2816, .f32⟩
  | .hbm, ⟨37, _⟩ => ⟨S32768x2816, .f32⟩
  | .hbm, ⟨38, _⟩ => ⟨S32768x2816, .f32⟩
  | .hbm, ⟨39, _⟩ => ⟨S32768x2816, .f32⟩
  | .hbm, ⟨40, _⟩ => ⟨S32768x2816, .f32⟩
  | .hbm, ⟨41, _⟩ => ⟨S32768x1024, .f32⟩
  | .hbm, ⟨42, _⟩ => ⟨S_, .f32⟩
  | .hbm, ⟨43, _⟩ => ⟨S32768x1024, .f32⟩
  | .hbm, ⟨44, _⟩ => ⟨S32768x1024, .f32⟩
  | .hbm, ⟨45, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== Mix.lean ====
abbrev S32768x1024 : Shape := ⟨2, ![32768, 1024]⟩
abbrev S32768x512 : Shape := ⟨2, ![32768, 512]⟩
abbrev S4x512x512 : Shape := ⟨3, ![4, 512, 512]⟩
abbrev S4x512 : Shape := ⟨2, ![4, 512]⟩
abbrev S4x1024x1024 : Shape := ⟨3, ![4, 1024, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1024 : Shape := ⟨1, ![1024]⟩
abbrev S4x1x512 : Shape := ⟨3, ![4, 1, 512]⟩
abbrev S4x1x1024 : Shape := ⟨3, ![4, 1, 1024]⟩
abbrev S_ : Shape := ⟨0, ![]⟩
abbrev S1x1024 : Shape := ⟨2, ![1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S1x512x512 : Shape := ⟨3, ![1, 512, 512]⟩
abbrev S512x512 : Shape := ⟨2, ![512, 512]⟩
abbrev S1x1024x1024 : Shape := ⟨3, ![1, 1024, 1024]⟩
abbrev S1024x1024 : Shape := ⟨2, ![1024, 1024]⟩
abbrev S512x1024 : Shape := ⟨2, ![512, 1024]⟩
abbrev S1x1x512 : Shape := ⟨3, ![1, 1, 512]⟩
abbrev S1x1x1024 : Shape := ⟨3, ![1, 1, 1024]⟩
abbrev S2x512x512 : Shape := ⟨3, ![2, 512, 512]⟩
abbrev S1x512 : Shape := ⟨2, ![1, 512]⟩
abbrev S512 : Shape := ⟨1, ![512]⟩
abbrev S512x1 : Shape := ⟨2, ![512, 1]⟩
abbrev S1x512x1024 : Shape := ⟨3, ![1, 512, 1024]⟩
abbrev S1x1024x256 : Shape := ⟨3, ![1, 1024, 256]⟩
abbrev S1024x256 : Shape := ⟨2, ![1024, 256]⟩
abbrev S512x256 : Shape := ⟨2, ![512, 256]⟩
abbrev S1x512x256 : Shape := ⟨3, ![1, 512, 256]⟩
abbrev S1x256x1024 : Shape := ⟨3, ![1, 256, 1024]⟩
abbrev S256x1024 : Shape := ⟨2, ![256, 1024]⟩

abbrev nBuf : Space → Nat
  | .hbm => 35
  | .vmem => 19
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .f32⟩
  | .hbm, ⟨3, _⟩ => ⟨S4x512x512, .f32⟩
  | .hbm, ⟨4, _⟩ => ⟨S4x512, .f32⟩
  | .hbm, ⟨5, _⟩ => ⟨S4x512, .f32⟩
  | .hbm, ⟨6, _⟩ => ⟨S4x1024x1024, .f32⟩
  | .hbm, ⟨7, _⟩ => ⟨S4x1024, .f32⟩
  | .hbm, ⟨8, _⟩ => ⟨S4x1024x2816, .f32⟩
  | .hbm, ⟨9, _⟩ => ⟨S4x1024x2816, .f32⟩
  | .hbm, ⟨10, _⟩ => ⟨S4x2816x1024, .f32⟩
  | .hbm, ⟨11, _⟩ => ⟨S1024, .f32⟩
  | .hbm, ⟨12, _⟩ => ⟨S4x512x512, .bf16⟩
  | .hbm, ⟨13, _⟩ => ⟨S4x1x512, .f32⟩
  | .hbm, ⟨14, _⟩ => ⟨S4x1x512, .f32⟩
  | .hbm, ⟨15, _⟩ => ⟨S4x1024x1024, .bf16⟩
  | .hbm, ⟨16, _⟩ => ⟨S4x1x1024, .f32⟩
  | .hbm, ⟨17, _⟩ => ⟨S4x1024x2816, .bf16⟩
  | .hbm, ⟨18, _⟩ => ⟨S4x1024x2816, .bf16⟩
  | .hbm, ⟨19, _⟩ => ⟨S_, .f32⟩
  | .hbm, ⟨20, _⟩ => ⟨S4x2816x1024, .f32⟩
  | .hbm, ⟨21, _⟩ => ⟨S4x2816x1024, .f32⟩
  | .hbm, ⟨22, _⟩ => ⟨S4x2816x1024, .bf16⟩
  | .hbm, ⟨23, _⟩ => ⟨S1x1024, .f32⟩
  | .hbm, ⟨24, _⟩ => ⟨S1x1024x2816, .bf16⟩
  | .hbm, ⟨25, _⟩ => ⟨S1024x2816, .bf16⟩
  | .hbm, ⟨26, _⟩ => ⟨S1x1024x2816, .bf16⟩
  | .hbm, ⟨27, _⟩ => ⟨S1024x2816, .bf16⟩
  | .hbm, ⟨28, _⟩ => ⟨S1x2816x1024, .bf16⟩
  | .hbm, ⟨29, _⟩ => ⟨S2816x1024, .bf16⟩
  | .hbm, ⟨30, _⟩ => ⟨S1x512x512, .bf16⟩
  | .hbm, ⟨31, _⟩ => ⟨S512x512, .bf16⟩
  | .hbm, ⟨32, _⟩ => ⟨S1x1024x1024, .bf16⟩
  | .hbm, ⟨33, _⟩ => ⟨S1024x1024, .bf16⟩
  | .hbm, ⟨34, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S1x512x512, .bf16⟩
  | .local _ .vmem, ⟨7, _⟩ => ⟨S1x1x512, .f32⟩
  | .local _ .vmem, ⟨8, _⟩ => ⟨S1x1x512, .f32⟩
  | .local _ .vmem, ⟨9, _⟩ => ⟨S1x1024x1024, .bf16⟩
  | .local _ .vmem, ⟨10, _⟩ => ⟨S1x1x1024, .f32⟩
  | .local _ .vmem, ⟨11, _⟩ => ⟨S1x1024x2816, .bf16⟩
  | .local _ .vmem, ⟨12, _⟩ => ⟨S1x1024x2816, .bf16⟩
  | .local _ .vmem, ⟨13, _⟩ => ⟨S1x2816x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S2x512x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MixRefIdeal.lean ====
abbrev S32768x1024 : Shape := ⟨2, ![32768, 1024]⟩
abbrev S32768x512 : Shape := ⟨2, ![32768, 512]⟩
abbrev S4x512x512 : Shape := ⟨3, ![4, 512, 512]⟩
abbrev S4x512 : Shape := ⟨2, ![4, 512]⟩
abbrev S4x1024x1024 : Shape := ⟨3, ![4, 1024, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1024 : Shape := ⟨1, ![1024]⟩
abbrev S_ : Shape := ⟨0, ![]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩
abbrev S32768 : Shape := ⟨1, ![32768]⟩
abbrev S32768x1 : Shape := ⟨2, ![32768, 1]⟩
abbrev S1x1024x1024 : Shape := ⟨3, ![1, 1024, 1024]⟩
abbrev S1024x1024 : Shape := ⟨2, ![1024, 1024]⟩
abbrev S1x1024 : Shape := ⟨2, ![1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S32768x2816 : Shape := ⟨2, ![32768, 2816]⟩

abbrev nBuf : Space → Nat
  | .hbm => 127
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .f32⟩
  | .hbm, ⟨3, _⟩ => ⟨S4x512x512, .f32⟩
  | .hbm, ⟨4, _⟩ => ⟨S4x512, .f32⟩
  | .hbm, ⟨5, _⟩ => ⟨S4x512, .f32⟩
  | .hbm, ⟨6, _⟩ => ⟨S4x1024x1024, .f32⟩
  | .hbm, ⟨7, _⟩ => ⟨S4x1024, .f32⟩
  | .hbm, ⟨8, _⟩ => ⟨S4x1024x2816, .f32⟩
  | .hbm, ⟨9, _⟩ => ⟨S4x1024x2816, .f32⟩
  | .hbm, ⟨10, _⟩ => ⟨S4x2816x1024, .f32⟩
  | .hbm, ⟨11, _⟩ => ⟨S1024, .f32⟩
  | .hbm, ⟨12, _⟩ => ⟨S32768x512, .f32⟩
  | .hbm, ⟨13, _⟩ => ⟨S32768x512, .f32⟩
  | .hbm, ⟨14, _⟩ => ⟨S_, .f32⟩
  | .hbm, ⟨15, _⟩ => ⟨S32768x512, .f32⟩
  | .hbm, ⟨16, _⟩ => ⟨S32768x512, .f32⟩
  | .hbm, ⟨17, _⟩ => ⟨S32768x512, .f32⟩
  | .hbm, ⟨18, _⟩ => ⟨S_, .f32⟩
  | .hbm, ⟨19, _⟩ => ⟨S32768x512, .f32⟩
  | .hbm, ⟨20, _⟩ => ⟨S32768x512, .f32⟩
  | .hbm, ⟨21, _⟩ => ⟨S32768x512, .f32⟩
  | .hbm, ⟨22, _⟩ => ⟨S_, .f32⟩
  | .hbm, ⟨23, _⟩ => ⟨S32768x512, .f32⟩
  | .hbm, ⟨24, _⟩ => ⟨S32768x512, .f32⟩
  | .hbm, ⟨25, _⟩ => ⟨S_, .f32⟩
  | .hbm, ⟨26, _⟩ => ⟨S32768x512, .f32⟩
  | .hbm, ⟨27, _⟩ => ⟨S32768x512, .f32⟩
  | .hbm, ⟨28, _⟩ => ⟨S32768x512, .f32⟩
  | .hbm, ⟨29, _⟩ => ⟨S1x512x512, .f32⟩
  | .hbm, ⟨30, _⟩ => ⟨S512x512, .f32⟩
  | .hbm, ⟨31, _⟩ => ⟨S32768x512, .f32⟩
  | .hbm, ⟨32, _⟩ => ⟨S1x512, .f32⟩
  | .hbm, ⟨33, _⟩ => ⟨S512, .f32⟩
  | .hbm, ⟨34, _⟩ => ⟨S1x512, .f32⟩
  | .hbm, ⟨35, _⟩ => ⟨S32768x512, .f32⟩
  | .hbm, ⟨36, _⟩ => ⟨S32768x512, .f32⟩
  | .hbm, ⟨37, _⟩ => ⟨S32768x512, .f32⟩
  | .hbm, ⟨38, _⟩ => ⟨S32768x512, .f32⟩
  | .hbm, ⟨39, _⟩ => ⟨S_, .f32⟩
  | .hbm, ⟨40, _⟩ => ⟨S32768x512, .f32⟩
  | .hbm, ⟨41, _⟩ => ⟨S32768x512, .f32⟩
  | .hbm, ⟨42, _⟩ => ⟨S_, .f32⟩
  | .hbm, ⟨43, _⟩ => ⟨S32768x512, .f32⟩
  | .hbm, ⟨44, _⟩ => ⟨S32768x512, .f32⟩
  | .hbm, ⟨45, _⟩ => ⟨S32768x512, .f32⟩
  | .hbm, ⟨46, _⟩ => ⟨S32768x512, .f32⟩
  | .hbm, ⟨47, _⟩ => ⟨S1x512, .f32⟩
  | .hbm, ⟨48, _⟩ => ⟨S512, .f32⟩
  | .hbm, ⟨49, _⟩ => ⟨S32768x512, .f32⟩
  | .hbm, ⟨50, _⟩ => ⟨S_, .f32⟩
  | .hbm, ⟨51, _⟩ => ⟨S32768, .f32⟩
  | .hbm, ⟨52, _⟩ => ⟨S32768x1, .f32⟩
  | .hbm, ⟨53, _⟩ => ⟨S_, .f32⟩
  | .hbm, ⟨54, _⟩ => ⟨S32768x1, .f32⟩
  | .hbm, ⟨55, _⟩ => ⟨S32768x1, .f32⟩
  | .hbm, ⟨56, _⟩ => ⟨S_, .f32⟩
  | .hbm, ⟨57, _⟩ => ⟨S32768x1, .f32⟩
  | .hbm, ⟨58, _⟩ => ⟨S32768x1, .f32⟩
  | .hbm, ⟨59, _⟩ => ⟨S32768x1, .f32⟩
  | .hbm, ⟨60, _⟩ => ⟨S32768x512, .f32⟩
  | .hbm, ⟨61, _⟩ => ⟨S32768x512, .f32⟩
  | .hbm, ⟨62, _⟩ => ⟨S1x512, .f32⟩
  | .hbm, ⟨63, _⟩ => ⟨S32768x512, .f32⟩
  | .hbm, ⟨64, _⟩ => ⟨S32768x512, .f32⟩
  | .hbm, ⟨65, _⟩ => ⟨S32768x1024, .f32⟩
  | .hbm, ⟨66, _⟩ => ⟨S1x1024x1024, .f32⟩
  | .hbm, ⟨67, _⟩ => ⟨S1024x1024, .f32⟩
  | .hbm, ⟨68, _⟩ => ⟨S32768x1024, .f32⟩
  | .hbm, ⟨69, _⟩ => ⟨S32768x1024, .f32⟩
  | .hbm, ⟨70, _⟩ => ⟨S1x1024, .f32⟩
  | .hbm, ⟨71, _⟩ => ⟨S1024, .f32⟩
  | .hbm, ⟨72, _⟩ => ⟨S32768x1024, .f32⟩
  | .hbm, ⟨73, _⟩ => ⟨S_, .f32⟩
  | .hbm, ⟨74, _⟩ => ⟨S32768, .f32⟩
  | .hbm, ⟨75, _⟩ => ⟨S32768x1, .f32⟩
  | .hbm, ⟨76, _⟩ => ⟨S_, .f32⟩
  | .hbm, ⟨77, _⟩ => ⟨S32768x1, .f32⟩
  | .hbm, ⟨78, _⟩ => ⟨S32768x1, .f32⟩
  | .hbm, ⟨79, _⟩ => ⟨S_, .f32⟩
  | .hbm, ⟨80, _⟩ => ⟨S32768x1, .f32⟩
  | .hbm, ⟨81, _⟩ => ⟨S32768x1, .f32⟩
  | .hbm, ⟨82, _⟩ => ⟨S32768x1, .f32⟩
  | .hbm, ⟨83, _⟩ => ⟨S32768x1024, .f32⟩
  | .hbm, ⟨84, _⟩ => ⟨S32768x1024, .f32⟩
  | .hbm, ⟨85, _⟩ => ⟨S1x1024, .f32⟩
  | .hbm, ⟨86, _⟩ => ⟨S32768x1024, .f32⟩
  | .hbm, ⟨87, _⟩ => ⟨S32768x1024, .f32⟩
  | .hbm, ⟨88, _⟩ => ⟨S1x1024x2816, .f32⟩
  | .hbm, ⟨89, _⟩ => ⟨S1024x2816, .f32⟩
  | .hbm, ⟨90, _⟩ => ⟨S1x1024x2816, .f32⟩
  | .hbm, ⟨91, _⟩ => ⟨S1024x2816, .f32⟩
  | .hbm, ⟨92, _⟩ => ⟨S1x2816x1024, .f32⟩
  | .hbm, ⟨93, _⟩ => ⟨S2816x1024, .f32⟩
  | .hbm, ⟨94, _⟩ => ⟨S32768x2816, .f32⟩
  | .hbm, ⟨95, _⟩ => ⟨S32768x2816, .f32⟩
  | .hbm, ⟨96, _⟩ => ⟨S32768x2816, .f32⟩
  | .hbm, ⟨97, _⟩ => ⟨S_, .f32⟩
  | .hbm, ⟨98, _⟩ => ⟨S32768x2816, .f32⟩
  | .hbm, ⟨99, _⟩ => ⟨S32768x2816, .f32⟩
  | .hbm, ⟨100, _⟩ => ⟨S_, .f32⟩
  | .hbm, ⟨101, _⟩ => ⟨S32768x2816, .f32⟩
  | .hbm, ⟨102, _⟩ => ⟨S32768x2816, .f32⟩
  | .hbm, ⟨103, _⟩ => ⟨S32768x2816, .f32⟩
  | .hbm, ⟨104, _⟩ => ⟨S32768x2816, .f32⟩
  | .hbm, ⟨105, _⟩ => ⟨S32768x2816, .f32⟩
  | .hbm, ⟨106, _⟩ => ⟨S32768x1024, .f32⟩
  | .hbm, ⟨107, _⟩ => ⟨S_, .f32⟩
  | .hbm, ⟨108, _⟩ => ⟨S32768x1024, .f32⟩
  | .hbm, ⟨109, _⟩ => ⟨S32768x1024, .f32⟩
  | .hbm, ⟨110, _⟩ => ⟨S32768x1024, .f32⟩
  | .hbm, ⟨111, _⟩ => ⟨S32768x1024, .f32⟩
  | .hbm, ⟨112, _⟩ => ⟨S_, .f32⟩
  | .hbm, ⟨113, _⟩ => ⟨S32768, .f32⟩
  | .hbm, ⟨114, _⟩ => ⟨S32768x1, .f32⟩
  | .hbm, ⟨115, _⟩ => ⟨S_, .f32⟩
  | .hbm, ⟨116, _⟩ => ⟨S32768x1, .f32⟩
  | .hbm, ⟨117, _⟩ => ⟨S32768x1, .f32⟩
  | .hbm, ⟨118, _⟩ => ⟨S_, .f32⟩
  | .hbm, ⟨119, _⟩ => ⟨S32768x1, .f32⟩
  | .hbm, ⟨120, _⟩ => ⟨S32768x1, .f32⟩
  | .hbm, ⟨121, _⟩ => ⟨S32768x1, .f32⟩
  | .hbm, ⟨122, _⟩ => ⟨S32768x1024, .f32⟩
  | .hbm, ⟨123, _⟩ => ⟨S32768x1024, .f32⟩
  | .hbm, ⟨124, _⟩ => ⟨S1x1024, .f32⟩
  | .hbm, ⟨125, _⟩ => ⟨S32768x1024, .f32⟩
  | .hbm, ⟨126, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_8 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_call0_v0 : Ref sig .tc := ⟨.hbm, 95, rfl⟩
abbrev main_call0_v1 : Ref sig .tc := ⟨.hbm, 96, rfl⟩
abbrev main_call0_cst : Ref sig .tc := ⟨.hbm, 97, rfl⟩
abbrev main_call0_v2 : Ref sig .tc := ⟨.hbm, 98, rfl⟩
abbrev main_call0_v3 : Ref sig .tc := ⟨.hbm, 99, rfl⟩
abbrev main_call0_cst_0 : Ref sig .tc := ⟨.hbm, 100, rfl⟩
abbrev main_call0_v4 : Ref sig .tc := ⟨.hbm, 101, rfl⟩
abbrev main_call0_v5 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_11 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_12 : Ref sig .tc := ⟨.hbm, 112, rfl⟩
abbrev main_v79 : Ref sig .tc := ⟨.hbm, 113, rfl⟩
abbrev main_v80 : Ref sig .tc := ⟨.hbm, 114, rfl⟩
abbrev main_cst_13 : Ref sig .tc := ⟨.hbm, 115, rfl⟩
abbrev main_v81 : Ref sig .tc := ⟨.hbm, 116, rfl⟩
abbrev main_v82 : Ref sig .tc := ⟨.hbm, 117, rfl⟩
abbrev main_cst_14 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩

abbrev nD : Nat := 1
abbrev τ : Topo := Topo.v7x

variable {F : FTy → Type} [FloatOps F]
-- ==== Proj.lean ====
abbrev S8x4096x1024 : Shape := ⟨3, ![8, 4096, 1024]⟩
abbrev S4x1024 : Shape := ⟨2, ![4, 1024]⟩
abbrev S4x1024x1280 : Shape := ⟨3, ![4, 1024, 1280]⟩
abbrev S4x1x1024 : Shape := ⟨3, ![4, 1, 1024]⟩
abbrev S1x1024x1280 : Shape := ⟨3, ![1, 1024, 1280]⟩
abbrev S1024x1280 : Shape := ⟨2, ![1024, 1280]⟩
abbrev S8x4096x512 : Shape := ⟨3, ![8, 4096, 512]⟩
abbrev S8x4096x256 : Shape := ⟨3, ![8, 4096, 256]⟩
abbrev S1x512x1024 : Shape := ⟨3, ![1, 512, 1024]⟩
abbrev S1x1x1024 : Shape := ⟨3, ![1, 1, 1024]⟩
abbrev S1x512x512 : Shape := ⟨3, ![1, 512, 512]⟩
abbrev S1x512x256 : Shape := ⟨3, ![1, 512, 256]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S512x1280 : Shape := ⟨2, ![512, 1280]⟩
abbrev S512x512 : Shape := ⟨2, ![512, 512]⟩
abbrev S512x256 : Shape := ⟨2, ![512, 256]⟩

abbrev nBuf : Space → Nat
  | .hbm => 10
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S4x1024, .f32⟩
  | .hbm, ⟨2, _⟩ => ⟨S4x1024x1280, .f32⟩
  | .hbm, ⟨3, _⟩ => ⟨S4x1x1024, .f32⟩
  | .hbm, ⟨4, _⟩ => ⟨S4x1024x1280, .bf16⟩
  | .hbm, ⟨5, _⟩ => ⟨S1x1024x1280, .bf16⟩
  | .hbm, ⟨6, _⟩ => ⟨S1024x1280, .bf16⟩
  | .hbm, ⟨7, _⟩ => ⟨S8x4096x512, .bf16⟩
  | .hbm, ⟨8, _⟩ => ⟨S8x4096x256, .bf16⟩
  | .hbm, ⟨9, _⟩ => ⟨S8x4096x512, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1024x1280, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x256, .bf16⟩
  | .local _ .vmem, ⟨7, _⟩ => ⟨S1x512x256, .bf16⟩
  | .local _ .vmem, ⟨8, _⟩ => ⟨S1x512x512, .f32⟩
  | .local _ .vmem, ⟨9, _⟩ => ⟨S1x512x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ProjRefIdeal.lean ====
abbrev S8x4096x1024 : Shape := ⟨3, ![8, 4096, 1024]⟩
abbrev S4x1024 : Shape := ⟨2, ![4, 1024]⟩
abbrev S4x1024x1280 : Shape := ⟨3, ![4, 1024, 1280]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x1280 : Shape := ⟨3, ![1, 1024, 1280]⟩
abbrev S1024x1280 : Shape := ⟨2, ![1024, 1280]⟩
abbrev S8x4096x1280 : Shape := ⟨3, ![8, 4096, 1280]⟩
abbrev S8x4096x512 : Shape := ⟨3, ![8, 4096, 512]⟩
abbrev S8x4096x256 : Shape := ⟨3, ![8, 4096, 256]⟩

abbrev nBuf : Space → Nat
  | .hbm => 32
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S4x1024, .f32⟩
  | .hbm, ⟨2, _⟩ => ⟨S4x1024x1280, .f32⟩
  | .hbm, ⟨3, _⟩ => ⟨S1x1024, .f32⟩
  | .hbm, ⟨4, _⟩ => ⟨S1024, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S1x1024x1280, .f32⟩
  | .hbm, ⟨22, _⟩ => ⟨S1024x1280, .f32⟩
  | .hbm, ⟨23, _⟩ => ⟨S8x4096x1280, .f32⟩
  | .hbm, ⟨24, _⟩ => ⟨S8x4096x512, .f32⟩
  | .hbm, ⟨25, _⟩ => ⟨S_, .f32⟩
  | .hbm, ⟨26, _⟩ => ⟨S8x4096x512, .f32⟩
  | .hbm, ⟨27, _⟩ => ⟨S8x4096x512, .f32⟩
  | .hbm, ⟨28, _⟩ => ⟨S8x4096x256, .f32⟩
  | .hbm, ⟨29, _⟩ => ⟨S8x4096x512, .f32⟩
  | .hbm, ⟨30, _⟩ => ⟨S8x4096x512, .bf16⟩
  | .hbm, ⟨31, _⟩ => ⟨S8x4096x256, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Bias.lean ====
abbrev S32x8 : Shape := ⟨2, ![32, 8]⟩
abbrev S384 : Shape := ⟨1, ![384]⟩
abbrev S1x384 : Shape := ⟨2, ![1, 384]⟩
abbrev S_ : Shape := ⟨0, ![]⟩
abbrev S128 : Shape := ⟨1, ![128]⟩
abbrev S128x1 : Shape := ⟨2, ![128, 1]⟩
abbrev S128x384 : Shape := ⟨2, ![128, 384]⟩
abbrev S8x128x384 : Shape := ⟨3, ![8, 128, 384]⟩
abbrev S1x1 : Shape := ⟨2, ![1, 1]⟩
abbrev S1x128x384 : Shape := ⟨3, ![1, 128, 384]⟩

abbrev nBuf : Space → Nat
  | .hbm => 53
  | .vmem => 3
  | .smem => 1
  | _ => 0

abbrev bufTy : (tb : Table) → Fin (tcTables nBuf tb) → BufTy
  | .hbm, ⟨0, _⟩ => ⟨S32x8, .f32⟩
  | .hbm, ⟨1, _⟩ => ⟨S384, .i32⟩
  | .hbm, ⟨2, _⟩ => ⟨S1x384, .i32⟩
  | .hbm, ⟨3, _⟩ => ⟨S_, .i32⟩
  | .hbm, ⟨4, _⟩ => ⟨S1x384, .i32⟩
  | .hbm, ⟨5, _⟩ => ⟨S1x384, .i32⟩
  | .hbm, ⟨6, _⟩ => ⟨S128, .i32⟩
  | .hbm, ⟨7, _⟩ => ⟨S128x1, .i32⟩
  | .hbm, ⟨8, _⟩ => ⟨S128x384, .i32⟩
  | .hbm, ⟨9, _⟩ => ⟨S128x384, .i32⟩
  | .hbm, ⟨10, _⟩ => ⟨S128x384, .i32⟩
  | .hbm, ⟨11, _⟩ => ⟨S_, .i32⟩
  | .hbm, ⟨12, _⟩ => ⟨S128x384, .i32⟩
  | .hbm, ⟨13, _⟩ => ⟨S128x384, .i1⟩
  | .hbm, ⟨14, _⟩ => ⟨S_, .i32⟩
  | .hbm, ⟨15, _⟩ => ⟨S_, .i32⟩
  | .hbm, ⟨16, _⟩ => ⟨S128x384, .i32⟩
  | .hbm, ⟨17, _⟩ => ⟨S128x384, .i32⟩
  | .hbm, ⟨18, _⟩ => ⟨S128x384, .i32⟩
  | .hbm, ⟨19, _⟩ => ⟨S128x384, .i32⟩
  | .hbm, ⟨20, _⟩ => ⟨S_, .i32⟩
  | .hbm, ⟨21, _⟩ => ⟨S128x384, .i32⟩
  | .hbm, ⟨22, _⟩ => ⟨S128x384, .i32⟩
  | .hbm, ⟨23, _⟩ => ⟨S128x384, .f32⟩
  | .hbm, ⟨24, _⟩ => ⟨S_, .f32⟩
  | .hbm, ⟨25, _⟩ => ⟨S128x384, .f32⟩
  | .hbm, ⟨26, _⟩ => ⟨S128x384, .f32⟩
  | .hbm, ⟨27, _⟩ => ⟨S128x384, .f32⟩
  | .hbm, ⟨28, _⟩ => ⟨S_, .f32⟩
  | .hbm, ⟨29, _⟩ => ⟨S128x384, .f32⟩
  | .hbm, ⟨30, _⟩ => ⟨S128x384, .f32⟩
  | .hbm, ⟨31, _⟩ => ⟨S_, .f32⟩
  | .hbm, ⟨32, _⟩ => ⟨S128x384, .f32⟩
  | .hbm, ⟨33, _⟩ => ⟨S128x384, .f32⟩
  | .hbm, ⟨34, _⟩ => ⟨S128x384, .i32⟩
  | .hbm, ⟨35, _⟩ => ⟨S_, .i32⟩
  | .hbm, ⟨36, _⟩ => ⟨S128x384, .i32⟩
  | .hbm, ⟨37, _⟩ => ⟨S128x384, .i32⟩
  | .hbm, ⟨38, _⟩ => ⟨S_, .i32⟩
  | .hbm, ⟨39, _⟩ => ⟨S128x384, .i32⟩
  | .hbm, ⟨40, _⟩ => ⟨S128x384, .i32⟩
  | .hbm, ⟨41, _⟩ => ⟨S_, .i32⟩
  | .hbm, ⟨42, _⟩ => ⟨S128x384, .i32⟩
  | .hbm, ⟨43, _⟩ => ⟨S128x384, .i1⟩
  | .hbm, ⟨44, _⟩ => ⟨S128x384, .i32⟩
  | .hbm, ⟨45, _⟩ => ⟨S128x384, .i32⟩
  | .hbm, ⟨46, _⟩ => ⟨S128x384, .i32⟩
  | .hbm, ⟨47, _⟩ => ⟨S128x384, .i32⟩
  | .hbm, ⟨48, _⟩ => ⟨S_, .i32⟩
  | .hbm, ⟨49, _⟩ => ⟨S128x384, .i32⟩
  | .hbm, ⟨50, _⟩ => ⟨S128x384, .i1⟩
  | .hbm, ⟨51, _⟩ => ⟨S128x384, .i32⟩
  | .hbm, ⟨52, _⟩ => ⟨S8x128x384, .f32⟩
  | .local _ .vmem, ⟨0, _⟩ => ⟨S128x384, .i32⟩
  | .local _ .vmem, ⟨1, _⟩ => ⟨S128x384, .i32⟩
  | .local _ .vmem, ⟨2, _⟩ => ⟨S8x128x384, .f32⟩
  | .local _ .smem, ⟨0, _⟩ => ⟨S32x8, .f32⟩
  | _, _ => ⟨S32x8, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_c_1 : Ref sig .tc := ⟨.hbm, 14, rfl⟩
abbrev main_c_2 : Ref sig .tc := ⟨.hbm, 15, rfl⟩
abbrev main_call0_v0 : Ref sig .tc := ⟨.hbm, 16, rfl⟩
abbrev main_call0_v1 : Ref sig .tc := ⟨.hbm, 17, rfl⟩
abbrev main_v11 : Ref sig .tc := ⟨.hbm, 18, rfl⟩
abbrev main_v12 : Ref sig .tc := ⟨.hbm, 19, rfl⟩
abbrev main_c_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_6 : Ref sig .tc := ⟨.hbm, 35, rfl⟩
abbrev main_v24 : Ref sig .tc := ⟨.hbm, 36, rfl⟩
abbrev main_v25 : Ref sig .tc := ⟨.hbm, 37, rfl⟩
abbrev main_c_7 : Ref sig .tc := ⟨.hbm, 38, rfl⟩
abbrev main_v26 : Ref sig .tc := ⟨.hbm, 39, rfl⟩
abbrev main_v27 : Ref sig .tc := ⟨.hbm, 40, rfl⟩
abbrev main_c_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_9 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x384 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x384 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== BiasIdeal.lean ====
variable {F : FTy → Type} [FloatOps F] [Named F]
def κ : String → Option EReal := fun
  | "mask" => some ⊥
  | _ => none
-- ==== BiasRefIdeal.lean ====
abbrev S32x8 : Shape := ⟨2, ![32, 8]⟩
abbrev S384 : Shape := ⟨1, ![384]⟩
abbrev S1x384 : Shape := ⟨2, ![1, 384]⟩
abbrev S_ : Shape := ⟨0, ![]⟩
abbrev S128 : Shape := ⟨1, ![128]⟩
abbrev S128x1 : Shape := ⟨2, ![128, 1]⟩
abbrev S128x384 : Shape := ⟨2, ![128, 384]⟩
abbrev S128x384x1 : Shape := ⟨3, ![128, 384, 1]⟩
abbrev S128x384x8 : Shape := ⟨3, ![128, 384, 8]⟩
abbrev S8x128x384 : Shape := ⟨3, ![8, 128, 384]⟩

abbrev nBuf : Space → Nat
  | .hbm => 76
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S384, .i32⟩
  | .hbm, ⟨2, _⟩ => ⟨S1x384, .i32⟩
  | .hbm, ⟨3, _⟩ => ⟨S_, .i32⟩
  | .hbm, ⟨4, _⟩ => ⟨S1x384, .i32⟩
  | .hbm, ⟨5, _⟩ => ⟨S1x384, .i32⟩
  | .hbm, ⟨6, _⟩ => ⟨S128, .i32⟩
  | .hbm, ⟨7, _⟩ => ⟨S128x1, .i32⟩
  | .hbm, ⟨8, _⟩ => ⟨S128x384, .i32⟩
  | .hbm, ⟨9, _⟩ => ⟨S128x384, .i32⟩
  | .hbm, ⟨10, _⟩ => ⟨S128x384, .i32⟩
  | .hbm, ⟨11, _⟩ => ⟨S_, .i32⟩
  | .hbm, ⟨12, _⟩ => ⟨S128x384, .i32⟩
  | .hbm, ⟨13, _⟩ => ⟨S128x384, .i1⟩
  | .hbm, ⟨14, _⟩ => ⟨S_, .i32⟩
  | .hbm, ⟨15, _⟩ => ⟨S_, .i32⟩
  | .hbm, ⟨16, _⟩ => ⟨S128x384, .i32⟩
  | .hbm, ⟨17, _⟩ => ⟨S128x384, .i32⟩
  | .hbm, ⟨18, _⟩ => ⟨S128x384, .i32⟩
  | .hbm, ⟨19, _⟩ => ⟨S128x384, .i32⟩
  | .hbm, ⟨20, _⟩ => ⟨S_, .i32⟩
  | .hbm, ⟨21, _⟩ => ⟨S128x384, .i32⟩
  | .hbm, ⟨22, _⟩ => ⟨S128x384, .i32⟩
  | .hbm, ⟨23, _⟩ => ⟨S128x384, .f32⟩
  | .hbm, ⟨24, _⟩ => ⟨S_, .f32⟩
  | .hbm, ⟨25, _⟩ => ⟨S128x384, .f32⟩
  | .hbm, ⟨26, _⟩ => ⟨S128x384, .f32⟩
  | .hbm, ⟨27, _⟩ => ⟨S128x384, .f32⟩
  | .hbm, ⟨28, _⟩ => ⟨S_, .f32⟩
  | .hbm, ⟨29, _⟩ => ⟨S128x384, .f32⟩
  | .hbm, ⟨30, _⟩ => ⟨S128x384, .f32⟩
  | .hbm, ⟨31, _⟩ => ⟨S_, .f32⟩
  | .hbm, ⟨32, _⟩ => ⟨S128x384, .f32⟩
  | .hbm, ⟨33, _⟩ => ⟨S128x384, .f32⟩
  | .hbm, ⟨34, _⟩ => ⟨S128x384, .i32⟩
  | .hbm, ⟨35, _⟩ => ⟨S_, .i32⟩
  | .hbm, ⟨36, _⟩ => ⟨S128x384, .i32⟩
  | .hbm, ⟨37, _⟩ => ⟨S128x384, .i32⟩
  | .hbm, ⟨38, _⟩ => ⟨S_, .i32⟩
  | .hbm, ⟨39, _⟩ => ⟨S128x384, .i32⟩
  | .hbm, ⟨40, _⟩ => ⟨S128x384, .i32⟩
  | .hbm, ⟨41, _⟩ => ⟨S_, .i32⟩
  | .hbm, ⟨42, _⟩ => ⟨S128x384, .i32⟩
  | .hbm, ⟨43, _⟩ => ⟨S128x384, .i1⟩
  | .hbm, ⟨44, _⟩ => ⟨S128x384, .i32⟩
  | .hbm, ⟨45, _⟩ => ⟨S128x384, .i32⟩
  | .hbm, ⟨46, _⟩ => ⟨S128x384, .i32⟩
  | .hbm, ⟨47, _⟩ => ⟨S_, .i32⟩
  | .hbm, ⟨48, _⟩ => ⟨S128x384, .i32⟩
  | .hbm, ⟨49, _⟩ => ⟨S128x384, .i1⟩
  | .hbm, ⟨50, _⟩ => ⟨S_, .i32⟩
  | .hbm, ⟨51, _⟩ => ⟨S128x384, .i32⟩
  | .hbm, ⟨52, _⟩ => ⟨S128x384, .i32⟩
  | .hbm, ⟨53, _⟩ => ⟨S128x384, .i32⟩
  | .hbm, ⟨54, _⟩ => ⟨S128x384x1, .i32⟩
  | .hbm, ⟨55, _⟩ => ⟨S128x384x8, .f32⟩
  | .hbm, ⟨56, _⟩ => ⟨S8x128x384, .f32⟩
  | .hbm, ⟨57, _⟩ => ⟨S128, .i32⟩
  | .hbm, ⟨58, _⟩ => ⟨S128x1, .i32⟩
  | .hbm, ⟨59, _⟩ => ⟨S384, .i32⟩
  | .hbm, ⟨60, _⟩ => ⟨S1x384, .i32⟩
  | .hbm, ⟨61, _⟩ => ⟨S_, .i32⟩
  | .hbm, ⟨62, _⟩ => ⟨S1x384, .i32⟩
  | .hbm, ⟨63, _⟩ => ⟨S1x384, .i32⟩
  | .hbm, ⟨64, _⟩ => ⟨S128x384, .i32⟩
  | .hbm, ⟨65, _⟩ => ⟨S128x384, .i32⟩
  | .hbm, ⟨66, _⟩ => ⟨S128x384, .i32⟩
  | .hbm, ⟨67, _⟩ => ⟨S128x384, .i32⟩
  | .hbm, ⟨68, _⟩ => ⟨S_, .i32⟩
  | .hbm, ⟨69, _⟩ => ⟨S128x384, .i32⟩
  | .hbm, ⟨70, _⟩ => ⟨S128x384, .i1⟩
  | .hbm, ⟨71, _⟩ => ⟨S_, .f32⟩
  | .hbm, ⟨72, _⟩ => ⟨S_, .f32⟩
  | .hbm, ⟨73, _⟩ => ⟨S8x128x384, .i1⟩
  | .hbm, ⟨74, _⟩ => ⟨S8x128x384, .f32⟩
  | .hbm, ⟨75, _⟩ => ⟨S8x128x384, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_c_1 : Ref sig .tc := ⟨.hbm, 14, rfl⟩
abbrev main_c_2 : Ref sig .tc := ⟨.hbm, 15, rfl⟩
abbrev main_call0_v0 : Ref sig .tc := ⟨.hbm, 16, rfl⟩
abbrev main_call0_v1 : Ref sig .tc := ⟨.hbm, 17, rfl⟩
abbrev main_v11 : Ref sig .tc := ⟨.hbm, 18, rfl⟩
abbrev main_v12 : Ref sig .tc := ⟨.hbm, 19, rfl⟩
abbrev main_c_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_6 : Ref sig .tc := ⟨.hbm, 35, rfl⟩
abbrev main_v24 : Ref sig .tc := ⟨.hbm, 36, rfl⟩
abbrev main_v25 : Ref sig .tc := ⟨.hbm, 37, rfl⟩
abbrev main_c_7 : Ref sig .tc := ⟨.hbm, 38, rfl⟩
abbrev main_v26 : Ref sig .tc := ⟨.hbm, 39, rfl⟩
abbrev main_v27 : Ref sig .tc := ⟨.hbm, 40, rfl⟩
abbrev main_c_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_9 : Ref sig .tc := ⟨.hbm, 47, rfl⟩
abbrev main_v33 : Ref sig .tc := ⟨.hbm, 48, rfl⟩
abbrev main_v34 : Ref sig .tc := ⟨.hbm, 49, rfl⟩
abbrev main_c_10 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_11 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_c_12 : Ref sig .tc := ⟨.hbm, 68, rfl⟩
abbrev main_v51 : Ref sig .tc := ⟨.hbm, 69, rfl⟩
abbrev main_v52 : Ref sig .tc := ⟨.hbm, 70, rfl⟩
abbrev main_cst_13 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_v53 : Ref sig .tc := ⟨.hbm, 75, rfl⟩

abbrev nD : Nat := 1
abbrev τ : Topo := Topo.v7x

variable {F : FTy → Type} [FloatOps F]
-- ==== Proof.AttnTiles.lean ====
/- The attention kernel's block of eight query blocks, as plain functions of vectors: the scores of one query block and one
   key-value head, the weighted values of a pair of heads, and what is stored for a query block. -/
module

public import proofs.«01_k».proof.Proof.Gen.KernelIdeal.Value
public import Idealize.ShloMosaic.Lib.Claim
public import Idealize.ShloMosaic.Lib.Pointwise
public import Idealize.ShloMosaic.Lib.Pipeline.ReadBack

@[expose] public section
set_option maxRecDepth 16384
noncomputable section
namespace Cert.AttnTiles
open Cert.KernelIdeal Cert.KernelIdeal.Gen Idealize.ShloMosaic Idealize.ShloMosaic.TcCoe
open scoped BigOperators

/-- 384 consecutive rows of a stack of 1280, from row `r`. -/
def win {n : ℕ} (X : (⟨3, ![1, 1280, n]⟩ : Shape).Idx → EReal) (r : ℕ) (hr : r + 384 ≤ 1280) :
    (⟨3, ![1, 384, n]⟩ : Shape).Idx → EReal :=
  fun y => X (ix3 (0 : Fin 1) (⟨r + (y 1).val, by have : (y 1).val < 384 := (y 1).isLt; omega⟩ : Fin 1280) (y 2))

/-- A window of one slot of a two-slot scratch reads the stack stored there last. -/
theorem read_slot {sig : RefSig} {κ : Kind} {sp : Space} {n : ℕ} (v : View sig κ sp (⟨3, ![2, 1280, n]⟩ : Shape) .bf16) (k : ℕ)
    (b : FVec Ideal (⟨3, ![1, 1280, n]⟩ : Shape) .bf16) (r : ℕ) (hr : r + 384 ≤ 1280)
    (L : List (View.Piece (Elt Ideal) (⟨3, ![2, 1280, n]⟩ : Shape) .bf16))
    (ib : ∀ x, (![k, 0, 0] : Fin 3 → ℕ) x + (![1, 1280, n] : Fin 3 → ℕ) x ≤ (⟨3, ![2, 1280, n]⟩ : Shape).size x)
    (iw : ∀ x, (![k, r, 0] : Fin 3 → ℕ) x + (![1, 384, n] : Fin 3 → ℕ) x ≤ (⟨3, ![2, 1280, n]⟩ : Shape).size x) :
    v.readCov (⟨Rect.unit (s := (⟨3, ![2, 1280, n]⟩ : Shape)) ![k, 0, 0] ![1, 1280, n] ib, b⟩ :: L)
      (Rect.unit (s := (⟨3, ![2, 1280, n]⟩ : Shape)) ![k, r, 0] ![1, 384, n] iw).toLoadRect = win b r hr := by
  rw [View.readCov_eq_canon']
  funext y
  have hy : (y 1).val < 384 := (y 1).isLt
  have e : (Rect.unit (s := (⟨3, ![2, 1280, n]⟩ : Shape)) ![k, r, 0] ![1, 384, n] iw).toLoadRect.idx y
      = (Rect.unit (s := (⟨3, ![2, 1280, n]⟩ : Shape)) ![k, 0, 0] ![1, 1280, n] ib).emb
          (ix3 (0 : Fin 1) (⟨r + (y 1).val, by omega⟩ : Fin 1280) (y 2)) := by
    funext x
    match x with
    | ⟨0, _⟩ => refine Fin.ext ?_; show k + 1 * (y 0).val = k + 1 * 0; have : (y 0).val < 1 := (y 0).isLt; omega
    | ⟨1, _⟩ => refine Fin.ext ?_; show r + 1 * (y 1).val = 0 + 1 * (r + (y 1).val); omega
    | ⟨2, _⟩ => rfl
  rw [e]
  exact View.canon_cons_emb (Val := Elt Ideal) (e := .bf16) (Rect.unit (s := (⟨3, ![2, 1280, n]⟩ : Shape)) ![k, 0, 0] ![1, 1280, n] ib) b _ _

/-- The lanes of the first head of a pair, as zeros and ones. -/
def lo : FVec Ideal S1x128 .bf16 :=
  truncf .bf16 (sitofp .f32 (extui 32 (cmpi .slt (iota .tc S1x128 32 (List.cons (α := Fin 2) (1 : Fin S1x128.rank) []) iota_S1x128_d1_w32) (broadcast S1x128 64#32)) natLt_1_32)
    : FVec Ideal S1x128 .f32) bitsLt_bf16_f32

/-- The lanes of the second head of a pair, as zeros and ones. -/
def hi : FVec Ideal S1x128 .bf16 :=
  truncf .bf16 (sitofp .f32 (extui 32 (cmpi .sge (iota .tc S1x128 32 (List.cons (α := Fin 2) (1 : Fin S1x128.rank) []) iota_S1x128_d1_w32) (broadcast S1x128 64#32)) natLt_1_32)
    : FVec Ideal S1x128 .f32) bitsLt_bf16_f32

/-- The three key-value blocks, stacked. -/
def stack (a : FVec Ideal S1x128x256 .bf16) (b : FVec Ideal S1x1024x256 .bf16) (c : FVec Ideal S1x128x256 .bf16) :
    FVec Ideal S1280x256 .bf16 :=
  concatenate S1280x256 0 [⟨S128x256, shapeCast S128x256 a shapeCasts_S1x128x256_S128x256⟩,
    ⟨S1024x256, shapeCast S1024x256 b shapeCasts_S1x1024x256_S1024x256⟩,
    ⟨S128x256, shapeCast S128x256 c shapeCasts_S1x128x256_S128x256⟩] concatenates_S128x256_S1024x256_S128x256_S1280x256_d0

/-- The keys of the stack. -/
def ks (x : FVec Ideal S1280x256 .bf16) : FVec Ideal S1280x128 .bf16 :=
  extractStridedSlice S1280x128 ![0, 0] x slices_S1280x256_o0_0_S1280x128

/-- The values of the stack. -/
def vs (x : FVec Ideal S1280x256 .bf16) : FVec Ideal S1280x128 .bf16 :=
  extractStridedSlice S1280x128 ![0, 128] x slices_S1280x256_o0_128_S1280x128

/-- The two key-value heads exchanged. -/
def swap (x : FVec Ideal S1280x128 .bf16) : FVec Ideal S1280x128 .bf16 :=
  concatenate S1280x128 1 [⟨S1280x64, extractStridedSlice S1280x64 ![0, 64] x slices_S1280x128_o0_64_S1280x64⟩,
    ⟨S1280x64, extractStridedSlice S1280x64 ![0, 0] x slices_S1280x128_o0_0_S1280x64⟩] concatenates_S1280x64_S1280x64_S1280x128_d1

/-- One array in the lanes `l` and another in the lanes `h`. -/
def join (l h : FVec Ideal S1x128 .bf16) (x y : FVec Ideal S1280x128 .bf16) : FVec Ideal S1x1280x128 .bf16 :=
  shapeCast S1x1280x128 (addf (mulf x (broadcastTo S1280x128 l broadcasts_S1x128_S1280x128))
    (mulf y (broadcastTo S1280x128 h broadcasts_S1x128_S1280x128))) shapeCasts_S1280x128_S1x1280x128

/-- Values in the lanes `l` only, beside the ones of these lanes. -/
def beside (l : FVec Ideal S1x128 .bf16) (x : FVec Ideal S1280x128 .bf16) : FVec Ideal S1x1280x256 .bf16 :=
  shapeCast S1x1280x256 (concatenate S1280x256 1 [⟨S1280x128, mulf x (broadcastTo S1280x128 l broadcasts_S1x128_S1280x128)⟩,
    ⟨S1280x128, broadcastTo S1280x128 (shapeCast S1x128 l shapeCasts_S1x128_S1x128) broadcasts_S1x128_S1280x128⟩]
    concatenates_S1280x128_S1280x128_S1280x256_d1) shapeCasts_S1280x256_S1x1280x256

/-- The mask of the row's first block: minus infinity before the row's first key, where the grid point is the first. -/
def first (w : BitVec 32) : FVec Ideal S1x384 .f32 :=
  select (cmpi .slt (iota .tc S1x384 32 (List.cons (α := Fin 2) (1 : Fin S1x384.rank) []) iota_S1x384_d1_w32) (broadcast S1x384 128#32))
    (broadcast S1x384 (Scalar.select (Scalar.cmpi .eq w 0#32) (Named.named (F := Ideal) (φ := .f32) κ "mask" 0xF149F2CA#32)
      (FloatOps.ofBits .f32 0x00000000#32)))
    (broadcast S1x384 (FloatOps.ofBits .f32 0x00000000#32))

/-- The mask of the row's last block: minus infinity past the row's last key, where the grid point is the last. -/
def last (w : BitVec 32) : FVec Ideal S1x384 .f32 :=
  select (cmpi .sge (iota .tc S1x384 32 (List.cons (α := Fin 2) (1 : Fin S1x384.rank) []) iota_S1x384_d1_w32) (broadcast S1x384 256#32))
    (broadcast S1x384 (Scalar.select (Scalar.cmpi .eq w 3#32) (Named.named (F := Ideal) (φ := .f32) κ "mask" 0xF149F2CA#32)
      (FloatOps.ofBits .f32 0x00000000#32)))
    (broadcast S1x384 (FloatOps.ofBits .f32 0x00000000#32))

/-- 128 rows of a pair of heads' queries, in the lanes `l` only. -/
def masked (q : FVec Ideal S1x128x128 .bf16) (l : FVec Ideal S1x128 .bf16) : FVec Ideal S128x128 .bf16 :=
  mulf (shapeCast S128x128 q shapeCasts_S1x128x128_S128x128) (broadcastTo S128x128 l broadcasts_S1x128_S128x128)

/-- The scores of four heads, stacked: the first heads of the two pairs, then the second heads; with the bias. -/
def raw (q0 q1 q2 q3 : FVec Ideal S128x128 .bf16) (k : FVec Ideal S1x384x128 .bf16) (b : FVec Ideal S1x512x384 .f32) : FVec Ideal S512x384 .f32 :=
  addf (matmul dot_S512x128_S384x128_S512x384_1_1_0_0_n_n none
    (concatenate S512x128 0 [⟨S128x128, q0⟩, ⟨S128x128, q1⟩, ⟨S128x128, q2⟩, ⟨S128x128, q3⟩]
      concatenates_S128x128_S128x128_S128x128_S128x128_S512x128_d0)
    (shapeCast S384x128 k shapeCasts_S1x384x128_S384x128) (constant S512x384 .f32 0x00000000#32))
    (shapeCast S512x384 b shapeCasts_S1x512x384_S512x384)

/-- Scores with an edge's mask added. -/
def edged (s : FVec Ideal S512x384 .f32) (e : FVec Ideal S1x384 .f32) : FVec Ideal S512x384 .f32 :=
  addf s (broadcastTo S512x384 e broadcasts_S1x384_S512x384)

/-- Scores as they are stored and read back. -/
def stash (s : FVec Ideal S512x384 .f32) : FVec Ideal S512x384 .f32 :=
  shapeCast S512x384 (shapeCast S1x512x384 s shapeCasts_S512x384_S1x512x384) shapeCasts_S1x512x384_S512x384

/-- The greatest score of each row within each residue of the columns modulo 128. -/
def rowMax (s : FVec Ideal S512x384 .f32) : FVec Ideal S512x128 .f32 :=
  maximumf (maximumf (extractStridedSlice S512x128 ![0, 0] s slices_S512x384_o0_0_S512x128)
    (extractStridedSlice S512x128 ![0, 128] s slices_S512x384_o0_128_S512x128))
    (extractStridedSlice S512x128 ![0, 256] s slices_S512x384_o0_256_S512x128)

/-- The greatest entry of each row. -/
def greatest (x : FVec Ideal S128x128 .f32) : FVec Ideal S128 .f32 :=
  multiReduction .maximumf [1] S128 x 0xFF800000#32 reduces_S128x128_S128 (.inl rfl) rfl

/-- The sum of each row. -/
def total (x : FVec Ideal S128x512 .f32) : FVec Ideal S128 .f32 :=
  multiReduction .add [1] S128 x 0x00000000#32 reduces_S128x512_S128 (.inl rfl) rfl

/-- The greatest score of each of the rows from `o`, or the sink, whichever is greater. -/
def top (s : FVec Ideal S512x384 .f32) (o : ℕ) (h : S512x128.Slices ![o, 0] S128x128) (k : EReal) : FVec Ideal S128x1 .f32 :=
  maximumf (shapeCast S128x1 (greatest (extractStridedSlice S128x128 ![o, 0] (rowMax s) h)) shapeCasts_S128_S128x1) (broadcast S128x1 k)

/-- The unnormalised weights of the rows from `o`, whose greatest scores are `t`. -/
def weights (s : FVec Ideal S512x384 .f32) (o : ℕ) (h : S512x384.Slices ![o, 0] S128x384) (t : FVec Ideal S128x1 .f32) : FVec Ideal S128x384 .bf16 :=
  truncf .bf16 (exp (subf (extractStridedSlice S128x384 ![o, 0] s h) (broadcastTo S128x384 t broadcasts_S128x1_S128x384)))
    bitsLt_bf16_f32

/-- The sink's weight in rows whose greatest scores are `t`. -/
def sinkWeight (t : FVec Ideal S128x1 .f32) (k : EReal) : FVec Ideal S128x1 .f32 :=
  exp (subf (broadcast S128x1 k) t)

/-- The weighted values of a pair of heads and, beside them, the sums of their weights. -/
def mix (p p' : FVec Ideal S128x384 .bf16) (ve vo : FVec Ideal S1x384x256 .bf16) : FVec Ideal S128x256 .f32 :=
  addf (matmul dot_S128x384_S384x256_S128x256_1_0_0_1_n_n none p (shapeCast S384x256 ve shapeCasts_S1x384x256_S384x256)
      (constant S128x256 .f32 0x00000000#32))
    (matmul dot_S128x384_S384x256_S128x256_1_0_0_1_n_n none p' (shapeCast S384x256 vo shapeCasts_S1x384x256_S384x256)
      (constant S128x256 .f32 0x00000000#32))

/-- Which lanes are the first head's. -/
def isLo : IVec S1x128 1 := cmpi .slt (iota .tc S1x128 32 (List.cons (α := Fin 2) (1 : Fin S1x128.rank) []) iota_S1x128_d1_w32) (broadcast S1x128 64#32)

/-- Weighted values over the sums of the weights and the sinks' weights. -/
def quot (c : IVec S1x128 1) (nd : FVec Ideal S128x256 .f32) (t t' : FVec Ideal S128x1 .f32) : FVec Ideal S128x128 .f32 :=
  divf (extractStridedSlice S128x128 ![0, 0] nd slices_S128x256_o0_0_S128x128)
    (addf (extractStridedSlice S128x128 ![0, 128] nd slices_S128x256_o0_128_S128x128)
      (select (broadcastTo S128x128 (shapeCast S1x128 c
          shapeCasts_S1x128_S1x128) broadcasts_S1x128_S128x128)
        (broadcastTo S128x128 (shapeCast S128x1 t shapeCasts_S128x1_S128x1) broadcasts_S128x1_S128x128)
        (broadcastTo S128x128 (shapeCast S128x1 t' shapeCasts_S128x1_S128x1) broadcasts_S128x1_S128x128)))

/-- Four pairs side by side. -/
def row (p0 p1 p2 p3 : FVec Ideal S128x128 .f32) : FVec Ideal S128x512 .f32 :=
  concatenate S128x512 1 [⟨S128x128, p0⟩, ⟨S128x128, p1⟩, ⟨S128x128, p2⟩, ⟨S128x128, p3⟩]
    concatenates_S128x128_S128x128_S128x128_S128x128_S128x512_d1

/-- Rows, root-mean-square normalised. -/
def finish (o : FVec Ideal S128x512 .f32) (g : FVec Ideal S1x1x512 .f32) : FVec Ideal S1x128x512 .bf16 :=
  shapeCast S1x128x512 (truncf .bf16 (mulf (mulf o (broadcastTo S128x512 (rsqrt (addf
    (divf (shapeCast S128x1 (total (mulf o o)) shapeCasts_S128_S128x1) (broadcast S128x1 (FloatOps.ofBits .f32 0x44000000#32)))
    (broadcast S128x1 (FloatOps.ofBits .f32 0x358637BD#32)))) broadcasts_S128x1_S128x512))
    (broadcastTo S128x512 (shapeCast S1x512 g shapeCasts_S1x1x512_S1x512) broadcasts_S1x512_S128x512)) bitsLt_bf16_f32)
    shapeCasts_S128x512_S1x128x512

/-- The block's input blocks: the sinks, the queries, the three stacked key-value blocks, the bias and the norm's weights. -/
structure Args where
  x0 : FVec Ideal S4x8 .f32
  x1 : FVec Ideal S1x1024x512 .bf16
  x2 : FVec Ideal S1x128x256 .bf16
  x3 : FVec Ideal S1x1024x256 .bf16
  x4 : FVec Ideal S1x128x256 .bf16
  x5 : FVec Ideal S2x512x384 .f32
  x6 : FVec Ideal S1x1x512 .f32

/-- The keys of a key-value head, in both halves of the lanes. -/
def Args.keys (A : Args) : Fin 2 → FVec Ideal S1x1280x128 .bf16
  | 0 => join lo hi (ks (stack A.x2 A.x3 A.x4)) (swap (ks (stack A.x2 A.x3 A.x4)))
  | 1 => join lo hi (swap (ks (stack A.x2 A.x3 A.x4))) (ks (stack A.x2 A.x3 A.x4))

/-- The values of a key-value head in the first half of the lanes, beside the ones of these lanes. -/
def Args.evens (A : Args) : Fin 2 → FVec Ideal S1x1280x256 .bf16
  | 0 => beside lo (vs (stack A.x2 A.x3 A.x4))
  | 1 => beside lo (swap (vs (stack A.x2 A.x3 A.x4)))

/-- The values of a key-value head in the second half of the lanes, beside the ones of these lanes. -/
def Args.odds (A : Args) : Fin 2 → FVec Ideal S1x1280x256 .bf16
  | 0 => beside hi (swap (vs (stack A.x2 A.x3 A.x4)))
  | 1 => beside hi (vs (stack A.x2 A.x3 A.x4))

/-- 128 query rows of a pair of heads. -/
def Args.query (A : Args) (jb : Fin 8) (kh pr : Fin 2) : FVec Ideal S1x128x128 .bf16 :=
  View.ld (Val := Elt Ideal) (e' := .bf16) A.x1 (Rect.unit (s := S1x1024x512) ![0, 128 * jb.val, 256 * kh.val + 128 * pr.val] ![1, 128, 128] (by
    intro a; have := jb.isLt; have := kh.isLt; have := pr.isLt
    match a with
    | ⟨0, _⟩ => exact Nat.le_refl _
    | ⟨1, _⟩ => show 128 * jb.val + 128 ≤ 1024; omega
    | ⟨2, _⟩ => show 256 * kh.val + 128 * pr.val + 128 ≤ 512; omega))

/-- The bias of a key-value head's four heads. -/
def Args.bias (A : Args) (kh : Fin 2) : FVec Ideal S1x512x384 .f32 :=
  View.ld (Val := Elt Ideal) (e' := .f32) A.x5 (Rect.unit (s := S2x512x384) ![kh.val, 0, 0] ![1, 512, 384] (by
    intro a; have := kh.isLt
    match a with
    | ⟨0, _⟩ => show kh.val + 1 ≤ 2; omega
    | ⟨1, _⟩ => exact Nat.le_refl _
    | ⟨2, _⟩ => exact Nat.le_refl _))

/-- A window of a stack, at query block `jb`. -/
def at_ {n : ℕ} (X : FVec Ideal (⟨3, ![1, 1280, n]⟩ : Shape) .bf16) (jb : Fin 8) : FVec Ideal (⟨3, ![1, 384, n]⟩ : Shape) .bf16 :=
  win X (128 * jb.val) (by have := jb.isLt; omega)

/-- The scores of query block `jb` and key-value head `kh`, before the edges' masks. -/
def Args.raws (A : Args) (jb : Fin 8) (kh : Fin 2) : FVec Ideal S512x384 .f32 :=
  raw (masked (A.query jb kh 0) lo) (masked (A.query jb kh 1) lo) (masked (A.query jb kh 0) hi) (masked (A.query jb kh 1) hi)
    (at_ (A.keys kh) jb) (A.bias kh)

/-- The scores of query block `jb` and key-value head `kh`; the first and the last block of the row add their edge's mask. -/
def Args.scores (A : Args) (w : BitVec 32) (jb : Fin 8) (kh : Fin 2) : FVec Ideal S512x384 .f32 :=
  stash (if jb = 0 then edged (A.raws jb kh) (first w) else if jb = 7 then edged (A.raws jb kh) (last w) else A.raws jb kh)

/-- The scores of the first block carry the first edge mask. -/
theorem Args.scores_first (A : Args) (w : BitVec 32) (kh : Fin 2) : A.scores w 0 kh = stash (edged (A.raws 0 kh) (first w)) := by
  unfold Args.scores; rw [if_pos rfl]

/-- The scores of the last block carry the last edge mask. -/
theorem Args.scores_last (A : Args) (w : BitVec 32) (kh : Fin 2) : A.scores w 7 kh = stash (edged (A.raws 7 kh) (last w)) := by
  unfold Args.scores; rw [if_neg (by decide), if_pos rfl]

/-- The scores of a block between carry no edge mask. -/
theorem Args.scores_mid (A : Args) (w : BitVec 32) (jb : Fin 8) (kh : Fin 2) (h : jb ≠ 0) (h' : jb ≠ 7) :
    A.scores w jb kh = stash (A.raws jb kh) := by
  unfold Args.scores; rw [if_neg h, if_neg h']

/-- The sink of head `4·kh + h`. -/
def Args.sink (A : Args) (kh : Fin 2) (h : Fin 4) : EReal :=
  View.ld (Val := Elt Ideal) (e' := .f32) A.x0 (Rect.unit (s := S4x8) ![0, 4 * kh.val + h.val] ![1, 1] (by
    intro a; have := kh.isLt; have := h.isLt
    match a with
    | ⟨0, _⟩ => show 0 + 1 ≤ 4; omega
    | ⟨1, _⟩ => show 4 * kh.val + h.val + 1 ≤ 8; omega)) (Shape.Idx.first (by show 0 < Shape.numel (⟨2, ![1, 1]⟩ : Shape); decide))

/-- The greatest scores of head `2·half + pr` of key-value head `kh`. -/
def Args.tops (A : Args) (w : BitVec 32) (jb : Fin 8) (kh pr half : Fin 2) : FVec Ideal S128x1 .f32 :=
  top (A.scores w jb kh) (256 * half.val + 128 * pr.val) (by fin_cases pr <;> fin_cases half <;> decide)
    (A.sink kh ⟨2 * pr.val + half.val, by omega⟩)

/-- The weights of that head. -/
def Args.wts (A : Args) (w : BitVec 32) (jb : Fin 8) (kh pr half : Fin 2) : FVec Ideal S128x384 .bf16 :=
  weights (A.scores w jb kh) (256 * half.val + 128 * pr.val) (by fin_cases pr <;> fin_cases half <;> decide) (A.tops w jb kh pr half)

/-- Pair `pr` of key-value head `kh` in query block `jb`. -/
def Args.pair (A : Args) (w : BitVec 32) (jb : Fin 8) (kh pr : Fin 2) : FVec Ideal S128x128 .f32 :=
  quot isLo (mix (A.wts w jb kh pr 0) (A.wts w jb kh pr 1) (at_ (A.evens kh) jb) (at_ (A.odds kh) jb))
    (sinkWeight (A.tops w jb kh pr 0) (A.sink kh ⟨2 * pr.val, by omega⟩))
    (sinkWeight (A.tops w jb kh pr 1) (A.sink kh ⟨2 * pr.val + 1, by omega⟩))

/-- What is stored for query block `jb`. -/
def Args.block (A : Args) (w : BitVec 32) (jb : Fin 8) : FVec Ideal S1x128x512 .bf16 :=
  finish (row (A.pair w jb 0 0) (A.pair w jb 0 1) (A.pair w jb 1 0) (A.pair w jb 1 1)) A.x6

/-- What the eight query blocks store, last first. -/
def Args.stored (A : Args) (w : BitVec 32) : List (View.Piece (Elt Ideal) S1x1024x512 .bf16) :=
  [⟨Rect.unit (s := S1x1024x512) ![0, 896, 0] ![1, 128, 512] (by decide), A.block w 7⟩, ⟨Rect.unit (s := S1x1024x512) ![0, 768, 0] ![1, 128, 512] (by decide), A.block w 6⟩, ⟨Rect.unit (s := S1x1024x512) ![0, 640, 0] ![1, 128, 512] (by decide), A.block w 5⟩, ⟨Rect.unit (s := S1x1024x512) ![0, 512, 0] ![1, 128, 512] (by decide), A.block w 4⟩, ⟨Rect.unit (s := S1x1024x512) ![0, 384, 0] ![1, 128, 512] (by decide), A.block w 3⟩, ⟨Rect.unit (s := S1x1024x512) ![0, 256, 0] ![1, 128, 512] (by decide), A.block w 2⟩, ⟨Rect.unit (s := S1x1024x512) ![0, 128, 0] ![1, 128, 512] (by decide), A.block w 1⟩, ⟨Rect.unit (s := S1x1024x512) ![0, 0, 0] ![1, 128, 512] (by decide), A.block w 0⟩]

end Cert.AttnTiles
end
-- ==== Proof.AttnBlock.lean ====
/- What one grid point of the attention kernel leaves in its output block: the eight stored tiles of `AttnTiles.Args.stored`. -/
module

public import proofs.«01_k».proof.Proof.Gen.KernelIdeal.Value
public import proofs.«01_k».proof.Proof.AttnTiles
public import Idealize.ShloMosaic.Lib.Claim
public import Idealize.ShloMosaic.Lib.StableHlo.ReadAt
@[expose] public section
set_option maxRecDepth 16384
noncomputable section
namespace Cert.AttnValue
open Cert.KernelIdeal Cert.KernelIdeal.Gen Idealize.ShloMosaic Idealize.ShloMosaic.TcCoe Idealize.SL.Sem

/-- Two lists of stored tiles with the same places agree if their contents do. -/
theorem piece {s : Shape} {e : EltTy} {r : Rect s} {v v' : r.shape.Idx → Elt Ideal e} {l l' : List (View.Piece (Elt Ideal) s e)} (h : v = v')
    (h' : l = l') : ((⟨r, v⟩ : View.Piece (Elt Ideal) s e) :: l) = ⟨r, v'⟩ :: l' := by rw [h, h']

/-- The maximum over the columns is `AttnTiles.greatest`. -/
theorem fold_red (x : FVec Ideal S128x128 .f32) (h1) (h2 : FTy.f32 = .f32 ∨ FTy.f32 = .bf16) (h3 : (0xFF800000#32 : BitVec FTy.f32.bits) = 0xFF800000#32) :
    multiReduction .maximumf (List.cons (α := Fin 2) (1 : Fin S128x128.rank) []) S128 x 0xFF800000#32 h1 h2 h3 = AttnTiles.greatest x := rfl

/-- The sum over the columns is `AttnTiles.total`. -/
theorem fold_sum (x : FVec Ideal S128x512 .f32) (h1) (h2 : FTy.f32 = .f32 ∨ FTy.f32 = .bf16) (h3 : (0x00000000#32 : BitVec FTy.f32.bits) = 0x00000000#32) :
    multiReduction .add (List.cons (α := Fin 2) (1 : Fin S128x512.rank) []) S128 x 0x00000000#32 h1 h2 h3 = AttnTiles.total x := rfl

set_option maxHeartbeats 2000000 in
/-- The output block after a grid point, from its seven input blocks. -/
theorem out7 (c : Dev nD) (i : grid0.Coords) (arg2 : Memref sig .tc .smem S4x8 .f32) (harg2 : arg2.IsWhole) (arg3 : Memref sig .tc .vmem S1x1024x512 .bf16) (harg3 : arg3.IsWhole) (arg4 : Memref sig .tc .vmem S1x128x256 .bf16) (harg4 : arg4.IsWhole) (arg5 : Memref sig .tc .vmem S1x1024x256 .bf16) (harg5 : arg5.IsWhole) (arg6 : Memref sig .tc .vmem S1x128x256 .bf16) (harg6 : arg6.IsWhole) (arg7 : Memref sig .tc .vmem S2x512x384 .f32) (harg7 : arg7.IsWhole) (arg8 : Memref sig .tc .vmem S1x1x512 .f32) (harg8 : arg8.IsWhole) (arg9 : Memref sig .tc .vmem S1x1024x512 .bf16) (harg9 : arg9.IsWhole) (arg10 : Memref sig .tc .vmem S2x1280x128 .bf16) (harg10 : arg10.IsWhole) (arg11 : Memref sig .tc .vmem S2x1280x256 .bf16) (harg11 : arg11.IsWhole) (arg12 : Memref sig .tc .vmem S2x1280x256 .bf16) (harg12 : arg12.IsWhole) (arg13 : Memref sig .tc .vmem S2x512x384 .f32) (harg13 : arg13.IsWhole)
    (x0 : Vec Ideal S4x8 .f32) (x1 : Vec Ideal S1x1024x512 .bf16) (x2 : Vec Ideal S1x128x256 .bf16) (x3 : Vec Ideal S1x1024x256 .bf16) (x4 : Vec Ideal S1x128x256 .bf16) (x5 : Vec Ideal S2x512x384 .f32) (x6 : Vec Ideal S1x1x512 .f32) :
   out0_A_7 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 = View.canon (Val := Elt Ideal) (e := .bf16) (s := S1x1024x512)
    (AttnTiles.Args.stored ⟨x0, x1, x2, x3, x4, x5, x6⟩ (BitVec.ofNat 32 (i 1).val)) := by
  unfold out0_A_7
  rw [View.read_writes_eq_canon _ _ _ (cover0_A_7 c _ _ _ _ _ _ _ _ _ _ _ _ _ _ _ _ _ _ _ _ _ _ _ _ _ _ _ _ _ _ _ _ )]
  unfold kernelRun0_A
  dsimp only
  sl_unfold_words
  simp (disch := decide) only [↓ View.readCov_skip, ↓ View.readCov_cons_toLoadRect, ↓ AttnTiles.read_slot, StableHlo.readPieces]
  simp only [View.readAt_eq_ld, harg2.read_unread, harg3.read_unread, harg4.read_unread, harg5.read_unread, harg6.read_unread, harg7.read_unread, harg8.read_unread, StableHlo.readPieces]
  simp only [k0_pay1, k0_pay13, k0_pay14, k0_pay15, k0_pay16, k0_pay17, k0_pay18, k0_pay19, k0_pay20, StableHlo.readPieces]
  simp only [← AttnTiles.stack.eq_1, ← AttnTiles.ks.eq_1, ← AttnTiles.vs.eq_1, ← AttnTiles.swap.eq_1, ← AttnTiles.join.eq_1, ← AttnTiles.beside.eq_1, ← AttnTiles.lo.eq_1, ← AttnTiles.hi.eq_1, ← AttnTiles.first.eq_1, ← AttnTiles.last.eq_1, ← AttnTiles.masked.eq_1, ← AttnTiles.raw.eq_1, ← AttnTiles.edged.eq_1, ← AttnTiles.stash.eq_1, ← AttnTiles.rowMax.eq_1, fold_red, fold_sum, ← AttnTiles.top.eq_1, ← AttnTiles.weights.eq_1, ← AttnTiles.sinkWeight.eq_1, ← AttnTiles.mix.eq_1, ← AttnTiles.quot.eq_1, ← AttnTiles.row.eq_1, ← AttnTiles.finish.eq_1, StableHlo.readPieces]
  generalize hX2 : View.ld (Val := Elt Ideal) (e' := .bf16) x2 (Rect.unit (s := S1x128x256) ![0, 0, 0] ![1, 128, 256] inb_S1x128x256_S1x128x256_0_0_0) = X2
  generalize hX3 : View.ld (Val := Elt Ideal) (e' := .bf16) x3 (Rect.unit (s := S1x1024x256) ![0, 0, 0] ![1, 1024, 256] inb_S1x1024x256_S1x1024x256_0_0_0) = X3
  generalize hX4 : View.ld (Val := Elt Ideal) (e' := .bf16) x4 (Rect.unit (s := S1x128x256) ![0, 0, 0] ![1, 128, 256] inb_S1x128x256_S1x128x256_0_0_0) = X4
  generalize hX6 : View.ld (Val := Elt Ideal) (e' := .f32) x6 (Rect.unit (s := S1x1x512) ![0, 0, 0] ![1, 1, 512] inb_S1x1x512_S1x1x512_0_0_0) = X6
  have hX2 : x2 = X2 := by rw [← hX2, View.ld_unit_zero (by decide)]
  have hX3 : x3 = X3 := by rw [← hX3, View.ld_unit_zero (by decide)]
  have hX4 : x4 = X4 := by rw [← hX4, View.ld_unit_zero (by decide)]
  have hX6 : x6 = X6 := by rw [← hX6, View.ld_unit_zero (by decide)]
  rw [hX2, hX3, hX4, hX6]
  simp only [← AttnTiles.isLo.eq_1, StableHlo.readPieces]
  simp (disch := decide) only [AttnTiles.Args.stored, AttnTiles.Args.block, AttnTiles.Args.pair, AttnTiles.Args.wts, AttnTiles.Args.tops,
    AttnTiles.Args.scores_first, AttnTiles.Args.scores_last, AttnTiles.Args.scores_mid, AttnTiles.Args.raws, AttnTiles.Args.keys,
    AttnTiles.Args.evens, AttnTiles.Args.odds, AttnTiles.Args.query, AttnTiles.Args.bias, AttnTiles.Args.sink, AttnTiles.at_]
  refine congrArg (View.canon (Val := Elt Ideal) (e := .bf16) (s := S1x1024x512)) ?_
  repeat' apply piece
  all_goals rfl

end Cert.AttnValue
end
-- ==== Proof.AttnRead.lean ====
/- The attention kernel's vector functions, read at an index. -/
module

public import proofs.«01_k».proof.Proof.AttnTiles

@[expose] public section
set_option maxRecDepth 16384
noncomputable section
namespace Cert.AttnTiles
open Cert.KernelIdeal Cert.KernelIdeal.Gen Idealize.ShloMosaic Idealize.ShloMosaic.TcCoe
open scoped BigOperators

/-- The lane test is one on the first 64 lanes. -/
theorem isLo_apply (e : Fin 128) : isLo (ix2 (0 : Fin 1) e) = if e.val < 64 then 1#1 else 0#1 := by
  revert e; decide

/-- The mask of the first 64 lanes, entry by entry. -/
theorem lo_apply (e : Fin 128) : lo (ix2 (0 : Fin 1) e) = if e.val < 64 then 1 else 0 := by
  have h : ∀ e : Fin 128, ((extui 32 (cmpi .slt (iota .tc S1x128 32 (List.cons (α := Fin 2) (1 : Fin S1x128.rank) []) iota_S1x128_d1_w32) (broadcast S1x128 64#32)) natLt_1_32 : IVec S1x128 32) (ix2 (0 : Fin 1) e)).toInt = if e.val < 64 then 1 else 0 := by
    decide
  show ((((extui 32 (cmpi .slt (iota .tc S1x128 32 (List.cons (α := Fin 2) (1 : Fin S1x128.rank) []) iota_S1x128_d1_w32) (broadcast S1x128 64#32)) natLt_1_32 : IVec S1x128 32) (ix2 (0 : Fin 1) e)).toInt : ℝ) : EReal) = _
  rw [h e]
  split <;> simp

/-- The mask of the last 64 lanes, entry by entry. -/
theorem hi_apply (e : Fin 128) : hi (ix2 (0 : Fin 1) e) = if e.val < 64 then 0 else 1 := by
  have h : ∀ e : Fin 128, ((extui 32 (cmpi .sge (iota .tc S1x128 32 (List.cons (α := Fin 2) (1 : Fin S1x128.rank) []) iota_S1x128_d1_w32) (broadcast S1x128 64#32)) natLt_1_32 : IVec S1x128 32) (ix2 (0 : Fin 1) e)).toInt = if e.val < 64 then 0 else 1 := by
    decide
  show ((((extui 32 (cmpi .sge (iota .tc S1x128 32 (List.cons (α := Fin 2) (1 : Fin S1x128.rank) []) iota_S1x128_d1_w32) (broadcast S1x128 64#32)) natLt_1_32 : IVec S1x128 32) (ix2 (0 : Fin 1) e)).toInt : ℝ) : EReal) = _
  rw [h e]
  split <;> simp

/-- Two arrays joined under two lane masks. -/
theorem join_apply (l h : FVec Ideal S1x128 .bf16) (x y : FVec Ideal S1280x128 .bf16) (s : Fin 1280) (e : Fin 128) :
    join l h x y (ix3 (0 : Fin 1) s e) = x (ix2 s e) * l (ix2 (0 : Fin 1) e) + y (ix2 s e) * h (ix2 (0 : Fin 1) e) := by
  pointwise [join]

/-- After the swap the first half of the lanes holds the second. -/
theorem swap_lo (x : FVec Ideal S1280x128 .bf16) (s : Fin 1280) (e : Fin 64) :
    swap x (ix2 s (⟨e.val, by omega⟩ : Fin 128)) = x (ix2 s (⟨64 + e.val, by omega⟩ : Fin 128)) := by
  pointwise [swap]

/-- After the swap the second half of the lanes holds the first. -/
theorem swap_hi (x : FVec Ideal S1280x128 .bf16) (s : Fin 1280) (e : Fin 64) :
    swap x (ix2 s (⟨64 + e.val, by omega⟩ : Fin 128)) = x (ix2 s (⟨e.val, by omega⟩ : Fin 128)) := by
  pointwise [swap]

/-- The keys are the first 128 lanes of the key-value rows. -/
theorem ks_apply (x : FVec Ideal S1280x256 .bf16) (s : Fin 1280) (e : Fin 128) :
    ks x (ix2 s e) = x (ix2 s (⟨e.val, by omega⟩ : Fin 256)) := by
  pointwise [ks]

/-- The values are the last 128 lanes of the key-value rows. -/
theorem vs_apply (x : FVec Ideal S1280x256 .bf16) (s : Fin 1280) (e : Fin 128) :
    vs x (ix2 s e) = x (ix2 s (⟨128 + e.val, by omega⟩ : Fin 256)) := by
  pointwise [vs]

/-- The masked values stand in the first 128 lanes. -/
theorem beside_val (l : FVec Ideal S1x128 .bf16) (x : FVec Ideal S1280x128 .bf16) (s : Fin 1280) (e : Fin 128) :
    beside l x (ix3 (0 : Fin 1) s (⟨e.val, by omega⟩ : Fin 256)) = x (ix2 s e) * l (ix2 (0 : Fin 1) e) := by
  pointwise [beside]

/-- The mask itself stands beside them: ones where the values are. -/
theorem beside_one (l : FVec Ideal S1x128 .bf16) (x : FVec Ideal S1280x128 .bf16) (s : Fin 1280) (e : Fin 128) :
    beside l x (ix3 (0 : Fin 1) s (⟨128 + e.val, by omega⟩ : Fin 256)) = l (ix2 (0 : Fin 1) e) := by
  pointwise [beside]

/-- The first 128 stacked rows are the block before. -/
theorem stack_prev (a : FVec Ideal S1x128x256 .bf16) (b : FVec Ideal S1x1024x256 .bf16) (c : FVec Ideal S1x128x256 .bf16) (s : Fin 128) (e : Fin 256) :
    stack a b c (ix2 (⟨s.val, by omega⟩ : Fin 1280) e) = a (ix3 (0 : Fin 1) s e) := by
  pointwise [stack]

/-- The next 1024 stacked rows are the grid point's own. -/
theorem stack_mid (a : FVec Ideal S1x128x256 .bf16) (b : FVec Ideal S1x1024x256 .bf16) (c : FVec Ideal S1x128x256 .bf16) (s : Fin 1024) (e : Fin 256) :
    stack a b c (ix2 (⟨128 + s.val, by omega⟩ : Fin 1280) e) = b (ix3 (0 : Fin 1) s e) := by
  pointwise [stack]

/-- The last 128 stacked rows are the block after. -/
theorem stack_next (a : FVec Ideal S1x128x256 .bf16) (b : FVec Ideal S1x1024x256 .bf16) (c : FVec Ideal S1x128x256 .bf16) (s : Fin 128) (e : Fin 256) :
    stack a b c (ix2 (⟨1152 + s.val, by omega⟩ : Fin 1280) e) = c (ix3 (0 : Fin 1) s e) := by
  pointwise [stack]
  have e1 : ¬ 1152 + s.val < 128 := by omega
  have e2 : ¬ 1152 + s.val - 128 < 1024 := by omega
  have e4 : 1152 + s.val - 128 - 1024 = s.val := by omega
  simp only [dif_neg e1, dif_neg e2, e4, Fin.eta]

/-- A query block under a lane mask. -/
theorem masked_apply (q : FVec Ideal S1x128x128 .bf16) (l : FVec Ideal S1x128 .bf16) (r e : Fin 128) :
    masked q l (ix2 r e) = q (ix3 (0 : Fin 1) r e) * l (ix2 (0 : Fin 1) e) := by
  pointwise [masked]

/-- The raw scores: the product of the masked queries with the window's keys, plus the bias. -/
theorem raw_apply (q : Fin 4 → FVec Ideal S128x128 .bf16) (k : FVec Ideal S1x384x128 .bf16) (b : FVec Ideal S1x512x384 .f32) (g : Fin 4) (r : Fin 128)
    (t : Fin 384) :
    raw (q 0) (q 1) (q 2) (q 3) k b (ix2 (⟨128 * g.val + r.val, by omega⟩ : Fin 512) t)
      = (∑ e : Fin 128, q g (ix2 r e) * k (ix3 (0 : Fin 1) t e)) + b (ix3 (0 : Fin 1) (⟨128 * g.val + r.val, by omega⟩ : Fin 512) t) := by
  fin_cases g
  · pointwise [raw]
  · pointwise [raw]
  · pointwise [raw]
    have e1 : ¬ 256 + r.val < 128 := by omega
    have e2 : ¬ 256 + r.val - 128 < 128 := by omega
    have e4 : 256 + r.val - 128 - 128 = r.val := by omega
    simp only [dif_neg e1, dif_neg e2, e4, dif_pos r.isLt, Fin.eta]
  · pointwise [raw]
    have e1 : ¬ 384 + r.val < 128 := by omega
    have e2 : ¬ 384 + r.val - 128 < 128 := by omega
    have e3 : ¬ 384 + r.val - 128 - 128 < 128 := by omega
    have e4 : 384 + r.val - 128 - 128 - 128 = r.val := by omega
    simp only [dif_neg e1, dif_neg e2, dif_neg e3, e4, Fin.eta]

/-- Stashing the scores leaves them as they are. -/
theorem stash_apply (s : FVec Ideal S512x384 .f32) (r : Fin 512) (t : Fin 384) : stash s (ix2 r t) = s (ix2 r t) := by
  pointwise [stash]

/-- The edge mask is added to every row. -/
theorem edged_apply (s : FVec Ideal S512x384 .f32) (e : FVec Ideal S1x384 .f32) (r : Fin 512) (t : Fin 384) :
    edged s e (ix2 r t) = s (ix2 r t) + e (ix2 (0 : Fin 1) t) := by
  pointwise [edged]

/-- The top of a row: the greatest of its folded scores and the sink. -/
theorem top_apply (s : FVec Ideal S512x384 .f32) (o : ℕ) (h : S512x128.Slices ![o, 0] S128x128) (ho : o + 128 ≤ 512) (k : EReal) (r : Fin 128) :
    top s o h k (ix2 r (0 : Fin 1)) = max ((Finset.univ : Finset (Fin 128)).fold max ⊥ fun e =>
      rowMax s (ix2 (⟨o + r.val, by omega⟩ : Fin 512) e)) k := by
  pointwise [top, greatest]
  rw [show Ideal.ofBits FTy.f32 4286578688#32 = (⊥ : EReal) from by simp [Ideal.ofBits, Ideal.ieee]]

/-- The three 128-wide thirds of a row, folded by maximum. -/
theorem rowMax_apply (s : FVec Ideal S512x384 .f32) (r : Fin 512) (e : Fin 128) :
    rowMax s (ix2 r e) = max (max (s (ix2 r (⟨e.val, by omega⟩ : Fin 384))) (s (ix2 r (⟨128 + e.val, by omega⟩ : Fin 384))))
      (s (ix2 r (⟨256 + e.val, by omega⟩ : Fin 384))) := by
  pointwise [rowMax]

/-- The weights: exponentials of the scores less the top. -/
theorem weights_apply (s : FVec Ideal S512x384 .f32) (o : ℕ) (h : S512x384.Slices ![o, 0] S128x384) (ho : o + 128 ≤ 512) (t : FVec Ideal S128x1 .f32)
    (r : Fin 128) (j : Fin 384) :
    weights s o h t (ix2 r j) = Ideal.exp (s (ix2 (⟨o + r.val, by omega⟩ : Fin 512) j) - t (ix2 r (0 : Fin 1))) := by
  pointwise [weights]

/-- The sink's weight. -/
theorem sinkWeight_apply (t : FVec Ideal S128x1 .f32) (k : EReal) (r : Fin 128) :
    sinkWeight t k (ix2 r (0 : Fin 1)) = Ideal.exp (k - t (ix2 r (0 : Fin 1))) := by
  pointwise [sinkWeight]

/-- The weighted values of a pair of heads, one from each of the two products. -/
theorem mix_apply (p p' : FVec Ideal S128x384 .bf16) (ve vo : FVec Ideal S1x384x256 .bf16) (r : Fin 128) (c : Fin 256) :
    mix p p' ve vo (ix2 r c) = (∑ t : Fin 384, p (ix2 r t) * ve (ix3 (0 : Fin 1) t c)) + ∑ t : Fin 384, p' (ix2 r t) * vo (ix3 (0 : Fin 1) t c) := by
  pointwise [mix]

/-- The weighted values over the sums of weights, the sink added by lane. -/
theorem quot_apply (c : IVec S1x128 1) (nd : FVec Ideal S128x256 .f32) (t t' : FVec Ideal S128x1 .f32) (r e : Fin 128) :
    quot c nd t t' (ix2 r e) = Ideal.div (nd (ix2 r (⟨e.val, by omega⟩ : Fin 256)))
      (nd (ix2 r (⟨128 + e.val, by omega⟩ : Fin 256)) + if c (ix2 (0 : Fin 1) e) = 1#1 then t (ix2 r (0 : Fin 1)) else t' (ix2 r (0 : Fin 1))) := by
  pointwise [quot]
  rfl

/-- Four head pairs side by side. -/
theorem row_apply (p : Fin 4 → FVec Ideal S128x128 .f32) (r : Fin 128) (k : Fin 4) (e : Fin 128) :
    row (p 0) (p 1) (p 2) (p 3) (ix2 r (⟨128 * k.val + e.val, by omega⟩ : Fin 512)) = p k (ix2 r e) := by
  fin_cases k
  · pointwise [row]
  · pointwise [row]
  · pointwise [row]
    have e1 : ¬ 256 + e.val < 128 := by omega
    have e2 : ¬ 256 + e.val - 128 < 128 := by omega
    have e4 : 256 + e.val - 128 - 128 = e.val := by omega
    simp only [dif_neg e1, dif_neg e2, e4, dif_pos e.isLt, Fin.eta]
  · pointwise [row]
    have e1 : ¬ 384 + e.val < 128 := by omega
    have e2 : ¬ 384 + e.val - 128 < 128 := by omega
    have e3 : ¬ 384 + e.val - 128 - 128 < 128 := by omega
    have e4 : 384 + e.val - 128 - 128 - 128 = e.val := by omega
    simp only [dif_neg e1, dif_neg e2, dif_neg e3, e4, Fin.eta]

/-- The output row: the root-mean-square norm of the joined heads. -/
theorem finish_apply (o : FVec Ideal S128x512 .f32) (g : FVec Ideal S1x1x512 .f32) (r : Fin 128) (j : Fin 512) :
    finish o g (ix3 (0 : Fin 1) r j) = o (ix2 r j) * Ideal.rsqrt (Ideal.div (∑ e : Fin 512, o (ix2 r e) * o (ix2 r e)) (Ideal.ofBits .f32 0x44000000#32)
      + Ideal.ofBits .f32 0x358637BD#32) * g (ix3 (0 : Fin 1) (0 : Fin 1) j) := by
  pointwise [finish, total]

/-- The first edge mask: minus infinity on the block before, at the first grid point of a batch row. -/
theorem first_apply (w : BitVec 32) (t : Fin 384) :
    first w (ix2 (0 : Fin 1) t) = if w = 0#32 ∧ t.val < 128 then ⊥ else 0 := by
  pointwise [first]
  have h : ∀ t : Fin 384, IntOp.cmpi CmpIPredicate.slt (BitVec.ofNat 32 t.val) 128#32 = if t.val < 128 then 1#1 else 0#1 := by decide
  have hm : (Named.named (F := Ideal) (φ := .f32) κ "mask" 4048155338#32) = (⊥ : EReal) := rfl
  have hw : Scalar.cmpi CmpIPredicate.eq w 0#32 = if w = 0#32 then 1#1 else 0#1 := by
    by_cases hw : w = 0#32
    · subst hw; rfl
    · rw [if_neg hw]; simp only [Scalar.cmpi, IntOp.cmpi]; rw [beq_eq_false_iff_ne.mpr hw]; rfl
  rw [h t, hm, hw]
  by_cases h1 : w = 0#32 <;> by_cases h2 : t.val < 128 <;> simp [h1, h2, Scalar.select]

/-- The last edge mask: minus infinity on the block after, at the last grid point of a batch row. -/
theorem last_apply (w : BitVec 32) (t : Fin 384) :
    last w (ix2 (0 : Fin 1) t) = if w = 3#32 ∧ 256 ≤ t.val then ⊥ else 0 := by
  pointwise [last]
  have h : ∀ t : Fin 384, IntOp.cmpi CmpIPredicate.sge (BitVec.ofNat 32 t.val) 256#32 = if 256 ≤ t.val then 1#1 else 0#1 := by decide
  have hm : (Named.named (F := Ideal) (φ := .f32) κ "mask" 4048155338#32) = (⊥ : EReal) := rfl
  have hw : Scalar.cmpi CmpIPredicate.eq w 3#32 = if w = 3#32 then 1#1 else 0#1 := by
    by_cases hw : w = 3#32
    · subst hw; rfl
    · rw [if_neg hw]; simp only [Scalar.cmpi, IntOp.cmpi]; rw [beq_eq_false_iff_ne.mpr hw]; rfl
  rw [h t, hm, hw]
  by_cases h1 : w = 3#32 <;> by_cases h2 : 256 ≤ t.val <;> simp [h1, h2, Scalar.select]

end Cert.AttnTiles
end
-- ==== Proof.AttnMath.lean ====
/- Banded attention with a sink, as mathematics on extended reals: one row's scores, weights and weighted values, and the fact that
   dividing the weighted sum is dividing each weight. -/
module

public import Idealize.ShloMosaic.PureOps.Ideal
public import Idealize.ShloMosaic.Lib.Pointwise

@[expose] public section
noncomputable section
namespace Cert.AttnMath
open Idealize.ShloMosaic
open scoped BigOperators

/-- The greatest of a row's scores and the sink. -/
def top (S : Fin 384 → EReal) (k : EReal) : EReal := max ((Finset.univ : Finset (Fin 384)).fold max ⊥ S) k

/-- A key's unnormalised weight. -/
def wt (S : Fin 384 → EReal) (k : EReal) (t : Fin 384) : EReal := Ideal.exp (S t - top S k)

/-- The sum of the weights and the sink's weight. -/
def den (S : Fin 384 → EReal) (k : EReal) : EReal := (∑ t : Fin 384, wt S k t) + Ideal.exp (k - top S k)

/-- The weighted values of a row. -/
def out (S : Fin 384 → EReal) (k : EReal) (v : Fin 384 → EReal) : EReal := ∑ t : Fin 384, v t * Ideal.div (wt S k t) (den S k)

/-- A finite sum of reals is real. -/
theorem sum_real {n : ℕ} (f : Fin n → EReal) (g : Fin n → ℝ) (h : ∀ t, f t = (g t : EReal)) : ∑ t, f t = ((∑ t, g t : ℝ) : EReal) := by
  rw [Finset.sum_congr rfl fun t _ => h t]
  have : ∀ s : Finset (Fin n), ∑ t ∈ s, (g t : EReal) = ((∑ t ∈ s, g t : ℝ) : EReal) := by
    intro s
    induction s using Finset.cons_induction with
    | empty => simp
    | cons x s hx ih => rw [Finset.sum_cons, Finset.sum_cons, ih, EReal.coe_add]
  exact this _

/-- With no score infinite and a real sink, the greatest is real. -/
theorem top_real (S : Fin 384 → EReal) (k : ℝ) (hS : ∀ t, S t < ⊤) : ∃ T : ℝ, top S k = (T : EReal) := by
  have h1 : top S k < ⊤ := by
    unfold top
    exact max_lt ((Finset.fold_max_lt _).mpr ⟨bot_lt_top, fun t _ => hS t⟩) (EReal.coe_lt_top k)
  have h2 : ⊥ < top S k := lt_of_lt_of_le (EReal.bot_lt_coe k) (le_max_right _ _)
  exact ⟨(top S k).toReal, (EReal.coe_toReal h1.ne h2.ne').symm⟩

/-- Each weight is a real of at least zero. -/
theorem wt_real (S : Fin 384 → EReal) (k : ℝ) (hS : ∀ t, S t < ⊤) (t : Fin 384) : ∃ w : ℝ, 0 ≤ w ∧ wt S k t = (w : EReal) := by
  obtain ⟨T, hT⟩ := top_real S k hS
  unfold wt
  rw [hT]
  have h := hS t
  induction hs : S t using EReal.rec with
  | bot => exact ⟨0, le_refl _, by rw [EReal.bot_sub]; rfl⟩
  | coe x => exact ⟨Real.exp (x - T), (Real.exp_pos _).le, by rw [← EReal.coe_sub]; rfl⟩
  | top => rw [hs] at h; exact absurd h (lt_irrefl _)

/-- The denominator is a positive real. -/
theorem den_real (S : Fin 384 → EReal) (k : ℝ) (hS : ∀ t, S t < ⊤) : ∃ D : ℝ, 0 < D ∧ den S k = (D : EReal) := by
  obtain ⟨T, hT⟩ := top_real S k hS
  choose w hw hw' using wt_real S k hS
  refine ⟨(∑ t, w t) + Real.exp (k - T), add_pos_of_nonneg_of_pos (Finset.sum_nonneg fun t _ => hw t) (Real.exp_pos _), ?_⟩
  unfold den
  rw [sum_real _ w hw', hT, ← EReal.coe_sub, EReal.coe_add]
  rfl

/-- Dividing the weighted sum of the values by the denominator is weighting the values by the divided weights. -/
theorem div_sum (S : Fin 384 → EReal) (k : ℝ) (hS : ∀ t, S t < ⊤) (v : Fin 384 → EReal) :
    Ideal.div (∑ t : Fin 384, wt S k t * v t) (den S k) = out S k v := by
  obtain ⟨D, hD, hD'⟩ := den_real S k hS
  unfold out
  rw [hD']
  have hne : (D : EReal) ≠ 0 := by exact_mod_cast hD.ne'
  have hdiv : ∀ x : EReal, Ideal.div x (D : EReal) = ((D⁻¹ : ℝ) : EReal) * x := by
    intro x
    rw [Ideal.div, if_neg hne, ← EReal.coe_inv, mul_comm]
  simp only [hdiv]
  have h : ∀ s : Finset (Fin 384), ((D⁻¹ : ℝ) : EReal) * ∑ t ∈ s, wt S k t * v t = ∑ t ∈ s, v t * (((D⁻¹ : ℝ) : EReal) * wt S k t) := by
    intro s
    induction s using Finset.cons_induction with
    | empty => simp
    | cons x s hx ih =>
      rw [Finset.sum_cons, Finset.sum_cons, EReal.left_distrib_of_nonneg_of_ne_top (by exact_mod_cast (inv_pos.mpr hD).le) (EReal.coe_ne_top _), ih]
      congr 1
      rw [mul_comm (wt S k x), mul_left_comm]
  exact h _

/-- The greatest of 384 by way of the greatest of each residue modulo 128. -/
theorem fold_thirds (S : Fin 384 → EReal) :
    ((Finset.univ : Finset (Fin 128)).fold max ⊥ fun e => max (max (S ⟨e.val, by omega⟩) (S ⟨128 + e.val, by omega⟩)) (S ⟨256 + e.val, by omega⟩))
      = (Finset.univ : Finset (Fin 384)).fold max ⊥ S := by
  refine eq_of_forall_ge_iff fun c => ?_
  rw [Finset.fold_max_le, Finset.fold_max_le]
  simp only [max_le_iff, bot_le, true_and, Finset.mem_univ, true_implies]
  refine ⟨fun h t => ?_, fun h e => ⟨⟨h _, h _⟩, h _⟩⟩
  rcases Nat.lt_or_ge t.val 128 with h1 | h1
  · exact (h ⟨t.val, h1⟩).1.1
  · rcases Nat.lt_or_ge t.val 256 with h2 | h2
    · have := (h ⟨t.val - 128, by omega⟩).1.2
      rwa [show (⟨128 + (t.val - 128), by omega⟩ : Fin 384) = t from Fin.ext (by show 128 + (t.val - 128) = t.val; omega)] at this
    · have := (h ⟨t.val - 256, by omega⟩).2
      rwa [show (⟨256 + (t.val - 256), by omega⟩ : Fin 384) = t from Fin.ext (by show 256 + (t.val - 256) = t.val; omega)] at this

/-- A sum over the lanes of a pair of heads is the sums over each head's lanes. -/
theorem sum_lanes (f : Fin 128 → EReal) :
    ∑ e, f e = (∑ d : Fin 64, f ⟨d.val, by omega⟩) + ∑ d : Fin 64, f ⟨64 + d.val, by omega⟩ :=
  Fin.sum_univ_add (a := 64) (b := 64) f

end Cert.AttnMath
end
-- ==== Proof.AttnPair.lean ====
/- One query block of the attention kernel, read at an index: the scores of a head, and its weighted values. -/
module

public import proofs.«01_k».proof.Proof.AttnRead
public import proofs.«01_k».proof.Proof.AttnMath

@[expose] public section
set_option maxRecDepth 16384
noncomputable section
namespace Cert.AttnTiles
open Cert.KernelIdeal Cert.KernelIdeal.Gen Idealize.ShloMosaic Idealize.ShloMosaic.TcCoe
open scoped BigOperators

/-- The stacked key-value rows of a block. -/
def Args.kv (A : Args) (s : Fin 1280) (e : Fin 256) : EReal := stack A.x2 A.x3 A.x4 (ix2 s e)

/-- The lanes of a pair that belong to its first head. -/
theorem lo_first (d : Fin 64) : lo (ix2 (0 : Fin 1) (⟨d.val, by omega⟩ : Fin 128)) = 1 := by
  rw [lo_apply, if_pos d.isLt]

/-- The other lanes of a pair are not its first head's. -/
theorem lo_second (d : Fin 64) : lo (ix2 (0 : Fin 1) (⟨64 + d.val, by omega⟩ : Fin 128)) = 0 := by
  rw [lo_apply, if_neg (by show ¬ 64 + d.val < 64; omega)]

/-- The first lanes of a pair are not its second head's. -/
theorem hi_first (d : Fin 64) : hi (ix2 (0 : Fin 1) (⟨d.val, by omega⟩ : Fin 128)) = 0 := by
  rw [hi_apply, if_pos d.isLt]

/-- The lanes of a pair that belong to its second head. -/
theorem hi_second (d : Fin 64) : hi (ix2 (0 : Fin 1) (⟨64 + d.val, by omega⟩ : Fin 128)) = 1 := by
  rw [hi_apply, if_neg (by show ¬ 64 + d.val < 64; omega)]

/-- The first half of the lanes holds a key-value head's keys. -/
theorem keys_first (A : Args) (kh : Fin 2) (s : Fin 1280) (d : Fin 64) :
    A.keys kh (ix3 (0 : Fin 1) s (⟨d.val, by omega⟩ : Fin 128)) = A.kv s ⟨64 * kh.val + d.val, by omega⟩ := by
  fin_cases kh
  · show join lo hi _ _ _ = _
    rw [join_apply, lo_first, hi_first, mul_one, mul_zero, add_zero, ks_apply]
    simp only [Args.kv, Nat.mul_zero, Nat.zero_add]
  · show join lo hi _ _ _ = _
    rw [join_apply, lo_first, hi_first, mul_one, mul_zero, add_zero, swap_lo, ks_apply]
    simp only [Args.kv, Nat.mul_one]

/-- The second half of the lanes holds the same head's keys. -/
theorem keys_second (A : Args) (kh : Fin 2) (s : Fin 1280) (d : Fin 64) :
    A.keys kh (ix3 (0 : Fin 1) s (⟨64 + d.val, by omega⟩ : Fin 128)) = A.kv s ⟨64 * kh.val + d.val, by omega⟩ := by
  fin_cases kh
  · show join lo hi _ _ _ = _
    rw [join_apply, lo_second, hi_second, mul_one, mul_zero, zero_add, swap_hi, ks_apply]
    simp only [Args.kv, Nat.mul_zero, Nat.zero_add]
  · show join lo hi _ _ _ = _
    rw [join_apply, lo_second, hi_second, mul_one, mul_zero, zero_add, ks_apply]
    simp only [Args.kv, Nat.mul_one]

/-- The values for first heads sit in the first half of the lanes. -/
theorem evens_first (A : Args) (kh : Fin 2) (s : Fin 1280) (d : Fin 64) :
    A.evens kh (ix3 (0 : Fin 1) s (⟨d.val, by omega⟩ : Fin 256)) = A.kv s ⟨128 + 64 * kh.val + d.val, by omega⟩ := by
  fin_cases kh
  · show beside lo _ _ = _
    rw [show (⟨d.val, by omega⟩ : Fin 256) = ⟨(⟨d.val, by omega⟩ : Fin 128).val, by omega⟩ from rfl, beside_val, lo_first, mul_one, vs_apply]
    simp only [Args.kv, Nat.mul_zero, Nat.add_zero]
  · show beside lo _ _ = _
    rw [show (⟨d.val, by omega⟩ : Fin 256) = ⟨(⟨d.val, by omega⟩ : Fin 128).val, by omega⟩ from rfl, beside_val, lo_first, mul_one, swap_lo, vs_apply]
    simp only [Args.kv, Nat.mul_one, Nat.add_assoc]

/-- The second half of their lanes is zero. -/
theorem evens_second (A : Args) (kh : Fin 2) (s : Fin 1280) (d : Fin 64) :
    A.evens kh (ix3 (0 : Fin 1) s (⟨64 + d.val, by omega⟩ : Fin 256)) = 0 := by
  fin_cases kh <;>
  · show beside lo _ _ = _
    rw [show (⟨64 + d.val, by omega⟩ : Fin 256) = ⟨(⟨64 + d.val, by omega⟩ : Fin 128).val, by omega⟩ from rfl, beside_val, lo_second, mul_zero]

/-- Beside them are the ones of the first half. -/
theorem evens_ones (A : Args) (kh : Fin 2) (s : Fin 1280) (e : Fin 128) :
    A.evens kh (ix3 (0 : Fin 1) s (⟨128 + e.val, by omega⟩ : Fin 256)) = lo (ix2 (0 : Fin 1) e) := by
  fin_cases kh <;> exact beside_one _ _ _ _

/-- The values for second heads sit in the second half of the lanes. -/
theorem odds_second (A : Args) (kh : Fin 2) (s : Fin 1280) (d : Fin 64) :
    A.odds kh (ix3 (0 : Fin 1) s (⟨64 + d.val, by omega⟩ : Fin 256)) = A.kv s ⟨128 + 64 * kh.val + d.val, by omega⟩ := by
  fin_cases kh
  · show beside hi _ _ = _
    rw [show (⟨64 + d.val, by omega⟩ : Fin 256) = ⟨(⟨64 + d.val, by omega⟩ : Fin 128).val, by omega⟩ from rfl, beside_val, hi_second, mul_one, swap_hi, vs_apply]
    simp only [Args.kv, Nat.mul_zero, Nat.add_zero]
  · show beside hi _ _ = _
    rw [show (⟨64 + d.val, by omega⟩ : Fin 256) = ⟨(⟨64 + d.val, by omega⟩ : Fin 128).val, by omega⟩ from rfl, beside_val, hi_second, mul_one, vs_apply]
    simp only [Args.kv, Nat.mul_one, Nat.add_assoc]

/-- The first half of their lanes is zero. -/
theorem odds_first (A : Args) (kh : Fin 2) (s : Fin 1280) (d : Fin 64) :
    A.odds kh (ix3 (0 : Fin 1) s (⟨d.val, by omega⟩ : Fin 256)) = 0 := by
  fin_cases kh <;>
  · show beside hi _ _ = _
    rw [show (⟨d.val, by omega⟩ : Fin 256) = ⟨(⟨d.val, by omega⟩ : Fin 128).val, by omega⟩ from rfl, beside_val, hi_first, mul_zero]

/-- Beside them are the ones of the second half. -/
theorem odds_ones (A : Args) (kh : Fin 2) (s : Fin 1280) (e : Fin 128) :
    A.odds kh (ix3 (0 : Fin 1) s (⟨128 + e.val, by omega⟩ : Fin 256)) = hi (ix2 (0 : Fin 1) e) := by
  fin_cases kh <;> exact beside_one _ _ _ _

/-- A stack's window at query block `jb` starts `128·jb` rows down. -/
theorem at_apply {n : ℕ} (X : FVec Ideal (⟨3, ![1, 1280, n]⟩ : Shape) .bf16) (jb : Fin 8) (t : Fin 384) (e : Fin n) :
    at_ X jb (ix3 (0 : Fin 1) t e) = X (ix3 (0 : Fin 1) (⟨128 * jb.val + t.val, by omega⟩ : Fin 1280) e) := rfl

/-- The rows of a pair of heads' queries, read at an index. -/
theorem query_apply (A : Args) (jb : Fin 8) (kh pr : Fin 2) (r e : Fin 128) :
    A.query jb kh pr (ix3 (0 : Fin 1) r e)
      = A.x1 (ix3 (0 : Fin 1) (⟨128 * jb.val + r.val, by omega⟩ : Fin 1024) (⟨256 * kh.val + 128 * pr.val + e.val, by omega⟩ : Fin 512)) := by
  unfold Args.query
  refine congrArg A.x1 ?_
  funext a
  match a with
  | ⟨0, _⟩ => rfl
  | ⟨1, _⟩ => refine Fin.ext ?_; show 128 * jb.val + 1 * r.val = 128 * jb.val + r.val; omega
  | ⟨2, _⟩ => refine Fin.ext ?_; show 256 * kh.val + 128 * pr.val + 1 * e.val = 256 * kh.val + 128 * pr.val + e.val; omega

/-- The bias of a key-value head, read at an index. -/
theorem bias_apply (A : Args) (kh : Fin 2) (r : Fin 512) (t : Fin 384) : A.bias kh (ix3 (0 : Fin 1) r t) = A.x5 (ix3 kh r t) := by
  unfold Args.bias
  refine congrArg A.x5 ?_
  funext a
  match a with
  | ⟨0, _⟩ => refine Fin.ext ?_; show kh.val + 1 * 0 = kh.val; omega
  | ⟨1, _⟩ => refine Fin.ext ?_; show 0 + 1 * r.val = r.val; omega
  | ⟨2, _⟩ => refine Fin.ext ?_; show 0 + 1 * t.val = t.val; omega

/-- The sink of a head, read at an index. -/
theorem sink_apply (A : Args) (kh : Fin 2) (h : Fin 4) : A.sink kh h = A.x0 (ix2 (0 : Fin 4) (⟨4 * kh.val + h.val, by omega⟩ : Fin 8)) := by
  unfold Args.sink
  refine congrArg A.x0 ?_
  funext a
  match a with
  | ⟨0, _⟩ => rfl
  | ⟨1, _⟩ => rfl

/-- The edge mask of query block `jb` at a key: minus infinity outside the row, else zero. -/
def edge (w : BitVec 32) (jb : Fin 8) (t : Fin 384) : EReal :=
  if (jb = 0 ∧ w = 0#32 ∧ t.val < 128) ∨ (jb = 7 ∧ w = 3#32 ∧ 256 ≤ t.val) then ⊥ else 0

/-- The score of head `2·pr + half` of key-value head `kh` in query block `jb`, at row `r` and key `t`. -/
def Args.score (A : Args) (w : BitVec 32) (jb : Fin 8) (kh pr half : Fin 2) (r : Fin 128) (t : Fin 384) : EReal :=
  (∑ d : Fin 64, A.x1 (ix3 (0 : Fin 1) (⟨128 * jb.val + r.val, by omega⟩ : Fin 1024) (⟨256 * kh.val + 128 * pr.val + 64 * half.val + d.val, by omega⟩ : Fin 512))
      * A.kv ⟨128 * jb.val + t.val, by omega⟩ ⟨64 * kh.val + d.val, by omega⟩)
    + A.x5 (ix3 kh (⟨256 * half.val + 128 * pr.val + r.val, by omega⟩ : Fin 512) t) + edge w jb t

/-- A score before the edge masks. -/
theorem raws_apply (A : Args) (jb : Fin 8) (kh pr half : Fin 2) (r : Fin 128) (t : Fin 384) :
    A.raws jb kh (ix2 (⟨256 * half.val + 128 * pr.val + r.val, by omega⟩ : Fin 512) t)
      = (∑ d : Fin 64, A.x1 (ix3 (0 : Fin 1) (⟨128 * jb.val + r.val, by omega⟩ : Fin 1024) (⟨256 * kh.val + 128 * pr.val + 64 * half.val + d.val, by omega⟩ : Fin 512))
          * A.kv ⟨128 * jb.val + t.val, by omega⟩ ⟨64 * kh.val + d.val, by omega⟩)
        + A.x5 (ix3 kh (⟨256 * half.val + 128 * pr.val + r.val, by omega⟩ : Fin 512) t) := by
  have h := raw_apply ![masked (A.query jb kh 0) lo, masked (A.query jb kh 1) lo, masked (A.query jb kh 0) hi, masked (A.query jb kh 1) hi]
    (at_ (A.keys kh) jb) (A.bias kh) ⟨2 * half.val + pr.val, by omega⟩ r t
  have e : (⟨256 * half.val + 128 * pr.val + r.val, by omega⟩ : Fin 512) = ⟨128 * (⟨2 * half.val + pr.val, by omega⟩ : Fin 4).val + r.val, by show 128 * (2 * half.val + pr.val) + r.val < 512; omega⟩ :=
    Fin.ext (by show 256 * half.val + 128 * pr.val + r.val = 128 * (2 * half.val + pr.val) + r.val; omega)
  rw [e]
  refine h.trans ?_
  rw [bias_apply, AttnMath.sum_lanes]
  congr 1
  simp only [at_apply]
  fin_cases half
  · have hq : (![masked (A.query jb kh 0) lo, masked (A.query jb kh 1) lo, masked (A.query jb kh 0) hi, masked (A.query jb kh 1) hi] : Fin 4 → _) ⟨2 * 0 + pr.val, by omega⟩
        = masked (A.query jb kh pr) lo := by fin_cases pr <;> rfl
    refine Eq.trans (congrArg₂ (· + ·) (Finset.sum_congr rfl fun d _ => ?_) (Finset.sum_eq_zero fun d _ => ?_)) (add_zero _)
    · refine (congrArg (· * _) (congrFun hq _)).trans ?_
      rw [masked_apply, lo_first, mul_one, keys_first, query_apply]
      rfl
    · refine (congrArg (· * _) (congrFun hq _)).trans ?_
      rw [masked_apply, lo_second, mul_zero, zero_mul]
  · have hq : (![masked (A.query jb kh 0) lo, masked (A.query jb kh 1) lo, masked (A.query jb kh 0) hi, masked (A.query jb kh 1) hi] : Fin 4 → _) ⟨2 * 1 + pr.val, by omega⟩
        = masked (A.query jb kh pr) hi := by fin_cases pr <;> rfl
    refine Eq.trans (congrArg₂ (· + ·) (Finset.sum_eq_zero fun d _ => ?_) (Finset.sum_congr rfl fun d _ => ?_)) (zero_add _)
    · refine (congrArg (· * _) (congrFun hq _)).trans ?_
      rw [masked_apply, hi_first, mul_zero, zero_mul]
    · refine (congrArg (· * _) (congrFun hq _)).trans ?_
      rw [masked_apply, hi_second, mul_one, keys_second, query_apply]
      simp only [← Nat.add_assoc]

/-- The stored scores are the scores. -/
theorem scores_apply (A : Args) (w : BitVec 32) (jb : Fin 8) (kh pr half : Fin 2) (r : Fin 128) (t : Fin 384) :
    A.scores w jb kh (ix2 (⟨256 * half.val + 128 * pr.val + r.val, by omega⟩ : Fin 512) t) = A.score w jb kh pr half r t := by
  unfold Args.score edge
  rw [← raws_apply]
  by_cases h0 : jb = 0
  · subst h0
    rw [Args.scores_first, stash_apply, edged_apply, first_apply]
    congr 1
    simp
  · by_cases h7 : jb = 7
    · subst h7
      rw [Args.scores_last, stash_apply, edged_apply, last_apply]
      congr 1
      simp
    · rw [Args.scores_mid A w jb kh h0 h7, stash_apply, if_neg (by tauto), add_zero]

/-- The greatest score of a row, or the sink. -/
theorem tops_apply (A : Args) (w : BitVec 32) (jb : Fin 8) (kh pr half : Fin 2) (r : Fin 128) :
    A.tops w jb kh pr half (ix2 r (0 : Fin 1))
      = AttnMath.top (A.score w jb kh pr half r) (A.sink kh ⟨2 * pr.val + half.val, by omega⟩) := by
  unfold Args.tops AttnMath.top
  rw [top_apply _ _ _ (by omega), ← AttnMath.fold_thirds]
  simp only [rowMax_apply, scores_apply]

/-- A weight. -/
theorem wts_apply (A : Args) (w : BitVec 32) (jb : Fin 8) (kh pr half : Fin 2) (r : Fin 128) (t : Fin 384) :
    A.wts w jb kh pr half (ix2 r t)
      = AttnMath.wt (A.score w jb kh pr half r) (A.sink kh ⟨2 * pr.val + half.val, by omega⟩) t := by
  unfold Args.wts AttnMath.wt
  rw [weights_apply _ _ _ (by omega), tops_apply, scores_apply]

/-- A pair's columns: head `half`'s weighted values over the sum of its weights. -/
theorem pair_apply (A : Args) (w : BitVec 32) (jb : Fin 8) (kh pr half : Fin 2) (r : Fin 128) (d : Fin 64) :
    A.pair w jb kh pr (ix2 r (⟨64 * half.val + d.val, by omega⟩ : Fin 128))
      = Ideal.div (∑ t : Fin 384, AttnMath.wt (A.score w jb kh pr half r) (A.sink kh ⟨2 * pr.val + half.val, by omega⟩) t
            * A.kv ⟨128 * jb.val + t.val, by omega⟩ ⟨128 + 64 * kh.val + d.val, by omega⟩)
          (AttnMath.den (A.score w jb kh pr half r) (A.sink kh ⟨2 * pr.val + half.val, by omega⟩)) := by
  unfold Args.pair AttnMath.den
  rw [quot_apply, isLo_apply]
  fin_cases half
  · refine congrArg₂ Ideal.div ?_ (congrArg₂ (· + ·) ?_ ?_)
    · show mix _ _ _ _ (ix2 r (⟨64 * 0 + d.val, by omega⟩ : Fin 256)) = _
      rw [show (⟨64 * 0 + d.val, by omega⟩ : Fin 256) = ⟨d.val, by omega⟩ from Fin.ext (by show 64 * 0 + d.val = d.val; omega), mix_apply]
      refine Eq.trans (congrArg₂ (· + ·) (Finset.sum_congr rfl fun t _ => ?_) (Finset.sum_eq_zero fun t _ => ?_)) (add_zero _)
      · rw [at_apply, evens_first, wts_apply]; rfl
      · rw [at_apply, odds_first, mul_zero]
    · rw [mix_apply]
      refine Eq.trans (congrArg₂ (· + ·) (Finset.sum_congr rfl fun t _ => ?_) (Finset.sum_eq_zero fun t _ => ?_)) (add_zero _)
      · rw [at_apply, evens_ones, lo_apply, if_pos (by show 64 * 0 + d.val < 64; omega), mul_one, wts_apply]; rfl
      · rw [at_apply, odds_ones, hi_apply, if_pos (by show 64 * 0 + d.val < 64; omega), mul_zero]
    · rw [if_pos (if_pos (by show 64 * 0 + d.val < 64; omega)), sinkWeight_apply, tops_apply]; rfl
  · refine congrArg₂ Ideal.div ?_ (congrArg₂ (· + ·) ?_ ?_)
    · show mix _ _ _ _ (ix2 r (⟨64 * 1 + d.val, by omega⟩ : Fin 256)) = _
      rw [show (⟨64 * 1 + d.val, by omega⟩ : Fin 256) = ⟨64 + d.val, by omega⟩ from rfl, mix_apply]
      refine Eq.trans (congrArg₂ (· + ·) (Finset.sum_eq_zero fun t _ => ?_) (Finset.sum_congr rfl fun t _ => ?_)) (zero_add _)
      · rw [at_apply, evens_second, mul_zero]
      · rw [at_apply, odds_second, wts_apply]; rfl
    · rw [mix_apply]
      refine Eq.trans (congrArg₂ (· + ·) (Finset.sum_eq_zero fun t _ => ?_) (Finset.sum_congr rfl fun t _ => ?_)) (zero_add _)
      · rw [at_apply, evens_ones, lo_apply, if_neg (by show ¬ 64 * 1 + d.val < 64; omega), mul_zero]
      · rw [at_apply, odds_ones, hi_apply, if_neg (by show ¬ 64 * 1 + d.val < 64; omega), mul_one, wts_apply]; rfl
    · rw [if_neg (by rw [if_neg (by show ¬ 64 * 1 + d.val < 64; omega)]; decide), sinkWeight_apply, tops_apply]; rfl

/-- A row of a query block before its norm: columns `256·kh + 128·pr + 64·half + d`. -/
def Args.line (A : Args) (w : BitVec 32) (jb : Fin 8) : FVec Ideal S128x512 .f32 :=
  row (A.pair w jb 0 0) (A.pair w jb 0 1) (A.pair w jb 1 0) (A.pair w jb 1 1)

/-- The columns of a row are the pairs'. -/
theorem line_apply (A : Args) (w : BitVec 32) (jb : Fin 8) (kh pr half : Fin 2) (r : Fin 128) (d : Fin 64) :
    A.line w jb (ix2 r (⟨256 * kh.val + 128 * pr.val + 64 * half.val + d.val, by omega⟩ : Fin 512))
      = A.pair w jb kh pr (ix2 r (⟨64 * half.val + d.val, by omega⟩ : Fin 128)) := by
  have h := row_apply ![A.pair w jb 0 0, A.pair w jb 0 1, A.pair w jb 1 0, A.pair w jb 1 1] r ⟨2 * kh.val + pr.val, by omega⟩
    ⟨64 * half.val + d.val, by omega⟩
  have e : (⟨256 * kh.val + 128 * pr.val + 64 * half.val + d.val, by omega⟩ : Fin 512)
      = ⟨128 * (⟨2 * kh.val + pr.val, by omega⟩ : Fin 4).val + (⟨64 * half.val + d.val, by omega⟩ : Fin 128).val,
          by show 128 * (2 * kh.val + pr.val) + (64 * half.val + d.val) < 512; omega⟩ :=
    Fin.ext (by show 256 * kh.val + 128 * pr.val + 64 * half.val + d.val = 128 * (2 * kh.val + pr.val) + (64 * half.val + d.val); omega)
  rw [e]
  refine h.trans ?_
  fin_cases kh <;> fin_cases pr <;> rfl

end Cert.AttnTiles
end
-- ==== Proof.AttnSpec.lean ====
/- The banded attention of one layer, as mathematics: each row's scores over the keys of its own block and the two blocks beside it,
   its weighted values, and the closing root-mean-square norm. -/
module

public import proofs.«01_k».proof.Proof.AttnMath

@[expose] public section
noncomputable section
namespace Cert.AttnSpec
open Idealize.ShloMosaic
open scoped BigOperators

/-- Arrays of three axes, of extended reals. -/
abbrev Arr (a b c : ℕ) := (⟨3, ![a, b, c]⟩ : Shape).Idx → EReal

/-- Key `t` of block `n`'s window is in the sequence. -/
abbrev inside (n : Fin 32) (t : Fin 384) : Prop := 128 ≤ 128 * n.val + t.val ∧ 128 * n.val + t.val < 4224

/-- A column of key `t` of block `n`'s window; zero outside the sequence. -/
def kvAt (kv : Arr 8 4096 256) (b : Fin 8) (n : Fin 32) (t : Fin 384) (e : Fin 256) : EReal :=
  if h : inside n t then kv (ix3 b (⟨128 * n.val + t.val - 128, by omega⟩ : Fin 4096) e) else 0

/-- The score of row `r` of block `n` and key `t`, for head `g` of key-value head `kh`. -/
def score (q : Arr 8 4096 512) (kv : Arr 8 4096 256) (bias : Arr 8 128 384) (b : Fin 8) (n : Fin 32) (r : Fin 128) (kh : Fin 2) (g : Fin 4)
    (t : Fin 384) : EReal :=
  if inside n t then
    (∑ d : Fin 64, q (ix3 b (⟨128 * n.val + r.val, by omega⟩ : Fin 4096) (⟨256 * kh.val + 64 * g.val + d.val, by omega⟩ : Fin 512))
        * kvAt kv b n t ⟨64 * kh.val + d.val, by omega⟩)
      + bias (ix3 (⟨4 * kh.val + g.val, by omega⟩ : Fin 8) r t)
  else ⊥

/-- The sink of a head, in the first layer. -/
def sinkOf (k : (⟨2, ![4, 8]⟩ : Shape).Idx → EReal) (kh : Fin 2) (g : Fin 4) : EReal :=
  k (ix2 (0 : Fin 4) (⟨4 * kh.val + g.val, by omega⟩ : Fin 8))

/-- A head's weighted values. -/
def head (q : Arr 8 4096 512) (kv : Arr 8 4096 256) (bias : Arr 8 128 384) (k : (⟨2, ![4, 8]⟩ : Shape).Idx → EReal)
    (b : Fin 8) (n : Fin 32) (r : Fin 128) (kh : Fin 2) (g : Fin 4) (d : Fin 64) : EReal :=
  AttnMath.out (score q kv bias b n r kh g) (sinkOf k kh g) fun t => kvAt kv b n t ⟨128 + 64 * kh.val + d.val, by omega⟩

/-- The same with the division after the sum. -/
def headOver (q : Arr 8 4096 512) (kv : Arr 8 4096 256) (bias : Arr 8 128 384) (k : (⟨2, ![4, 8]⟩ : Shape).Idx → EReal)
    (b : Fin 8) (n : Fin 32) (r : Fin 128) (kh : Fin 2) (g : Fin 4) (d : Fin 64) : EReal :=
  Ideal.div (∑ t : Fin 384, AttnMath.wt (score q kv bias b n r kh g) (sinkOf k kh g) t * kvAt kv b n t ⟨128 + 64 * kh.val + d.val, by omega⟩)
    (AttnMath.den (score q kv bias b n r kh g) (sinkOf k kh g))

/-- Heads side by side: column `256·kh + 64·g + d`, row `128·n + r`. -/
def rows (h : Fin 8 → Fin 32 → Fin 128 → Fin 2 → Fin 4 → Fin 64 → EReal) : Arr 8 4096 512 := fun y =>
  h (y 0) ⟨(y 1).val / 128, by have : (y 1).val < 4096 := (y 1).isLt; omega⟩ ⟨(y 1).val % 128, by omega⟩
    ⟨(y 2).val / 256, by have : (y 2).val < 512 := (y 2).isLt; omega⟩ ⟨(y 2).val % 256 / 64, by omega⟩ ⟨(y 2).val % 64, by omega⟩

/-- A row's entry is its head's. -/
theorem rows_apply (h : Fin 8 → Fin 32 → Fin 128 → Fin 2 → Fin 4 → Fin 64 → EReal) (b : Fin 8) (n : Fin 32) (r : Fin 128) (kh : Fin 2)
    (g : Fin 4) (d : Fin 64) :
    rows h (ix3 b (⟨128 * n.val + r.val, by omega⟩ : Fin 4096) (⟨256 * kh.val + 64 * g.val + d.val, by omega⟩ : Fin 512)) = h b n r kh g d := by
  show h b ⟨(128 * n.val + r.val) / 128, _⟩ ⟨(128 * n.val + r.val) % 128, _⟩ ⟨(256 * kh.val + 64 * g.val + d.val) / 256, _⟩
    ⟨(256 * kh.val + 64 * g.val + d.val) % 256 / 64, _⟩ ⟨(256 * kh.val + 64 * g.val + d.val) % 64, _⟩ = _
  have e1 : (128 * n.val + r.val) / 128 = n.val := by omega
  have e2 : (128 * n.val + r.val) % 128 = r.val := by omega
  have e3 : (256 * kh.val + 64 * g.val + d.val) / 256 = kh.val := by omega
  have e4 : (256 * kh.val + 64 * g.val + d.val) % 256 / 64 = g.val := by omega
  have e5 : (256 * kh.val + 64 * g.val + d.val) % 64 = d.val := by omega
  simp only [e1, e2, e3, e4, e5, Fin.eta]

/-- Every entry is one of a block's, a row's and a head's. -/
theorem split (y : (⟨3, ![8, 4096, 512]⟩ : Shape).Idx) : ∃ (b : Fin 8) (n : Fin 32) (r : Fin 128) (kh : Fin 2) (g : Fin 4) (d : Fin 64),
    y = ix3 b (⟨128 * n.val + r.val, by omega⟩ : Fin 4096) (⟨256 * kh.val + 64 * g.val + d.val, by omega⟩ : Fin 512) := by
  have h1 : (y 1).val < 4096 := (y 1).isLt
  have h2 : (y 2).val < 512 := (y 2).isLt
  refine ⟨y 0, ⟨(y 1).val / 128, by omega⟩, ⟨(y 1).val % 128, by omega⟩, ⟨(y 2).val / 256, by omega⟩, ⟨(y 2).val % 256 / 64, by omega⟩,
    ⟨(y 2).val % 64, by omega⟩, ?_⟩
  funext x
  match x with
  | ⟨0, _⟩ => rfl
  | ⟨1, _⟩ => refine Fin.ext ?_; show (y 1).val = 128 * ((y 1).val / 128) + (y 1).val % 128; omega
  | ⟨2, _⟩ => refine Fin.ext ?_; show (y 2).val = 256 * ((y 2).val / 256) + 64 * ((y 2).val % 256 / 64) + (y 2).val % 64; omega

/-- Rows, root-mean-square normalised with the first layer's weights. -/
def norm (o : Arr 8 4096 512) (g : (⟨2, ![4, 512]⟩ : Shape).Idx → EReal) : Arr 8 4096 512 := fun y =>
  o y * Ideal.rsqrt (Ideal.div (∑ e : Fin 512, o (ix3 (y 0) (y 1) e) * o (ix3 (y 0) (y 1) e)) (Ideal.ofBits .f32 0x44000000#32)
    + Ideal.ofBits .f32 0x358637BD#32) * g (ix2 (0 : Fin 4) (y 2))

/-- The layer's attention. -/
def attention (q : Arr 8 4096 512) (kv : Arr 8 4096 256) (bias : Arr 8 128 384) (k : (⟨2, ![4, 8]⟩ : Shape).Idx → EReal)
    (g : (⟨2, ![4, 512]⟩ : Shape).Idx → EReal) : Arr 8 4096 512 :=
  norm (rows (head q kv bias k)) g

/-- The same with the division after the sum. -/
def attentionOver (q : Arr 8 4096 512) (kv : Arr 8 4096 256) (bias : Arr 8 128 384) (k : (⟨2, ![4, 8]⟩ : Shape).Idx → EReal)
    (g : (⟨2, ![4, 512]⟩ : Shape).Idx → EReal) : Arr 8 4096 512 :=
  norm (rows (headOver q kv bias k)) g

/-- A score is below infinity when the queries and keys are finite and the bias is below infinity. -/
theorem score_lt (q : Arr 8 4096 512) (kv : Arr 8 4096 256) (bias : Arr 8 128 384)
    (hq : ∀ y, ∃ x : ℝ, q y = x) (hk : ∀ (b : Fin 8) (l : Fin 4096) (e : Fin 128), ∃ x : ℝ, kv (ix3 b l (⟨e.val, by omega⟩ : Fin 256)) = x)
    (hb : ∀ y, bias y < ⊤) (b : Fin 8) (n : Fin 32) (r : Fin 128) (kh : Fin 2) (g : Fin 4) (t : Fin 384) :
    score q kv bias b n r kh g t < ⊤ := by
  unfold score
  split
  · rename_i hi
    choose f hf using hq
    have hk' : ∀ d : Fin 64, ∃ x : ℝ, kvAt kv b n t ⟨64 * kh.val + d.val, by omega⟩ = x := fun d => by
      unfold kvAt
      rw [dif_pos hi]
      exact hk b _ ⟨64 * kh.val + d.val, by omega⟩
    choose w hw using hk'
    rw [AttnMath.sum_real _ (fun d => f (ix3 b (⟨128 * n.val + r.val, by omega⟩ : Fin 4096) (⟨256 * kh.val + 64 * g.val + d.val, by omega⟩ : Fin 512)) * w d)
      (fun d => by rw [hf, hw, EReal.coe_mul])]
    exact EReal.add_lt_top (EReal.coe_ne_top _) (hb _).ne
  · exact bot_lt_top

/-- With finite queries, keys and sinks and a bias below infinity, the division may come after the sum. -/
theorem attentionOver_eq (q : Arr 8 4096 512) (kv : Arr 8 4096 256) (bias : Arr 8 128 384) (k : (⟨2, ![4, 8]⟩ : Shape).Idx → EReal)
    (g : (⟨2, ![4, 512]⟩ : Shape).Idx → EReal)
    (hq : ∀ y, ∃ x : ℝ, q y = x) (hk : ∀ (b : Fin 8) (l : Fin 4096) (e : Fin 128), ∃ x : ℝ, kv (ix3 b l (⟨e.val, by omega⟩ : Fin 256)) = x)
    (hb : ∀ y, bias y < ⊤) (hs : ∀ y, ∃ x : ℝ, k y = x) : attentionOver q kv bias k g = attention q kv bias k g := by
  unfold attentionOver attention
  refine congrArg (fun h => norm (rows h) g) ?_
  funext b n r kh g' d
  unfold headOver head
  obtain ⟨x, hx⟩ : ∃ x : ℝ, sinkOf k kh g' = x := hs _
  rw [hx]
  exact AttnMath.div_sum _ x (score_lt q kv bias hq hk hb b n r kh g') _

end Cert.AttnSpec
end
-- ==== Proof.AttnKernelSpec.lean ====
/- A block of the attention kernel is the layer's attention as mathematics, over blocks cut from the arrays. -/
module

public import proofs.«01_k».proof.Proof.AttnPair
public import proofs.«01_k».proof.Proof.AttnSpec
public import Idealize.ShloMosaic.Lib.Pipeline.ValueKit.Tiles

@[expose] public section
set_option maxRecDepth 16384
noncomputable section
namespace Cert.AttnTiles
open Cert.KernelIdeal Cert.KernelIdeal.Gen Idealize.ShloMosaic Idealize.ShloMosaic.TcCoe
open scoped BigOperators

/-- The blocks are cut from the arrays: batch row `b`, block row `i` of eight query blocks, with the key-value blocks before and after it
    where the sequence has them. -/
structure Args.Cut (A : Args) (q : AttnSpec.Arr 8 4096 512) (kv : AttnSpec.Arr 8 4096 256) (bias : AttnSpec.Arr 8 128 384)
    (k : (⟨2, ![4, 8]⟩ : Shape).Idx → EReal) (g : (⟨2, ![4, 512]⟩ : Shape).Idx → EReal) (b : Fin 8) (i : Fin 4) : Prop where
  sinks : ∀ h : Fin 8, A.x0 (ix2 (0 : Fin 4) h) = k (ix2 (0 : Fin 4) h)
  queries : ∀ (l : Fin 1024) (j : Fin 512), A.x1 (ix3 (0 : Fin 1) l j) = q (ix3 b (⟨1024 * i.val + l.val, by omega⟩ : Fin 4096) j)
  prev : ∀ (s : Fin 128) (e : Fin 256), A.x2 (ix3 (0 : Fin 1) s e) = kv (ix3 b (⟨128 * (8 * i.val - 1) + s.val, by omega⟩ : Fin 4096) e)
  mid : ∀ (s : Fin 1024) (e : Fin 256), A.x3 (ix3 (0 : Fin 1) s e) = kv (ix3 b (⟨1024 * i.val + s.val, by omega⟩ : Fin 4096) e)
  next : ∀ (s : Fin 128) (e : Fin 256), A.x4 (ix3 (0 : Fin 1) s e)
    = kv (ix3 b (⟨128 * min (8 * i.val + 8) 31 + s.val, by omega⟩ : Fin 4096) e)
  bias : ∀ (kh pr half : Fin 2) (r : Fin 128) (t : Fin 384), A.x5 (ix3 kh (⟨256 * half.val + 128 * pr.val + r.val, by omega⟩ : Fin 512) t)
    = bias (ix3 (⟨4 * kh.val + (2 * pr.val + half.val), by omega⟩ : Fin 8) r t)
  norm : ∀ j : Fin 512, A.x6 (ix3 (0 : Fin 1) (0 : Fin 1) j) = g (ix2 (0 : Fin 4) j)

/-- Query block `jb` of block row `i`. -/
abbrev blockNo (i : Fin 4) (jb : Fin 8) : Fin 32 := ⟨8 * i.val + jb.val, by omega⟩

/-- The head at place `half` of pair `pr`. -/
abbrev headNo (pr half : Fin 2) : Fin 4 := ⟨2 * pr.val + half.val, by omega⟩

/-- The edge masks strike out just the keys outside the sequence. -/
theorem edge_iff : ∀ (i : Fin 4) (jb : Fin 8) (t : Fin 384),
    ((jb = 0 ∧ BitVec.ofNat 32 i.val = 0#32 ∧ t.val < 128) ∨ (jb = 7 ∧ BitVec.ofNat 32 i.val = 3#32 ∧ 256 ≤ t.val)) ↔ ¬ AttnSpec.inside (blockNo i jb) t := by
  decide +kernel

variable {A : Args} {q : AttnSpec.Arr 8 4096 512} {kv : AttnSpec.Arr 8 4096 256} {bias : AttnSpec.Arr 8 128 384}
  {k : (⟨2, ![4, 8]⟩ : Shape).Idx → EReal} {g : (⟨2, ![4, 512]⟩ : Shape).Idx → EReal} {b : Fin 8} {i : Fin 4}

/-- A stacked key-value row inside the sequence is the sequence's. -/
theorem kv_eq (h : A.Cut q kv bias k g b i) (jb : Fin 8) (t : Fin 384) (e : Fin 256) (ht : AttnSpec.inside (blockNo i jb) t) :
    A.kv ⟨128 * jb.val + t.val, by omega⟩ e = AttnSpec.kvAt kv b (blockNo i jb) t e := by
  have h1 : 128 ≤ 128 * (8 * i.val + jb.val) + t.val := ht.1
  have h2 : 128 * (8 * i.val + jb.val) + t.val < 4224 := ht.2
  unfold AttnSpec.kvAt Args.kv
  rw [dif_pos ht]
  by_cases c1 : 128 * jb.val + t.val < 128
  · have hs := stack_prev A.x2 A.x3 A.x4 ⟨128 * jb.val + t.val, c1⟩ e
    refine hs.trans ((h.prev _ e).trans (congrArg (fun l => kv (ix3 b l e)) (Fin.ext ?_)))
    show 128 * (8 * i.val - 1) + (128 * jb.val + t.val) = 128 * (8 * i.val + jb.val) + t.val - 128
    omega
  · by_cases c2 : 128 * jb.val + t.val < 1152
    · have hs := stack_mid A.x2 A.x3 A.x4 ⟨128 * jb.val + t.val - 128, by omega⟩ e
      rw [show (⟨128 * jb.val + t.val, by omega⟩ : Fin 1280) = ⟨128 + (⟨128 * jb.val + t.val - 128, by omega⟩ : Fin 1024).val, by show 128 + (128 * jb.val + t.val - 128) < 1280; omega⟩
        from Fin.ext (by show 128 * jb.val + t.val = 128 + (128 * jb.val + t.val - 128); omega)]
      refine hs.trans ((h.mid _ e).trans (congrArg (fun l => kv (ix3 b l e)) (Fin.ext ?_)))
      show 1024 * i.val + (128 * jb.val + t.val - 128) = 128 * (8 * i.val + jb.val) + t.val - 128
      omega
    · have hs := stack_next A.x2 A.x3 A.x4 ⟨128 * jb.val + t.val - 1152, by omega⟩ e
      rw [show (⟨128 * jb.val + t.val, by omega⟩ : Fin 1280) = ⟨1152 + (⟨128 * jb.val + t.val - 1152, by omega⟩ : Fin 128).val, by show 1152 + (128 * jb.val + t.val - 1152) < 1280; omega⟩
        from Fin.ext (by show 128 * jb.val + t.val = 1152 + (128 * jb.val + t.val - 1152); omega)]
      refine hs.trans ((h.next _ e).trans (congrArg (fun l => kv (ix3 b l e)) (Fin.ext ?_)))
      show 128 * min (8 * i.val + 8) 31 + (128 * jb.val + t.val - 1152) = 128 * (8 * i.val + jb.val) + t.val - 128
      omega

/-- A score is the layer's. -/
theorem score_eq (h : A.Cut q kv bias k g b i) (jb : Fin 8) (kh pr half : Fin 2) (r : Fin 128) :
    A.score (BitVec.ofNat 32 i.val) jb kh pr half r = AttnSpec.score q kv bias b (blockNo i jb) r kh (headNo pr half) := by
  funext t
  unfold Args.score AttnSpec.score edge
  by_cases ht : AttnSpec.inside (blockNo i jb) t
  · rw [if_neg (fun x => (edge_iff i jb t).1 x ht), add_zero, if_pos ht, h.bias]
    refine congrArg (· + _) (Finset.sum_congr rfl fun d _ => ?_)
    rw [h.queries, kv_eq h jb t _ ht]
    refine congrArg₂ (fun (l : Fin 4096) (j : Fin 512) => q (ix3 b l j) * _) (Fin.ext ?_) (Fin.ext ?_)
    · show 1024 * i.val + (128 * jb.val + r.val) = 128 * (8 * i.val + jb.val) + r.val
      omega
    · show 256 * kh.val + 128 * pr.val + 64 * half.val + d.val = 256 * kh.val + 64 * (2 * pr.val + half.val) + d.val
      omega
  · rw [if_pos ((edge_iff i jb t).2 ht), EReal.add_bot, if_neg ht]

/-- The weight of a key outside the sequence is zero. -/
theorem wt_outside (kh : Fin 2) (g' : Fin 4) (n : Fin 32) (r : Fin 128) (t : Fin 384) (x : EReal) (ht : ¬ AttnSpec.inside n t) :
    AttnMath.wt (AttnSpec.score q kv bias b n r kh g') x t = 0 := by
  unfold AttnMath.wt
  rw [show AttnSpec.score q kv bias b n r kh g' t = ⊥ from if_neg ht, EReal.bot_sub]
  rfl

/-- A pair's columns are the layer's head. -/
theorem pair_eq (h : A.Cut q kv bias k g b i) (jb : Fin 8) (kh pr half : Fin 2) (r : Fin 128) (d : Fin 64) :
    A.pair (BitVec.ofNat 32 i.val) jb kh pr (ix2 r (⟨64 * half.val + d.val, by omega⟩ : Fin 128))
      = AttnSpec.headOver q kv bias k b (blockNo i jb) r kh (headNo pr half) d := by
  rw [pair_apply, score_eq h, sink_apply, h.sinks]
  unfold AttnSpec.headOver AttnSpec.sinkOf
  refine congrArg (fun x => Ideal.div x _) (Finset.sum_congr rfl fun t _ => ?_)
  by_cases ht : AttnSpec.inside (blockNo i jb) t
  · rw [kv_eq h jb t _ ht]
  · rw [wt_outside _ _ _ _ _ _ ht, zero_mul, zero_mul]

/-- A column of a row is one of a head's. -/
theorem col_split (j : Fin 512) : ∃ (kh pr half : Fin 2) (d : Fin 64), j = ⟨256 * kh.val + 128 * pr.val + 64 * half.val + d.val, by omega⟩ :=
  ⟨⟨j.val / 256, by omega⟩, ⟨j.val % 256 / 128, by omega⟩, ⟨j.val % 128 / 64, by omega⟩, ⟨j.val % 64, by omega⟩,
    Fin.ext (by show j.val = 256 * (j.val / 256) + 128 * (j.val % 256 / 128) + 64 * (j.val % 128 / 64) + j.val % 64; omega)⟩

/-- A row before its norm is the layer's. -/
theorem line_eq (h : A.Cut q kv bias k g b i) (jb : Fin 8) (r : Fin 128) (j : Fin 512) :
    A.line (BitVec.ofNat 32 i.val) jb (ix2 r j)
      = AttnSpec.rows (AttnSpec.headOver q kv bias k) (ix3 b (⟨1024 * i.val + (128 * jb.val + r.val), by omega⟩ : Fin 4096) j) := by
  obtain ⟨kh, pr, half, d, rfl⟩ := col_split j
  rw [line_apply, pair_eq h]
  refine (AttnSpec.rows_apply (AttnSpec.headOver q kv bias k) b (blockNo i jb) r kh (headNo pr half) d).symm.trans ?_
  refine congrArg₂ (fun (l : Fin 4096) (j : Fin 512) => AttnSpec.rows (AttnSpec.headOver q kv bias k) (ix3 b l j)) (Fin.ext ?_) (Fin.ext ?_)
  · show 128 * (8 * i.val + jb.val) + r.val = 1024 * i.val + (128 * jb.val + r.val)
    omega
  · show 256 * kh.val + 64 * (2 * pr.val + half.val) + d.val = 256 * kh.val + 128 * pr.val + 64 * half.val + d.val
    omega

/-- What a query block stores is the layer's. -/
theorem block_eq (h : A.Cut q kv bias k g b i) (jb : Fin 8) (r : Fin 128) (j : Fin 512) :
    A.block (BitVec.ofNat 32 i.val) jb (ix3 (0 : Fin 1) r j)
      = AttnSpec.attentionOver q kv bias k g (ix3 b (⟨1024 * i.val + (128 * jb.val + r.val), by omega⟩ : Fin 4096) j) := by
  show finish (A.line (BitVec.ofNat 32 i.val) jb) A.x6 (ix3 (0 : Fin 1) r j) = _
  rw [finish_apply]
  simp only [line_eq h, h.norm]
  rfl

/-- One stored query block, where it holds a given entry. -/
theorem tile (A : Args) (w : BitVec 32) (jb : Fin 8) (r : Fin 128) (j : Fin 512) (o : ℕ) (jb' : Fin 8) (ho : o = 128 * jb'.val) :
    View.TileAt (Val := Elt Ideal) (e := .bf16) (S := S1x1024x512) (ix3 (0 : Fin 1) (⟨128 * jb.val + r.val, by omega⟩ : Fin 1024) j) ![0, o, 0] ![1, 128, 512]
      (A.block w jb') (A.block w jb (ix3 (0 : Fin 1) r j)) := by
  subst ho
  intro x hx
  have h1 : 128 * jb.val + r.val = 128 * jb'.val + (x 1).val := hx 1
  have h2 : j.val = 0 + (x 2).val := hx 2
  have hr : (x 1).val < 128 := (x 1).isLt
  have e : jb' = jb := Fin.ext (by omega)
  subst e
  refine congrArg (A.block w jb') ?_
  funext a
  match a with
  | ⟨0, _⟩ => exact Fin.ext (by have : (x 0).val < 1 := (x 0).isLt; show (x 0).val = 0; omega)
  | ⟨1, _⟩ => exact Fin.ext (by show (x 1).val = r.val; omega)
  | ⟨2, _⟩ => exact Fin.ext (by show (x 2).val = j.val; omega)

/-- The stored block at an index is its query block's. -/
theorem stored_apply (A : Args) (w : BitVec 32) (jb : Fin 8) (r : Fin 128) (j : Fin 512) :
    View.canon (Val := Elt Ideal) (e := .bf16) (s := S1x1024x512) (A.stored w) (ix3 (0 : Fin 1) (⟨128 * jb.val + r.val, by omega⟩ : Fin 1024) j)
      = A.block w jb (ix3 (0 : Fin 1) r j) := by
  unfold Args.stored
  refine View.canon_eq_of_allAt _ _ _ (View.cover_of_tiled_head _ _ _ (by rfl) _) ?_
  exact View.allAt_cons_unit _ _ _ _ _ (tile A w jb r j 896 7 rfl) <| View.allAt_cons_unit _ _ _ _ _ (tile A w jb r j 768 6 rfl) <|
    View.allAt_cons_unit _ _ _ _ _ (tile A w jb r j 640 5 rfl) <| View.allAt_cons_unit _ _ _ _ _ (tile A w jb r j 512 4 rfl) <|
    View.allAt_cons_unit _ _ _ _ _ (tile A w jb r j 384 3 rfl) <| View.allAt_cons_unit _ _ _ _ _ (tile A w jb r j 256 2 rfl) <|
    View.allAt_cons_unit _ _ _ _ _ (tile A w jb r j 128 1 rfl) <| View.allAt_cons_unit _ _ _ _ _ (tile A w jb r j 0 0 rfl) <|
    View.allAt_nil _ _

end Cert.AttnTiles
end
-- ==== Proof.AttnValue.lean ====
/- The attention kernel's result array is the layer's attention with the division after the sum, at every float memory over the
   extended reals. -/
module

public import proofs.«01_k».proof.Proof.AttnBlock
public import proofs.«01_k».proof.Proof.AttnKernelSpec
public import Idealize.ShloMosaic.Lib.Pipeline.Value
public import Idealize.ShloMosaic.Lib.Pipeline.ValueKit

@[expose] public section
set_option maxRecDepth 16384
noncomputable section
namespace Cert.AttnValue
open Cert.KernelIdeal Cert.KernelIdeal.Gen Idealize.ShloMosaic Idealize.ShloMosaic.TcCoe Idealize.SL.Sem
open Idealize.ShloMosaic.Pipeline (Dat)
open scoped BigOperators
variable (m : (ℓ : Loc nD τ sig) → Buf (Elt Ideal) ℓ)

/-- The blocks every grid point stages: the sinks whole, batch row `t / 4` and block row `t % 4` of the queries and the key-value rows, the key-value
    blocks before and after it as far as the sequence has them, the bias whole, and the first layer's norm weights. -/
theorem idx : ∀ t : Fin cfg0.N, win0_0.index t = ![0, 0] ∧ win0_1.index t = ![t.val / 4, t.val % 4, 0] ∧ win0_2.index t = ![t.val / 4, 8 * (t.val % 4) - 1, 0]
    ∧ win0_3.index t = ![t.val / 4, t.val % 4, 0] ∧ win0_4.index t = ![t.val / 4, min (8 * (t.val % 4) + 8) 31, 0] ∧ win0_5.index t = ![0, 0, 0]
    ∧ win0_6.index t = ![0, 0, 0] ∧ win0_7.index t = ![t.val / 4, t.val % 4, 0] :=
  (by decide +kernel : ∀ t : Fin grid0.N, _)

/-- The second grid coordinate is the block row. -/
theorem coord : ∀ t : Fin cfg0.N, (grid0.coords t 1).val = t.val % 4 := (by decide +kernel : ∀ t : Fin grid0.N, _)

/-- The prepared norm weights, read at an index. -/
theorem V9_apply (c : Dev nD) (i : Fin 4) (o : Fin 1) (e : Fin 512) :
    (show FVec Ideal S4x1x512 .f32 from V m c main_v9) (ix3 i o e)
      = (show FVec Ideal S4x512 .f32 from m ((c : Thread nD τ).loc main_arg4)) (ix2 i e) := by
  unfold V
  after_reads_at

/-- The query block of a grid point is batch row `t / 4`, block row `t % 4`. -/
theorem blk1 (c : Dev nD) (t : Fin cfg0.N) (l : Fin 1024) (j : Fin 512) :
    (show FVec Ideal S1x1024x512 .bf16 from iblk m c 1 t) (ix3 (0 : Fin 1) l j)
      = (show FVec Ideal S8x4096x512 .bf16 from m ((c : Thread nD τ).loc main_arg0))
          (ix3 (⟨t.val / 4, by have : t.val < 32 := t.isLt; omega⟩ : Fin 8) (⟨1024 * (t.val % 4) + l.val, by omega⟩ : Fin 4096) j) := by
  blk_ext [iblk, V, idx t]

/-- The key-value rows of a grid point are its block row's. -/
theorem blk3 (c : Dev nD) (t : Fin cfg0.N) (s : Fin 1024) (e : Fin 256) :
    (show FVec Ideal S1x1024x256 .bf16 from iblk m c 3 t) (ix3 (0 : Fin 1) s e)
      = (show FVec Ideal S8x4096x256 .bf16 from m ((c : Thread nD τ).loc main_arg1))
          (ix3 (⟨t.val / 4, by have : t.val < 32 := t.isLt; omega⟩ : Fin 8) (⟨1024 * (t.val % 4) + s.val, by omega⟩ : Fin 4096) e) := by
  blk_ext [iblk, V, idx t]

/-- The key-value block before a grid point's, or the first where there is none. -/
theorem blk2 (c : Dev nD) (t : Fin cfg0.N) (s : Fin 128) (e : Fin 256) :
    (show FVec Ideal S1x128x256 .bf16 from iblk m c 2 t) (ix3 (0 : Fin 1) s e)
      = (show FVec Ideal S8x4096x256 .bf16 from m ((c : Thread nD τ).loc main_arg1))
          (ix3 (⟨t.val / 4, by have : t.val < 32 := t.isLt; omega⟩ : Fin 8) (⟨128 * (8 * (t.val % 4) - 1) + s.val, by omega⟩ : Fin 4096) e) := by
  blk_ext [iblk, V, idx t]

/-- The key-value block after a grid point's, or the last where there is none. -/
theorem blk4 (c : Dev nD) (t : Fin cfg0.N) (s : Fin 128) (e : Fin 256) :
    (show FVec Ideal S1x128x256 .bf16 from iblk m c 4 t) (ix3 (0 : Fin 1) s e)
      = (show FVec Ideal S8x4096x256 .bf16 from m ((c : Thread nD τ).loc main_arg1))
          (ix3 (⟨t.val / 4, by have : t.val < 32 := t.isLt; omega⟩ : Fin 8) (⟨128 * min (8 * (t.val % 4) + 8) 31 + s.val, by omega⟩ : Fin 4096) e) := by
  blk_ext [iblk, V, idx t]

/-- The sinks of a grid point are the argument. -/
theorem blk0 (c : Dev nD) (t : Fin cfg0.N) (s : Fin 4) (e : Fin 8) :
    (show FVec Ideal S4x8 .f32 from iblk m c 0 t) (ix2 s e)
      = (show FVec Ideal S4x8 .f32 from m ((c : Thread nD τ).loc main_arg3)) (ix2 s e) := by
  blk_ext [iblk, V, idx t]

/-- The norm block of a grid point is the first layer's. -/
theorem blk6 (c : Dev nD) (t : Fin cfg0.N) (e : Fin 512) :
    (show FVec Ideal S1x1x512 .f32 from iblk m c 6 t) (ix3 (0 : Fin 1) (0 : Fin 1) e)
      = (show FVec Ideal S4x512 .f32 from m ((c : Thread nD τ).loc main_arg4)) (ix2 (0 : Fin 4) e) := by
  refine Eq.trans ?_ (V9_apply m c 0 0 e)
  blk_ext [iblk, idx t]

/-- The bias block of a grid point is the prepared bias. -/
theorem blk5 (c : Dev nD) (t : Fin cfg0.N) (kh : Fin 2) (r : Fin 512) (e : Fin 384) :
    (show FVec Ideal S2x512x384 .f32 from iblk m c 5 t) (ix3 kh r e)
      = (show FVec Ideal S2x512x384 .f32 from V m c main_v8) (ix3 kh r e) := by
  blk_ext [iblk, idx t]

/-- The gathered places of four, read at an index. -/
theorem gather_at {α : Type} (X : S2x4x128x384.Idx → α) (J : IVec S4x1 32) (kh : Fin 2) (x p : Fin 4) (r : Fin 128) (t : Fin 384)
    (h : J (ix2 x (0 : Fin 1)) = BitVec.ofNat 32 p.val) :
    Host.gather gather_S2x4x128x384_S4x1_S2x4x128x384_023_1_n_n_1_1_21128384 X J (ix4 kh x r t) = X (ix4 kh p r t) := by
  unfold Host.gather
  refine congrArg X ?_
  funext a
  refine Fin.ext ?_
  match a with
  | ⟨0, _⟩ => show 0 + 0 + kh.val = kh.val; omega
  | ⟨1, _⟩ =>
    show gather_S2x4x128x384_S4x1_S2x4x128x384_023_1_n_n_1_1_21128384.start (ix4 kh x r t) J (1 : Fin 4) + 0 + 0 = p.val
    unfold GatherDims.start
    rw [dif_pos (show (1 : Fin 4) ∈ gather_S2x4x128x384_S4x1_S2x4x128x384_023_1_n_n_1_1_21128384.startIndexMap from List.mem_singleton.mpr rfl)]
    have hsi : gather_S2x4x128x384_S4x1_S2x4x128x384_023_1_n_n_1_1_21128384.siIdx (ix4 kh x r t)
        ⟨List.idxOf (1 : Fin 4) gather_S2x4x128x384_S4x1_S2x4x128x384_023_1_n_n_1_1_21128384.startIndexMap,
          List.idxOf_lt_length_iff.2 (List.mem_singleton.mpr rfl)⟩ = ix2 x (0 : Fin 1) := by
      funext b; refine Fin.ext ?_
      match b with
      | ⟨0, _⟩ => rfl
      | ⟨1, _⟩ => rfl
    rw [hsi, h]
    clear h hsi
    revert p
    decide
  | ⟨2, _⟩ => show 0 + 0 + r.val = r.val; omega
  | ⟨3, _⟩ => show 0 + 0 + t.val = t.val; omega

/-- The order the heads' biases are taken in. -/
theorem order : ∀ pr half : Fin 2, (broadcastInDim S4x1 ![0] bcast_S4_S4x1_0
        (select
          (cmpi CmpIPredicate.slt (fun i => lit0 (S4.rowMajor i))
            (broadcastInDim S4 ![] bcast_S_S4 (constantI S_ 32 0#32)))
          (addi (fun i => lit0 (S4.rowMajor i)) (broadcastInDim S4 ![] bcast_S_S4 (constantI S_ 32 4#32))) fun i =>
          lit0 (S4.rowMajor i)) : IVec S4x1 32) (ix2 (⟨2 * half.val + pr.val, by omega⟩ : Fin 4) (0 : Fin 1))
      = BitVec.ofNat 32 (⟨2 * pr.val + half.val, by omega⟩ : Fin 4).val := by
  decide +kernel

/-- The prepared bias, read at an index: the first heads of the pairs, then the second heads. -/
theorem V8_apply (c : Dev nD) (kh pr half : Fin 2) (r : Fin 128) (t : Fin 384) :
    (show FVec Ideal S2x512x384 .f32 from V m c main_v8) (ix3 kh (⟨256 * half.val + 128 * pr.val + r.val, by omega⟩ : Fin 512) t)
      = (show FVec Ideal S8x128x384 .f32 from m ((c : Thread nD τ).loc main_arg2))
          (ix3 (⟨4 * kh.val + (2 * pr.val + half.val), by omega⟩ : Fin 8) r t) := by
  unfold V
  after_reads_at
  have e : (⟨(256 * half.val + 128 * pr.val + r.val) / 128, by omega⟩ : Fin 4) = ⟨2 * half.val + pr.val, by omega⟩ := Fin.ext (by show (256 * half.val + 128 * pr.val + r.val) / 128 = 2 * half.val + pr.val; omega)
  rw [e]
  refine (gather_at _ _ _ _ _ _ _ (order pr half)).trans ?_
  refine congrArg (fun k => m ((c : Thread nD τ).loc main_arg2) (ix3 k r t)) (Fin.ext ?_)
  show kh.val * 4 + (2 * pr.val + half.val) = 4 * kh.val + (2 * pr.val + half.val)
  omega
/-- The blocks a grid point stages. -/
def args (c : Dev nD) (t : Fin cfg0.N) : AttnTiles.Args :=
  ⟨iblk m c 0 t, iblk m c 1 t, iblk m c 2 t, iblk m c 3 t, iblk m c 4 t, iblk m c 5 t, iblk m c 6 t⟩

/-- The batch row of a grid point. -/
abbrev rowOf (t : Fin cfg0.N) : Fin 8 := ⟨t.val / 4, by have : t.val < 32 := t.isLt; omega⟩

/-- The block row of a grid point. -/
abbrev partOf (t : Fin cfg0.N) : Fin 4 := ⟨t.val % 4, by omega⟩

/-- They are cut from the argument arrays. -/
theorem cut (c : Dev nD) (t : Fin cfg0.N) : (args m c t).Cut (m ((c : Thread nD τ).loc main_arg0)) (m ((c : Thread nD τ).loc main_arg1))
    (m ((c : Thread nD τ).loc main_arg2)) (m ((c : Thread nD τ).loc main_arg3)) (m ((c : Thread nD τ).loc main_arg4)) (rowOf t) (partOf t) := by
  refine ⟨fun h => ?_, fun l j => ?_, fun s e => ?_, fun s e => ?_, fun s e => ?_, fun kh pr half r k => ?_, fun j => ?_⟩
  · exact blk0 m c t 0 h
  · exact blk1 m c t l j
  · exact blk2 m c t s e
  · exact blk3 m c t s e
  · exact blk4 m c t s e
  · have h := (blk5 m c t kh (⟨256 * half.val + 128 * pr.val + r.val, by omega⟩ : Fin 512) k).trans (V8_apply m c kh pr half r k)
    generalize hX : (show FVec Ideal S2x512x384 .f32 from iblk m c 5 t) = X at h
    have e : (args m c t).x5 = X := by
      rw [← hX]
      unfold args
      dsimp only
    rw [e]
    exact h
  · exact blk6 m c t j

/-- A row of a block is one of a query block's. -/
theorem row_split (y : S1x1024x512.Idx) : ∃ (jb : Fin 8) (r : Fin 128) (j : Fin 512),
    y = ix3 (0 : Fin 1) (⟨128 * jb.val + r.val, by omega⟩ : Fin 1024) j := by
  have h1 : (y 1).val < 1024 := (y 1).isLt
  refine ⟨⟨(y 1).val / 128, by omega⟩, ⟨(y 1).val % 128, by omega⟩, y 2, ?_⟩
  funext a
  match a with
  | ⟨0, _⟩ => exact Fin.ext (by have : (y 0).val < 1 := (y 0).isLt; show (y 0).val = 0; omega)
  | ⟨1, _⟩ => exact Fin.ext (by show (y 1).val = 128 * ((y 1).val / 128) + (y 1).val % 128; omega)
  | ⟨2, _⟩ => rfl

/-- The result array after the run is the layer's attention of the argument arrays, with the division after the sum. -/
theorem final (c : Dev nD) : (dats m 0 c).arrAt 7 (cfgs 0).N
    = AttnSpec.attentionOver (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 7 _ (by decide +kernel) fun t _ y => ?_
  blk_simp
  rw [after0_7]
  simp only [outsAt0]
  rw [out7]
  obtain ⟨jb, r, j, rfl⟩ := row_split y
  rw [coord t]
  refine (AttnTiles.stored_apply (args m c t) (BitVec.ofNat 32 (partOf t).val) jb r j).trans ?_
  refine (AttnTiles.block_eq (cut m c t) jb r j).trans ?_
  congr 1
  funext a
  match a with
  | ⟨0, _⟩ => refine Fin.ext ?_; blk_simp [idx t]; show t.val / 4 = t.val / 4 + 0; omega
  | ⟨1, _⟩ =>
    refine Fin.ext ?_
    blk_simp [idx t]
    show 1024 * (t.val % 4) + (128 * jb.val + r.val) = t.val % 4 * 1024 + (128 * jb.val + r.val)
    omega
  | ⟨2, _⟩ => refine Fin.ext ?_; blk_simp [idx t]

end Cert.AttnValue
end
-- ==== Proof.AttnRef.lean ====
/- The attention reference as plain functions of vectors: the windows of keys and values, the scores, the weights, the weighted
   values and the closing norm. -/
module

public import proofs.«01_k».proof.Proof.Gen.ReferenceIdeal.Run
public import Idealize.ShloMosaic.Lib.Claim
public import Idealize.ShloMosaic.Lib.Pointwise

@[expose] public section
set_option maxRecDepth 16384
noncomputable section
namespace Cert.AttnRef
open Cert.ReferenceIdeal Cert.ReferenceIdeal.Gen Idealize.ShloMosaic Idealize.ShloMosaic.TcCoe
open scoped BigOperators

/-- The queries by block, key-value head and head of its group. -/
def queries (q : FVec Ideal S8x4096x512 .bf16) : FVec Ideal S8x32x128x2x4x64 .f32 :=
  shapeCast _ (extf .f32 q bitsLt_bf16_f32) shapeCasts_S8x4096x512_S8x32x128x2x4x64

/-- The keys by block and key-value head. -/
def keys (kv : FVec Ideal S8x4096x256 .bf16) : FVec Ideal S8x32x128x2x64 .f32 :=
  shapeCast _ (extractStridedSlice S8x4096x128 ![0, 0, 0] (extf .f32 kv bitsLt_bf16_f32) slices_S8x4096x256_S8x4096x128_0_0_0)
    shapeCasts_S8x4096x128_S8x32x128x2x64

/-- The values by block and key-value head. -/
def vals (kv : FVec Ideal S8x4096x256 .bf16) : FVec Ideal S8x32x128x2x64 .f32 :=
  shapeCast _ (extractStridedSlice S8x4096x128 ![0, 0, 128] (extf .f32 kv bitsLt_bf16_f32) slices_S8x4096x256_S8x4096x128_0_0_128)
    shapeCasts_S8x4096x128_S8x32x128x2x64

/-- A block of zeros before the first block and after the last. -/
def padded (x : FVec Ideal S8x32x128x2x64 .f32) : FVec Ideal S8x34x128x2x64 .f32 :=
  pad S8x34x128x2x64 ![0, 1, 0, 0, 0] ![0, 1, 0, 0, 0] ![0, 0, 0, 0, 0] x (sitofp .f32 (constantI S_ 32 0#32))
    pads_S8x32x128x2x64_S8x34x128x2x64_000_110_000_000_000 h_S_

/-- Each block with the block before it and the block after it. -/
def windows (x : FVec Ideal S8x34x128x2x64 .f32) : FVec Ideal S8x32x384x2x64 .f32 :=
  concatenate S8x32x384x2x64 2
    [⟨S8x32x128x2x64, extractStridedSlice S8x32x128x2x64 ![0, 0, 0, 0, 0] x slices_S8x34x128x2x64_S8x32x128x2x64_0_0_0_0_0⟩,
     ⟨S8x32x128x2x64, extractStridedSlice S8x32x128x2x64 ![0, 1, 0, 0, 0] x slices_S8x34x128x2x64_S8x32x128x2x64_0_1_0_0_0⟩,
     ⟨S8x32x128x2x64, extractStridedSlice S8x32x128x2x64 ![0, 2, 0, 0, 0] x slices_S8x34x128x2x64_S8x32x128x2x64_0_2_0_0_0⟩]
    concatenates_S8x32x128x2x64_S8x32x128x2x64_S8x32x128x2x64_S8x32x384x2x64_d2

/-- The position in the sequence of each key of a block's window. -/
def position : IVec S32x384 32 :=
  addi (broadcastInDim S32x384 ![0, 1] bcast_S32x1_S32x384_0_1 (muli (broadcastInDim S32x1 ![0] bcast_S32_S32x1_0 (iotaInDim S32 32 0))
      (broadcastInDim S32x1 ![] bcast_S_S32x1 (constantI S_ 32 128#32))))
    (broadcastInDim S32x384 ![0, 1] bcast_S1x384_S32x384_0_1 (broadcastInDim S1x384 ![1] bcast_S384_S1x384_1
      (subi (iotaInDim S384 32 0) (broadcastInDim S384 ![] bcast_S_S384 (constantI S_ 32 128#32)))))

/-- Which keys of a block's window lie in the sequence. -/
def valid : IVec S32x384 1 :=
  andi (cmpi .sge position (broadcastInDim S32x384 ![] bcast_S_S32x384 (constantI S_ 32 0#32)))
    (cmpi .slt position (broadcastInDim S32x384 ![] bcast_S_S32x384 (constantI S_ 32 4096#32)))

/-- The scores with the bias. -/
def biased (kw : FVec Ideal S8x32x384x2x64 .f32) (q : FVec Ideal S8x32x128x2x4x64 .f32) (bias : FVec Ideal S8x128x384 .f32) :
    FVec Ideal S8x32x2x4x128x384 .f32 :=
  addf (transpose S8x32x2x4x128x384 [0, 1, 2, 5, 4, 3]
      (Host.dotGeneral dot_S8x32x384x2x64_S8x32x128x2x4x64_S8x32x2x384x128x4_4_5_2_24_013_013 none kw q)
      transposes_S8x32x2x384x128x4_S8x32x2x4x128x384_0_1_2_5_4_3)
    (broadcastInDim S8x32x2x4x128x384 ![0, 1, 2, 3, 4, 5] bcast_S1x1x2x4x128x384_S8x32x2x4x128x384_0_1_2_3_4_5
      (broadcastInDim S1x1x2x4x128x384 ![2, 3, 4, 5] bcast_S2x4x128x384_S1x1x2x4x128x384_2_3_4_5
        (shapeCast _ bias shapeCasts_S8x128x384_S2x4x128x384)))

/-- Minus infinity where a key is outside the sequence. -/
def masked (c : IVec S32x384 1) (s : FVec Ideal S8x32x2x4x128x384 .f32) : FVec Ideal S8x32x2x4x128x384 .f32 :=
  select (broadcastInDim S8x32x2x4x128x384 ![0, 1, 2, 3, 4, 5] bcast_S1x32x1x1x1x384_S8x32x2x4x128x384_0_1_2_3_4_5
      (broadcastInDim S1x32x1x1x1x384 ![1, 5] bcast_S32x384_S1x32x1x1x1x384_1_5 c)) s
    (broadcastInDim S8x32x2x4x128x384 ![] bcast_S_S8x32x2x4x128x384 (id (constant S_ .f32 0xFF800000#32)))

/-- The sinks of the first layer, for every row. -/
def sinks (k : FVec Ideal S4x8 .f32) : FVec Ideal S8x32x2x4x128x1 .f32 :=
  broadcastInDim S8x32x2x4x128x1 ![0, 1, 2, 3, 4, 5] bcast_S1x1x2x4x1x1_S8x32x2x4x128x1_0_1_2_3_4_5
    (broadcastInDim S1x1x2x4x1x1 ![2, 3, 4, 5] bcast_S2x4x1x1_S1x1x2x4x1x1_2_3_4_5
      (shapeCast _ (shapeCast _ (extractStridedSlice S1x8 ![0, 0] k slices_S4x8_S1x8_0_0) shapeCasts_S1x8_S8) shapeCasts_S8_S2x4x1x1))

/-- The greatest score of a row. -/
def rowMax (s : FVec Ideal S8x32x2x4x128x384 .f32) : FVec Ideal S8x32x2x4x128 .f32 :=
  Host.reduce FloatOps.maximumf s (constant S_ .f32 0xFF800000#32) reducesTo_S8x32x2x4x128x384_S8x32x2x4x128_d5 h_S_

/-- The sum of a row. -/
def rowSum (w : FVec Ideal S8x32x2x4x128x384 .f32) : FVec Ideal S8x32x2x4x128 .f32 :=
  Host.reduceAdd w (constant S_ .f32 0x00000000#32) reducesTo_S8x32x2x4x128x384_S8x32x2x4x128_d5 h_S_

/-- The greatest score of a row, or its sink. -/
def tops (s : FVec Ideal S8x32x2x4x128x384 .f32) (k : FVec Ideal S8x32x2x4x128x1 .f32) : FVec Ideal S8x32x2x4x128x1 .f32 :=
  maximumf (broadcastInDim S8x32x2x4x128x1 ![0, 1, 2, 3, 4] bcast_S8x32x2x4x128_S8x32x2x4x128x1_0_1_2_3_4
    (rowMax s)) k

/-- The unnormalised weights. -/
def weights (s : FVec Ideal S8x32x2x4x128x384 .f32) (t : FVec Ideal S8x32x2x4x128x1 .f32) : FVec Ideal S8x32x2x4x128x384 .f32 :=
  Host.exp (subf s (broadcastInDim S8x32x2x4x128x384 ![0, 1, 2, 3, 4, 5] bcast_S8x32x2x4x128x1_S8x32x2x4x128x384_0_1_2_3_4_5 t))

/-- The sums of the weights and the sinks' weights. -/
def dens (w : FVec Ideal S8x32x2x4x128x384 .f32) (k t : FVec Ideal S8x32x2x4x128x1 .f32) : FVec Ideal S8x32x2x4x128x1 .f32 :=
  addf (broadcastInDim S8x32x2x4x128x1 ![0, 1, 2, 3, 4] bcast_S8x32x2x4x128_S8x32x2x4x128x1_0_1_2_3_4
    (rowSum w)) (Host.exp (subf k t))

/-- The weighted values, by block. -/
def mixed (vw : FVec Ideal S8x32x384x2x64 .f32) (w : FVec Ideal S8x32x2x4x128x384 .f32) (d : FVec Ideal S8x32x2x4x128x1 .f32) :
    FVec Ideal S8x32x128x2x4x64 .f32 :=
  transpose S8x32x128x2x4x64 [0, 1, 5, 2, 4, 3]
    (Host.dotGeneral dot_S8x32x384x2x64_S8x32x2x4x128x384_S8x32x2x64x4x128_2_5_4_34_013_012 none vw
      (Host.divf w (broadcastInDim S8x32x2x4x128x384 ![0, 1, 2, 3, 4, 5] bcast_S8x32x2x4x128x1_S8x32x2x4x128x384_0_1_2_3_4_5 d)))
    transposes_S8x32x2x64x4x128_S8x32x128x2x4x64_0_1_5_2_4_3

/-- The weighted values, row by row. -/
def flat (o : FVec Ideal S8x32x128x2x4x64 .f32) : FVec Ideal S8x4096x512 .f32 := shapeCast _ o shapeCasts_S8x32x128x2x4x64_S8x4096x512

/-- Rows, root-mean-square normalised with the first layer's weights. -/
def normed (o : FVec Ideal S8x4096x512 .f32) (g : FVec Ideal S4x512 .f32) : FVec Ideal S8x4096x512 .bf16 :=
  truncf .bf16 (mulf (mulf o (broadcastInDim S8x4096x512 ![0, 1, 2] bcast_S8x4096x1_S8x4096x512_0_1_2 (Host.rsqrt (addf
      (Host.divf (broadcastInDim S8x4096x1 ![0, 1] bcast_S8x4096_S8x4096x1_0_1
          (Host.reduceAdd (mulf o o) (constant S_ .f32 0x00000000#32) reducesTo_S8x4096x512_S8x4096_d2 h_S_))
        (broadcastInDim S8x4096x1 ![] bcast_S_S8x4096x1 (constant S_ .f32 0x44000000#32)))
      (broadcastInDim S8x4096x1 ![] bcast_S_S8x4096x1 (constant S_ .f32 0x358637BD#32))))))
    (broadcastInDim S8x4096x512 ![0, 1, 2] bcast_S1x1x512_S8x4096x512_0_1_2 (broadcastInDim S1x1x512 ![2] bcast_S512_S1x1x512_2
      (shapeCast _ (extractStridedSlice S1x512 ![0, 0] g slices_S4x512_S1x512_0_0) shapeCasts_S1x512_S512)))) bitsLt_bf16_f32

/-- The masked scores from the arguments. -/
def scores (q : FVec Ideal S8x4096x512 .bf16) (kv : FVec Ideal S8x4096x256 .bf16) (bias : FVec Ideal S8x128x384 .f32) :
    FVec Ideal S8x32x2x4x128x384 .f32 :=
  masked valid (biased (windows (padded (keys kv))) (queries q) bias)

/-- The weighted values from the arguments. -/
def attn (q : FVec Ideal S8x4096x512 .bf16) (kv : FVec Ideal S8x4096x256 .bf16) (bias : FVec Ideal S8x128x384 .f32) (k : FVec Ideal S4x8 .f32) :
    FVec Ideal S8x4096x512 .f32 :=
  flat (mixed (windows (padded (vals kv))) (weights (scores q kv bias) (tops (scores q kv bias) (sinks k)))
    (dens (weights (scores q kv bias) (tops (scores q kv bias) (sinks k))) (sinks k) (tops (scores q kv bias) (sinks k))))

/-- The reference's result is the norm of the weighted values. -/
theorem result (m : (ℓ : Loc nD τ sig) → Buf (Elt Ideal) ℓ) (c : Dev nD) :
    (show FVec Ideal S8x4096x512 .bf16 from Value.res_main_v79 (F := Ideal) m c)
      = normed (attn (m ((c.tc : Thread nD τ).loc main_arg0)) (m ((c.tc : Thread nD τ).loc main_arg1)) (m ((c.tc : Thread nD τ).loc main_arg2))
          (m ((c.tc : Thread nD τ).loc main_arg3))) (m ((c.tc : Thread nD τ).loc main_arg4)) := by
  unfold Value.res_main_v79
  rfl

end Cert.AttnRef
end
-- ==== Proof.AttnRefRead.lean ====
/- The attention reference's functions, read at an index. -/
module

public import proofs.«01_k».proof.Proof.AttnRef
public import proofs.«01_k».proof.Proof.AttnMath

@[expose] public section
set_option maxRecDepth 16384
noncomputable section
namespace Cert.AttnRef
open Cert.ReferenceIdeal Cert.ReferenceIdeal.Gen Idealize.ShloMosaic Idealize.ShloMosaic.TcCoe
open scoped BigOperators

/-- A query's entry. -/
theorem queries_apply (q : FVec Ideal S8x4096x512 .bf16) (b : Fin 8) (n : Fin 32) (r : Fin 128) (kh : Fin 2) (g : Fin 4) (d : Fin 64) :
    queries q (ix6 b n r kh g d)
      = q (ix3 b (⟨128 * n.val + r.val, by omega⟩ : Fin 4096) (⟨256 * kh.val + 64 * g.val + d.val, by omega⟩ : Fin 512)) := by
  pointwise [queries]
  simp only [Nat.mul_comm]

/-- A key's entry. -/
theorem keys_apply (kv : FVec Ideal S8x4096x256 .bf16) (b : Fin 8) (n : Fin 32) (s : Fin 128) (kh : Fin 2) (d : Fin 64) :
    keys kv (ix5 b n s kh d)
      = kv (ix3 b (⟨128 * n.val + s.val, by omega⟩ : Fin 4096) (⟨64 * kh.val + d.val, by omega⟩ : Fin 256)) := by
  pointwise [keys]
  simp only [Nat.mul_comm]

/-- A value's entry. -/
theorem vals_apply (kv : FVec Ideal S8x4096x256 .bf16) (b : Fin 8) (n : Fin 32) (s : Fin 128) (kh : Fin 2) (d : Fin 64) :
    vals kv (ix5 b n s kh d)
      = kv (ix3 b (⟨128 * n.val + s.val, by omega⟩ : Fin 4096) (⟨128 + 64 * kh.val + d.val, by omega⟩ : Fin 256)) := by
  pointwise [vals]
  simp only [Nat.mul_comm, Nat.add_assoc]

/-- A padded array's entry. -/
theorem padded_apply (x : FVec Ideal S8x32x128x2x64 .f32) (b : Fin 8) (n : Fin 34) (s : Fin 128) (kh : Fin 2) (d : Fin 64) :
    padded x (ix5 b n s kh d) = if h : 1 ≤ n.val ∧ n.val < 33 then x (ix5 b (⟨n.val - 1, by omega⟩ : Fin 32) s kh d) else 0 := by
  pointwise [padded]
  have h0 : (FloatOps.sitofp (F := Ideal) FTy.f32 0#32) = (0 : EReal) := by
    show (((0#32 : BitVec 32).toInt : ℝ) : EReal) = 0
    simp
  rw [h0]
  refine dite_congr (propext ⟨fun h => ⟨h.1, by omega⟩, fun h => ⟨h.1, by omega⟩⟩) (fun _ => rfl) fun _ => rfl

/-- A window's entry. -/
theorem windows_apply (x : FVec Ideal S8x34x128x2x64 .f32) (b : Fin 8) (n : Fin 32) (k : Fin 3) (s : Fin 128) (kh : Fin 2) (d : Fin 64) :
    windows x (ix5 b n (⟨128 * k.val + s.val, by omega⟩ : Fin 384) kh d) = x (ix5 b (⟨n.val + k.val, by omega⟩ : Fin 34) s kh d) := by
  fin_cases k
  · pointwise [windows]
  · pointwise [windows]
    simp only [Nat.add_comm 1]
  · pointwise [windows]
    have e1 : ¬ 256 + s.val < 128 := by omega
    have e2 : ¬ 256 + s.val - 128 < 128 := by omega
    have e4 : 256 + s.val - 128 - 128 = s.val := by omega
    simp only [dif_neg e1, dif_neg e2, e4, Fin.eta, Nat.add_comm 2]

/-- A score with the bias. -/
theorem biased_apply (kw : FVec Ideal S8x32x384x2x64 .f32) (q : FVec Ideal S8x32x128x2x4x64 .f32) (bias : FVec Ideal S8x128x384 .f32)
    (b : Fin 8) (n : Fin 32) (kh : Fin 2) (g : Fin 4) (r : Fin 128) (t : Fin 384) :
    biased kw q bias (ix6 b n kh g r t)
      = (∑ d : Fin 64, kw (ix5 b n t kh d) * q (ix6 b n r kh g d)) + bias (ix3 (⟨4 * kh.val + g.val, by omega⟩ : Fin 8) r t) := by
  pointwise [biased]
  simp only [Nat.mul_comm]

/-- A masked score. -/
theorem masked_apply (c : IVec S32x384 1) (s : FVec Ideal S8x32x2x4x128x384 .f32)
    (b : Fin 8) (n : Fin 32) (kh : Fin 2) (g : Fin 4) (r : Fin 128) (t : Fin 384) :
    masked c s (ix6 b n kh g r t) = if c (ix2 n t) = 1#1 then s (ix6 b n kh g r t) else ⊥ := by
  pointwise [masked]
  have h : id (constant (F := Ideal) S_ FTy.f32 4286578688#32) ix0 = (⊥ : EReal) := by
    show Ideal.ofBits FTy.f32 4286578688#32 = (⊥ : EReal)
    simp [Ideal.ofBits, Ideal.ieee]
  rw [h]
  rfl

/-- A sink. -/
theorem sinks_apply (k : FVec Ideal S4x8 .f32) (b : Fin 8) (n : Fin 32) (kh : Fin 2) (g : Fin 4) (r : Fin 128) :
    sinks k (ix6 b n kh g r (0 : Fin 1)) = k (ix2 (0 : Fin 4) (⟨4 * kh.val + g.val, by omega⟩ : Fin 8)) := by
  pointwise [sinks]
  simp only [Nat.mul_comm]

/-- The entries of a row of six axes. -/
theorem row_iff {n0 n1 n2 n3 n4 n5 : ℕ} (h : (⟨6, ![n0, n1, n2, n3, n4, n5]⟩ : Shape).ReducesTo [5] (⟨5, ![n0, n1, n2, n3, n4]⟩ : Shape))
    (a : Fin n0) (b : Fin n1) (c : Fin n2) (d : Fin n3) (e : Fin n4) (i : (⟨6, ![n0, n1, n2, n3, n4, n5]⟩ : Shape).Idx) :
    h.drop i = ix5 a b c d e ↔ ∃ k : Fin n5, ix6 a b c d e k = i := by
  constructor
  · intro q
    refine ⟨i 5, ?_⟩
    funext x
    match x with
    | ⟨0, _⟩ => exact Fin.ext (congrArg Fin.val (congrFun q ⟨0, by show 0 < 5; omega⟩)).symm
    | ⟨1, _⟩ => exact Fin.ext (congrArg Fin.val (congrFun q ⟨1, by show 1 < 5; omega⟩)).symm
    | ⟨2, _⟩ => exact Fin.ext (congrArg Fin.val (congrFun q ⟨2, by show 2 < 5; omega⟩)).symm
    | ⟨3, _⟩ => exact Fin.ext (congrArg Fin.val (congrFun q ⟨3, by show 3 < 5; omega⟩)).symm
    | ⟨4, _⟩ => exact Fin.ext (congrArg Fin.val (congrFun q ⟨4, by show 4 < 5; omega⟩)).symm
    | ⟨5, _⟩ => rfl
  · rintro ⟨k, rfl⟩
    funext x
    match x with
    | ⟨0, _⟩ => rfl
    | ⟨1, _⟩ => rfl
    | ⟨2, _⟩ => rfl
    | ⟨3, _⟩ => rfl
    | ⟨4, _⟩ => rfl

/-- The greatest score of a row, read at an index. -/
theorem rowMax_apply (s : FVec Ideal S8x32x2x4x128x384 .f32) (b : Fin 8) (n : Fin 32) (kh : Fin 2) (g : Fin 4) (r : Fin 128) :
    rowMax s (ix5 b n kh g r) = (Finset.univ : Finset (Fin 384)).fold max ⊥ fun t => s (ix6 b n kh g r t) := by
  have hb : constant (F := Ideal) S_ FTy.f32 0xFF800000#32 (Shape.Idx.first h_S_) = (⊥ : EReal) := by
    show Ideal.ofBits FTy.f32 4286578688#32 = (⊥ : EReal)
    simp [Ideal.ofBits, Ideal.ieee]
  have h : rowMax s (ix5 b n kh g r)
      = Host.reduce (max : EReal → EReal → EReal) s (constant (F := Ideal) S_ .f32 0xFF800000#32) reducesTo_S8x32x2x4x128x384_S8x32x2x4x128_d5 h_S_ (ix5 b n kh g r) := rfl
  rw [h, Host.reduce_eq_fold, hb]
  exact Finset.fold_filter_eq_fold_of_fiber max _ (fun k : Fin 384 => ix6 b n kh g r k) (fun _ _ e => congrFun e 5) (row_iff _ b n kh g r) ⊥ s

/-- The sum of a row, read at an index. -/
theorem rowSum_apply (s : FVec Ideal S8x32x2x4x128x384 .f32) (b : Fin 8) (n : Fin 32) (kh : Fin 2) (g : Fin 4) (r : Fin 128) :
    rowSum s (ix5 b n kh g r) = ∑ t : Fin 384, s (ix6 b n kh g r t) := by
  have hb : constant (F := Ideal) S_ FTy.f32 0x00000000#32 (Shape.Idx.first h_S_) = (0 : EReal) := by
    show Ideal.ofBits FTy.f32 0#32 = (0 : EReal)
    simp [Ideal.ofBits, Ideal.ieee]
  have h : rowSum s (ix5 b n kh g r)
      = Ideal.hostReduceAdd reducesTo_S8x32x2x4x128x384_S8x32x2x4x128_d5 s (constant (F := Ideal) S_ .f32 0x00000000#32 (Shape.Idx.first h_S_)) (ix5 b n kh g r) := rfl
  rw [h, hb, Ideal.hostReduceAdd, zero_add]
  exact Finset.sum_filter_eq_sum_of_fiber _ (fun k : Fin 384 => ix6 b n kh g r k) (fun _ _ e => congrFun e 5) (row_iff _ b n kh g r) s

/-- The greatest score of a row, or its sink. -/
theorem tops_apply (s : FVec Ideal S8x32x2x4x128x384 .f32) (k : FVec Ideal S8x32x2x4x128x1 .f32)
    (b : Fin 8) (n : Fin 32) (kh : Fin 2) (g : Fin 4) (r : Fin 128) :
    tops s k (ix6 b n kh g r (0 : Fin 1)) = AttnMath.top (fun t => s (ix6 b n kh g r t)) (k (ix6 b n kh g r (0 : Fin 1))) := by
  have h : ∀ X : FVec Ideal S8x32x2x4x128 .f32, (maximumf (broadcastInDim S8x32x2x4x128x1 ![0, 1, 2, 3, 4]
      bcast_S8x32x2x4x128_S8x32x2x4x128x1_0_1_2_3_4 X) k : FVec Ideal S8x32x2x4x128x1 .f32) (ix6 b n kh g r (0 : Fin 1))
        = max (X (ix5 b n kh g r)) (k (ix6 b n kh g r (0 : Fin 1))) := by
    intro X
    pointwise []
  unfold tops
  rw [h, rowMax_apply]
  unfold AttnMath.top
  with_reducible rfl

/-- A weight. -/
theorem weights_apply (s : FVec Ideal S8x32x2x4x128x384 .f32) (t : FVec Ideal S8x32x2x4x128x1 .f32)
    (b : Fin 8) (n : Fin 32) (kh : Fin 2) (g : Fin 4) (r : Fin 128) (j : Fin 384) :
    weights s t (ix6 b n kh g r j) = Ideal.exp (s (ix6 b n kh g r j) - t (ix6 b n kh g r (0 : Fin 1))) := by
  pointwise [weights]

/-- The sum of a row's weights and its sink's weight. -/
theorem dens_apply (w : FVec Ideal S8x32x2x4x128x384 .f32) (k t : FVec Ideal S8x32x2x4x128x1 .f32)
    (b : Fin 8) (n : Fin 32) (kh : Fin 2) (g : Fin 4) (r : Fin 128) :
    dens w k t (ix6 b n kh g r (0 : Fin 1)) = (∑ j : Fin 384, w (ix6 b n kh g r j))
      + Ideal.exp (k (ix6 b n kh g r (0 : Fin 1)) - t (ix6 b n kh g r (0 : Fin 1))) := by
  have h : ∀ X : FVec Ideal S8x32x2x4x128 .f32, (addf (broadcastInDim S8x32x2x4x128x1 ![0, 1, 2, 3, 4]
      bcast_S8x32x2x4x128_S8x32x2x4x128x1_0_1_2_3_4 X) (Host.exp (subf k t)) : FVec Ideal S8x32x2x4x128x1 .f32) (ix6 b n kh g r (0 : Fin 1))
        = X (ix5 b n kh g r) + Ideal.exp (k (ix6 b n kh g r (0 : Fin 1)) - t (ix6 b n kh g r (0 : Fin 1))) := by
    intro X
    pointwise []
  unfold dens
  rw [h, rowSum_apply]

/-- A weighted value. -/
theorem mixed_apply (vw : FVec Ideal S8x32x384x2x64 .f32) (w : FVec Ideal S8x32x2x4x128x384 .f32) (e : FVec Ideal S8x32x2x4x128x1 .f32)
    (b : Fin 8) (n : Fin 32) (r : Fin 128) (kh : Fin 2) (g : Fin 4) (d : Fin 64) :
    mixed vw w e (ix6 b n r kh g d)
      = ∑ t : Fin 384, vw (ix5 b n t kh d) * Ideal.div (w (ix6 b n kh g r t)) (e (ix6 b n kh g r (0 : Fin 1))) := by
  pointwise [mixed]

/-- A row's entry is a head's. -/
theorem flat_apply (o : FVec Ideal S8x32x128x2x4x64 .f32) (b : Fin 8) (n : Fin 32) (r : Fin 128) (kh : Fin 2) (g : Fin 4) (d : Fin 64) :
    flat o (ix3 b (⟨128 * n.val + r.val, by omega⟩ : Fin 4096) (⟨256 * kh.val + 64 * g.val + d.val, by omega⟩ : Fin 512)) = o (ix6 b n r kh g d) := by
  pointwise [flat]

/-- A normalised entry. -/
theorem normed_apply (o : FVec Ideal S8x4096x512 .f32) (g : FVec Ideal S4x512 .f32) (b : Fin 8) (l : Fin 4096) (j : Fin 512) :
    normed o g (ix3 b l j) = o (ix3 b l j) * Ideal.rsqrt (Ideal.div (∑ e : Fin 512, o (ix3 b l e) * o (ix3 b l e)) (Ideal.ofBits .f32 0x44000000#32)
      + Ideal.ofBits .f32 0x358637BD#32) * g (ix2 (0 : Fin 4) j) := by
  pointwise [normed]

/-- The position of a key. -/
theorem valid_apply (n : Fin 32) (t : Fin 384) :
    valid (ix2 n t) = if 128 ≤ 128 * n.val + t.val ∧ 128 * n.val + t.val < 4224 then 1#1 else 0#1 := by
  pointwise [valid, position]
  revert n t
  decide +kernel

end Cert.AttnRef
end
-- ==== Proof.AttnRefSpec.lean ====
/- The attention reference is the layer's attention as mathematics. -/
module

public import proofs.«01_k».proof.Proof.AttnRefRead
public import proofs.«01_k».proof.Proof.AttnSpec

@[expose] public section
set_option maxRecDepth 16384
noncomputable section
namespace Cert.AttnRef
open Cert.ReferenceIdeal Cert.ReferenceIdeal.Gen Idealize.ShloMosaic Idealize.ShloMosaic.TcCoe
open scoped BigOperators

/-- A key of a window is one of its three blocks'. -/
theorem window_split (t : Fin 384) : ∃ (k : Fin 3) (s : Fin 128), t = ⟨128 * k.val + s.val, by omega⟩ :=
  ⟨⟨t.val / 128, by omega⟩, ⟨t.val % 128, by omega⟩, Fin.ext (by show t.val = 128 * (t.val / 128) + t.val % 128; omega)⟩

/-- An entry of a padded window is the sequence's, or zero outside it. -/
theorem window_of (x : FVec Ideal S8x32x128x2x64 .f32) (kv : FVec Ideal S8x4096x256 .bf16) (b : Fin 8) (n : Fin 32) (t : Fin 384) (kh : Fin 2)
    (d : Fin 64) (e : Fin 256) (h : ∀ (n : Fin 32) (s : Fin 128), x (ix5 b n s kh d) = kv (ix3 b (⟨128 * n.val + s.val, by omega⟩ : Fin 4096) e)) :
    windows (padded x) (ix5 b n t kh d) = AttnSpec.kvAt kv b n t e := by
  obtain ⟨k, s, rfl⟩ := window_split t
  rw [windows_apply, padded_apply]
  unfold AttnSpec.kvAt
  by_cases hk : 1 ≤ n.val + k.val ∧ n.val + k.val < 33
  · rw [dif_pos hk, h, dif_pos (by constructor <;> show _ <;> simp only <;> omega)]
    refine congrArg (fun l => kv (ix3 b l e)) (Fin.ext ?_)
    show 128 * (n.val + k.val - 1) + s.val = 128 * n.val + (128 * k.val + s.val) - 128
    omega
  · rw [dif_neg hk, dif_neg (by intro hi; have h1 : 128 ≤ 128 * n.val + (128 * k.val + s.val) := hi.1; have h2 : 128 * n.val + (128 * k.val + s.val) < 4224 := hi.2; omega)]

/-- A key of a window. -/
theorem window_key (kv : FVec Ideal S8x4096x256 .bf16) (b : Fin 8) (n : Fin 32) (t : Fin 384) (kh : Fin 2) (d : Fin 64) :
    windows (padded (keys kv)) (ix5 b n t kh d) = AttnSpec.kvAt kv b n t ⟨64 * kh.val + d.val, by omega⟩ :=
  window_of _ kv b n t kh d _ fun n s => keys_apply kv b n s kh d

/-- A value of a window. -/
theorem window_val (kv : FVec Ideal S8x4096x256 .bf16) (b : Fin 8) (n : Fin 32) (t : Fin 384) (kh : Fin 2) (d : Fin 64) :
    windows (padded (vals kv)) (ix5 b n t kh d) = AttnSpec.kvAt kv b n t ⟨128 + 64 * kh.val + d.val, by omega⟩ :=
  window_of _ kv b n t kh d _ fun n s => vals_apply kv b n s kh d

/-- A masked score. -/
theorem scores_apply (q : FVec Ideal S8x4096x512 .bf16) (kv : FVec Ideal S8x4096x256 .bf16) (bias : FVec Ideal S8x128x384 .f32)
    (b : Fin 8) (n : Fin 32) (kh : Fin 2) (g : Fin 4) (r : Fin 128) (t : Fin 384) :
    scores q kv bias (ix6 b n kh g r t) = AttnSpec.score q kv bias b n r kh g t := by
  unfold scores AttnSpec.score
  rw [masked_apply, valid_apply]
  by_cases hi : AttnSpec.inside n t
  · rw [if_pos hi, if_pos rfl, if_pos hi, biased_apply]
    refine congrArg (· + _) (Finset.sum_congr rfl fun d _ => ?_)
    rw [window_key, queries_apply, mul_comm]
  · rw [if_neg hi, if_neg (by decide), if_neg hi]

/-- The weighted values, row by row. -/
theorem attn_eq (q : FVec Ideal S8x4096x512 .bf16) (kv : FVec Ideal S8x4096x256 .bf16) (bias : FVec Ideal S8x128x384 .f32) (k : FVec Ideal S4x8 .f32) :
    attn q kv bias k = AttnSpec.rows (AttnSpec.head q kv bias k) := by
  funext y
  obtain ⟨b, n, r, kh, g, d, rfl⟩ := AttnSpec.split y
  rw [AttnSpec.rows_apply]
  unfold attn
  rw [flat_apply, mixed_apply]
  unfold AttnSpec.head AttnMath.out
  refine Finset.sum_congr rfl fun t _ => ?_
  rw [window_val, weights_apply, dens_apply, tops_apply, sinks_apply]
  simp only [weights_apply, tops_apply, sinks_apply, scores_apply]
  unfold AttnMath.wt AttnMath.den AttnSpec.sinkOf
  simp only [AttnMath.wt]

/-- The reference's result is the layer's attention. -/
theorem normed_attn (q : FVec Ideal S8x4096x512 .bf16) (kv : FVec Ideal S8x4096x256 .bf16) (bias : FVec Ideal S8x128x384 .f32) (k : FVec Ideal S4x8 .f32)
    (g : FVec Ideal S4x512 .f32) : normed (attn q kv bias k) g = AttnSpec.attention q kv bias k g := by
  rw [attn_eq]
  unfold AttnSpec.attention
  funext y
  obtain ⟨b, l, j, rfl⟩ : ∃ (b : Fin 8) (l : Fin 4096) (j : Fin 512), y = ix3 b l j := ⟨y 0, y 1, y 2, by funext a; fin_cases a <;> rfl⟩
  rw [normed_apply]
  rfl

end Cert.AttnRef
end
-- ==== Proof.AttnPre.lean ====
/- What the precondition says of the arguments: finite queries, keys and sinks, and a bias below infinity. -/
module
public import proofs.«01_k».proof.Pre_finite_scores
public import proofs.«01_k».proof.Proof.AttnSpec
@[expose] public section
set_option maxRecDepth 16384
noncomputable section
namespace Cert.AttnPre
open Cert.Pre_finite_scores Idealize.ShloMosaic

/-- The bound of the comparisons is infinity. -/
theorem inf_eq : Ideal.ofBits .f32 0x7F800000#32 = (⊤ : EReal) := by
  simp [Ideal.ofBits, Ideal.ieee]

/-- A number whose absolute value is below infinity is a real. -/
theorem real_of_abs (x : EReal) (h : Ideal.cmp .olt (max x (-x)) (Ideal.ofBits .f32 0x7F800000#32) = 1#1) : ∃ r : ℝ, x = r := by
  rw [inf_eq] at h
  have hx : max x (-x) < ⊤ := by
    by_contra hn
    simp [Ideal.cmp, hn] at h
  induction x using EReal.rec with
  | bot => simp at hx
  | coe r => exact ⟨r, rfl⟩
  | top => simp at hx

/-- A number below infinity. -/
theorem lt_of_cmp (x : EReal) (h : Ideal.cmp .olt x (Ideal.ofBits .f32 0x7F800000#32) = 1#1) : x < ⊤ := by
  rw [inf_eq] at h
  by_contra hn
  simp [Ideal.cmp, hn] at h

variable [hF : Facts] (q : FVec Ideal S8x4096x512 .bf16) (kv : FVec Ideal S8x4096x256 .bf16) (bias : FVec Ideal S8x128x384 .f32)
  (k : FVec Ideal S4x8 .f32) (g : FVec Ideal S4x512 .f32)

/-- The queries are finite. -/
theorem queries (h : (fn (F := Ideal) q kv bias k g).1 = fun _ => 1#1) (y : S8x4096x512.Idx) : ∃ r : ℝ, q y = r :=
  real_of_abs _ (congrFun h y)

/-- The keys are finite. -/
theorem keys (h : (fn (F := Ideal) q kv bias k g).2.1 = fun _ => 1#1) (b : Fin 8) (l : Fin 4096) (e : Fin 128) :
    ∃ r : ℝ, kv (ix3 b l (⟨e.val, by omega⟩ : Fin 256)) = r := by
  have hy := congrFun h (ix3 b l e)
  refine real_of_abs _ (Eq.trans ?_ hy)
  refine congrArg (fun x => Ideal.cmp .olt (max x (-x)) _) (congrArg kv ?_)
  funext a
  match a with
  | ⟨0, _⟩ => exact Fin.ext (Nat.zero_add _).symm
  | ⟨1, _⟩ => exact Fin.ext (Nat.zero_add _).symm
  | ⟨2, _⟩ => exact Fin.ext (Nat.zero_add _).symm

/-- The bias is below infinity. -/
theorem biases (h : (fn (F := Ideal) q kv bias k g).2.2.1 = fun _ => 1#1) (y : S8x128x384.Idx) : bias y < ⊤ :=
  lt_of_cmp _ (congrFun h y)

/-- The sinks are finite. -/
theorem sinks (h : (fn (F := Ideal) q kv bias k g).2.2.2 = fun _ => 1#1) (y : S4x8.Idx) : ∃ r : ℝ, k y = r :=
  real_of_abs _ (congrFun h y)

end Cert.AttnPre
end
-- ==== Proof.AttnClaim.lean ====
/- The attention kernel and its plain program agree wherever the precondition holds. -/
module

public import proofs.«01_k».proof.Proof.AttnValue
public import proofs.«01_k».proof.Proof.AttnRefSpec
public import proofs.«01_k».proof.Proof.AttnPre
public import proofs.«01_k».proof.Proof.Gen.Pre_finite_scores
public import proofs.«01_k».proof.Defs

@[expose] public section
set_option maxRecDepth 16384
noncomputable section
namespace Cert.AttnClaim
open Cert.ReferenceIdeal Cert.ReferenceIdeal.Gen Idealize.ShloMosaic Idealize.ShloMosaic.TcCoe Idealize.SL.Sem

/-- From any memory that meets the precondition, the attention kernel and the plain program both end, with the same result and their
    arguments kept. -/
theorem algebraic : Cert.algebraic_KernelIdeal_ReferenceIdeal_pre_finite_scores (hKernelIdeal := Cert.KernelIdeal.Gen.facts)
    (hReferenceIdeal := Cert.ReferenceIdeal.Gen.facts) (hPre_finite_scores := Cert.Pre_finite_scores.Gen.facts) := by
  intro m g m' g' hp hag
  refine ⟨fun c => AttnSpec.attention (m ((c : Thread Cert.KernelIdeal.nD Cert.KernelIdeal.τ).loc Cert.KernelIdeal.main_arg0))
    (m ((c : Thread Cert.KernelIdeal.nD Cert.KernelIdeal.τ).loc Cert.KernelIdeal.main_arg1))
    (m ((c : Thread Cert.KernelIdeal.nD Cert.KernelIdeal.τ).loc Cert.KernelIdeal.main_arg2))
    (m ((c : Thread Cert.KernelIdeal.nD Cert.KernelIdeal.τ).loc Cert.KernelIdeal.main_arg3))
    (m ((c : Thread Cert.KernelIdeal.nD Cert.KernelIdeal.τ).loc Cert.KernelIdeal.main_arg4)), ?_, ?_⟩
  · refine (θ_run Cert.KernelIdeal.defs _ _).mono (fun r h c => ⟨((h c).1.trans (AttnValue.final m c)).trans ?_, (h c).2⟩) (Cert.KernelIdeal.Value.run_blocks m g)
    obtain ⟨h0, h1, h2, h3⟩ := hp c
    exact AttnSpec.attentionOver_eq _ _ _ _ _ (AttnPre.queries _ _ _ _ _ h0) (AttnPre.keys _ _ _ _ _ h1) (AttnPre.biases _ _ _ _ _ h2) (AttnPre.sinks _ _ _ _ _ h3)
  · refine (θ_run Cert.ReferenceIdeal.defs _ _).mono (fun r h c => ⟨(((h c).1.trans (AttnRef.result m' c)).trans (AttnRef.normed_attn _ _ _ _ _)).trans ?_, (h c).2⟩)
      (Cert.ReferenceIdeal.Value.run m' g')
    obtain ⟨h0, h1, h2, h3, h4⟩ := hag c
    show AttnSpec.attention (m' ((c : Thread nD τ).loc main_arg0)) (m' ((c : Thread nD τ).loc main_arg1)) (m' ((c : Thread nD τ).loc main_arg2))
        (m' ((c : Thread nD τ).loc main_arg3)) (m' ((c : Thread nD τ).loc main_arg4))
      = AttnSpec.attention (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
        (m ((c : Thread Cert.KernelIdeal.nD Cert.KernelIdeal.τ).loc Cert.KernelIdeal.main_arg4))
    rw [h0, h1, h2, h3, h4]

end Cert.AttnClaim
end
-- ==== Proof.FfnTiles.lean ====
/- The gated feed-forward tile that the two feed-forward kernels share, as plain functions of vectors: what one chunk of 256 hidden
   columns computes, how the double-buffered scratch is read back, and what the eleven chunks add up to. -/
module

public import Idealize.ShloMosaic.PureOps.Ideal
public import Idealize.ShloMosaic.Lib.ValueIdx
public import Idealize.ShloMosaic.Lib.MatmulPlain
public import Idealize.ShloMosaic.Lib.Pointwise
public import Idealize.ShloMosaic.Lib.Pipeline.Value
public import Idealize.ShloMosaic.Lib.Pipeline.ValueKit
public import Idealize.ShloMosaic.Lib.Pipeline.ReadBack

@[expose] public section
noncomputable section
namespace Cert.FfnTiles
open Idealize.ShloMosaic
open scoped BigOperators

/-- A row tile of the residual stream. -/
abbrev Row : Shape := ⟨2, ![512, 1024]⟩
/-- One slot of the scratch: gate columns, then up columns. -/
abbrev Slot : Shape := ⟨3, ![1, 512, 512]⟩
/-- One half of a slot. -/
abbrev Half : Shape := ⟨3, ![1, 512, 256]⟩
/-- The scratch: two slots. -/
abbrev Scr : Shape := ⟨3, ![2, 512, 512]⟩
/-- A gate or an up weight. -/
abbrev WIn : Shape := ⟨3, ![1, 1024, 2816]⟩
/-- One chunk of a gate or an up weight. -/
abbrev WInC : Shape := ⟨3, ![1, 1024, 256]⟩
/-- The down weight. -/
abbrev WOut : Shape := ⟨3, ![1, 2816, 1024]⟩
/-- One chunk of the down weight. -/
abbrev WOutC : Shape := ⟨3, ![1, 256, 1024]⟩

/-- What a chunk stores for a gate (or up) weight chunk: the rows times the chunk. -/
def half (h : FVec Ideal Row .bf16) (w : FVec Ideal WInC .bf16) : FVec Ideal Half .f32 :=
  shapeCast Half (matmul (DotDims.plain 512 1024 256) none h
    (shapeCast (⟨2, ![1024, 256]⟩ : Shape) w (by decide)) (constant (⟨2, ![512, 256]⟩ : Shape) .f32 0x00000000#32)) (by decide)

/-- What a chunk adds: the gated activation of the slot times the chunk of the down weight, added to what stands there. -/
def down (gu : FVec Ideal Slot .f32) (o : FVec Ideal Row .f32) (w : FVec Ideal WOutC .bf16) : FVec Ideal Row .f32 :=
  let g : FVec Ideal (⟨2, ![512, 256]⟩ : Shape) .f32 :=
    extractStridedSlice (⟨2, ![512, 256]⟩ : Shape) ![0, 0] (shapeCast (⟨2, ![512, 512]⟩ : Shape) gu (by decide)) (by decide)
  let u : FVec Ideal (⟨2, ![512, 256]⟩ : Shape) .f32 :=
    extractStridedSlice (⟨2, ![512, 256]⟩ : Shape) ![0, 256] (shapeCast (⟨2, ![512, 512]⟩ : Shape) gu (by decide)) (by decide)
  addf (shapeCast Row o (by decide))
    (matmul (DotDims.plain 512 256 1024) none (truncf .bf16 (mulf (mulf g (logistic g)) u) (by decide))
      (shapeCast (⟨2, ![256, 1024]⟩ : Shape) w (by decide)) (constant Row .f32 0x00000000#32))

/-- A slot read whole: the gate half's columns, then the up half's. -/
def glue (g u : FVec Ideal Half .f32) : FVec Ideal Slot .f32 := fun y =>
  if h : (y 2).val < 256 then g (ix3 (y 0) (y 1) ⟨(y 2).val, h⟩)
  else u (ix3 (y 0) (y 1) ⟨(y 2).val - 256, by have : (y 2).val < 512 := (y 2).isLt; omega⟩)

/-- The scratch slot `s`, both of whose halves were stored last, reads as the two halves side by side. -/
theorem read_slot {sig : RefSig} {κ : Kind} {sp : Space} (v : View sig κ sp Scr .f32) (s : ℕ) (g u : FVec Ideal Half .f32)
    (L : List (View.Piece (Elt Ideal) Scr .f32))
    (iu : ∀ a, (![s, 0, 256] : Fin 3 → ℕ) a + (![1, 512, 256] : Fin 3 → ℕ) a ≤ Scr.size a)
    (ig : ∀ a, (![s, 0, 0] : Fin 3 → ℕ) a + (![1, 512, 256] : Fin 3 → ℕ) a ≤ Scr.size a)
    (iw : ∀ a, (![s, 0, 0] : Fin 3 → ℕ) a + (![1, 512, 512] : Fin 3 → ℕ) a ≤ Scr.size a) :
    v.readCov (⟨Rect.unit (s := Scr) ![s, 0, 256] ![1, 512, 256] iu, u⟩ :: ⟨Rect.unit (s := Scr) ![s, 0, 0] ![1, 512, 256] ig, g⟩ :: L)
      (Rect.unit (s := Scr) ![s, 0, 0] ![1, 512, 512] iw).toLoadRect = glue g u := by
  rw [View.readCov_eq_canon']
  funext y
  have hy : (y 2).val < 512 := (y 2).isLt
  by_cases h : (y 2).val < 256
  · rw [View.canon_cons_of_not_mem]
    · have e : (Rect.unit (s := Scr) ![s, 0, 0] ![1, 512, 512] iw).toLoadRect.idx y
          = (Rect.unit (s := Scr) ![s, 0, 0] ![1, 512, 256] ig).emb (ix3 (y 0) (y 1) ⟨(y 2).val, h⟩) := by
        funext a
        match a with
        | ⟨0, _⟩ => rfl
        | ⟨1, _⟩ => rfl
        | ⟨2, _⟩ => rfl
      rw [e]
      refine (View.canon_cons_emb (Val := Elt Ideal) (e := .f32) (Rect.unit (s := Scr) ![s, 0, 0] ![1, 512, 256] ig) g L _).trans ?_
      simp only [glue, h, dif_pos]
    · intro hm
      have := (Rect.mem_set_unit (s := Scr) (inb := iu)).mp hm 2
      have h2 : 256 ≤ ((Rect.unit (s := Scr) ![s, 0, 0] ![1, 512, 512] iw).toLoadRect.idx y 2).val := this.1
      have h3 : ((Rect.unit (s := Scr) ![s, 0, 0] ![1, 512, 512] iw).toLoadRect.idx y 2).val = 0 + 1 * (y 2).val := rfl
      omega
  · have e : (Rect.unit (s := Scr) ![s, 0, 0] ![1, 512, 512] iw).toLoadRect.idx y
        = (Rect.unit (s := Scr) ![s, 0, 256] ![1, 512, 256] iu).emb (ix3 (y 0) (y 1) ⟨(y 2).val - 256, by omega⟩) := by
      funext a
      match a with
      | ⟨0, _⟩ => rfl
      | ⟨1, _⟩ => rfl
      | ⟨2, _⟩ =>
        refine Fin.ext ?_
        show 0 + 1 * (y 2).val = 256 + 1 * ((y 2).val - 256)
        omega
    rw [e]
    refine (View.canon_cons_emb (Val := Elt Ideal) (e := .f32) (Rect.unit (s := Scr) ![s, 0, 256] ![1, 512, 256] iu) u _ _).trans ?_
    simp only [glue, h, dif_neg, not_false_eq_true]

/-- Chunk `c` of the gate (or up) weight. -/
def cols (w : FVec Ideal WIn .bf16) (c : Fin 11) : FVec Ideal WInC .bf16 :=
  View.ld (Val := Elt Ideal) (e' := .bf16) w (Rect.unit (s := WIn) ![0, 0, 256 * c.val] ![1, 1024, 256] (by
    intro a; have := c.isLt
    match a with
    | ⟨0, _⟩ => exact Nat.le_refl _
    | ⟨1, _⟩ => exact Nat.le_refl _
    | ⟨2, _⟩ => show 256 * c.val + 256 ≤ 2816; omega))

/-- Chunk `c` of the down weight. -/
def rows (w : FVec Ideal WOut .bf16) (c : Fin 11) : FVec Ideal WOutC .bf16 :=
  View.ld (Val := Elt Ideal) (e' := .bf16) w (Rect.unit (s := WOut) ![0, 256 * c.val, 0] ![1, 256, 1024] (by
    intro a; have := c.isLt
    match a with
    | ⟨0, _⟩ => exact Nat.le_refl _
    | ⟨1, _⟩ => show 256 * c.val + 256 ≤ 2816; omega
    | ⟨2, _⟩ => exact Nat.le_refl _))

/-- One chunk's step on the output tile. -/
def step (h : FVec Ideal Row .bf16) (wg wu : FVec Ideal WIn .bf16) (wd : FVec Ideal WOut .bf16) (o : FVec Ideal Row .f32)
    (c : Fin 11) : FVec Ideal Row .f32 :=
  down (glue (half h (cols wg c)) (half h (cols wu c))) o (rows wd c)

/-- All eleven chunks, in order. -/
def tile (h : FVec Ideal Row .bf16) (wg wu : FVec Ideal WIn .bf16) (wd : FVec Ideal WOut .bf16) (x : FVec Ideal Row .f32) :
    FVec Ideal Row .f32 :=
  (List.finRange 11).foldl (step h wg wu wd) x

/-- The gated unit of two scalars: `a · σ(a) · b`. -/
def gated (a b : EReal) : EReal := a * Ideal.logistic a * b

/-- Column `f` of the rows times a gate (or up) weight, in row `i`. -/
def proj (h : FVec Ideal Row .bf16) (w : FVec Ideal WIn .bf16) (i : Fin 512) (f : Fin 2816) : EReal :=
  ∑ d : Fin 1024, h (ix2 i d) * w (ix3 0 d f)

/-- What hidden column `f` contributes to output column `j` of row `i`. -/
def term (h : FVec Ideal Row .bf16) (wg wu : FVec Ideal WIn .bf16) (wd : FVec Ideal WOut .bf16) (i : Fin 512) (j : Fin 1024)
    (f : Fin 2816) : EReal :=
  gated (proj h wg i f) (proj h wu i f) * wd (ix3 0 f j)

/-- A stored half, entry by entry: the product of the rows and the chunk. -/
theorem half_apply (h : FVec Ideal Row .bf16) (w : FVec Ideal WInC .bf16) (i : Fin 512) (k : Fin 256) :
    half h w (ix3 0 i k) = ∑ d : Fin 1024, h (ix2 i d) * w (ix3 0 d k) := by
  pointwise [half]

/-- What a chunk leaves, entry by entry: what stood there plus the gated slot times the chunk of the down weight. -/
theorem down_apply (gu : FVec Ideal Slot .f32) (o : FVec Ideal Row .f32) (w : FVec Ideal WOutC .bf16) (i : Fin 512) (j : Fin 1024) :
    down gu o w (ix2 i j) = o (ix2 i j) + ∑ k : Fin 256,
      gated (gu (ix3 0 i ⟨k.val, by omega⟩)) (gu (ix3 0 i ⟨256 + k.val, by omega⟩)) * w (ix3 0 k j) := by
  pointwise [down]
  rfl

/-- The first 256 columns of a slot are the gate half. -/
theorem glue_left (g u : FVec Ideal Half .f32) (i : Fin 512) (k : Fin 256) :
    glue g u (ix3 0 i ⟨k.val, by omega⟩) = g (ix3 0 i k) :=
  dif_pos k.isLt

/-- The last 256 columns of a slot are the up half. -/
theorem glue_right (g u : FVec Ideal Half .f32) (i : Fin 512) (k : Fin 256) :
    glue g u (ix3 0 i ⟨256 + k.val, by omega⟩) = u (ix3 0 i k) := by
  refine (dif_neg (show ¬ (256 + k.val < 256) by omega)).trans ?_
  congr 1
  show ix3 0 i (⟨256 + k.val - 256, _⟩ : Fin 256) = ix3 0 i k
  congr 1
  exact Fin.ext (by show 256 + k.val - 256 = k.val; omega)

/-- Chunk `c` of a gate or up weight, read at an index of the weight. -/
theorem cols_apply (w : FVec Ideal WIn .bf16) (c : Fin 11) (d : Fin 1024) (k : Fin 256) :
    cols w c (ix3 0 d k) = w (ix3 0 d ⟨c.val * 256 + k.val, by omega⟩) := by
  pointwise [cols]
  congr 2
  exact Fin.ext (by show 256 * c.val + k.val = c.val * 256 + k.val; omega)

/-- Chunk `c` of a down weight, read at an index of the weight. -/
theorem rows_apply (w : FVec Ideal WOut .bf16) (c : Fin 11) (k : Fin 256) (j : Fin 1024) :
    rows w c (ix3 0 k j) = w (ix3 0 ⟨c.val * 256 + k.val, by omega⟩ j) := by
  pointwise [rows]
  congr 2
  exact Fin.ext (by show 256 * c.val + k.val = c.val * 256 + k.val; omega)

/-- One chunk adds its 256 hidden columns' contributions. -/
theorem step_apply (h : FVec Ideal Row .bf16) (wg wu : FVec Ideal WIn .bf16) (wd : FVec Ideal WOut .bf16) (o : FVec Ideal Row .f32)
    (c : Fin 11) (i : Fin 512) (j : Fin 1024) :
    step h wg wu wd o c (ix2 i j) = o (ix2 i j) + ∑ k : Fin 256, term h wg wu wd i j ⟨c.val * 256 + k.val, by omega⟩ := by
  rw [step, down_apply]
  congr 1
  refine Finset.sum_congr rfl fun k _ => ?_
  rw [glue_left, glue_right, half_apply, half_apply, rows_apply]
  simp only [cols_apply]
  rfl

/-- After any list of chunks an entry is what stood there plus those chunks' terms. -/
theorem fold_apply (h : FVec Ideal Row .bf16) (wg wu : FVec Ideal WIn .bf16) (wd : FVec Ideal WOut .bf16) (i : Fin 512) (j : Fin 1024) :
    ∀ (l : List (Fin 11)) (o : FVec Ideal Row .f32), l.foldl (step h wg wu wd) o (ix2 i j)
      = o (ix2 i j) + (l.map fun c => ∑ k : Fin 256, term h wg wu wd i j ⟨c.val * 256 + k.val, by omega⟩).sum
  | [], o => by simp
  | c :: l, o => by
    rw [List.foldl_cons, fold_apply h wg wu wd i j l, step_apply, List.map_cons, List.sum_cons, add_assoc]

/-- All chunks together add every hidden column's contribution. -/
theorem tile_apply (h : FVec Ideal Row .bf16) (wg wu : FVec Ideal WIn .bf16) (wd : FVec Ideal WOut .bf16) (x : FVec Ideal Row .f32)
    (i : Fin 512) (j : Fin 1024) :
    tile h wg wu wd x (ix2 i j) = x (ix2 i j) + ∑ f : Fin 2816, term h wg wu wd i j f := by
  rw [tile, fold_apply, ← Fin.sum_univ_def]
  congr 1
  exact Fin.sum_mul_add_fin 11 256 (term h wg wu wd i j)

end Cert.FfnTiles
-- ==== Proof.FfnMath.lean ====
/- One row of the layer's feed-forward block, as extended-real arithmetic: the root-mean-square norm, the gated hidden
   columns, and the two placings of the block's factor one half. -/
module

public import proofs.«01_k».proof.Proof.FfnTiles

@[expose] public section
noncomputable section
namespace Cert.FfnMath
open Idealize.ShloMosaic
open scoped BigOperators

/-- A row of 1024 numbers scaled by the reciprocal root of its mean square (with the guard 1e-6), then by the weights. -/
def rms (x w : Fin 1024 → EReal) (d : Fin 1024) : EReal :=
  x d * Ideal.rsqrt (Ideal.div (∑ e : Fin 1024, x e * x e) (Ideal.ofBits .f32 0x44800000#32) + Ideal.ofBits .f32 0x358637BD#32) * w d

/-- The factor one half. -/
abbrev half : EReal := Ideal.ofBits .f32 0x3F000000#32

/-- The feed-forward block's output for one row, the factor one half after the sum over the hidden columns. -/
def ffnRow (x w : Fin 1024 → EReal) (wg wu : Fin 1024 → Fin 2816 → EReal) (wd : Fin 2816 → Fin 1024 → EReal) (j : Fin 1024) : EReal :=
  x j + half * ∑ f : Fin 2816, FfnTiles.gated (∑ d : Fin 1024, rms x w d * wg d f) (∑ d : Fin 1024, rms x w d * wu d f) * wd f j

/-- The feed-forward block over whole arrays, with the first layer's norm weights and matrices. -/
def ffn (X : FVec Ideal (⟨2, ![32768, 1024]⟩ : Shape) .f32) (Nw : FVec Ideal (⟨2, ![4, 1024]⟩ : Shape) .f32)
    (Wg Wu : FVec Ideal (⟨3, ![4, 1024, 2816]⟩ : Shape) .f32) (Wd : FVec Ideal (⟨3, ![4, 2816, 1024]⟩ : Shape) .f32) :
    FVec Ideal (⟨2, ![32768, 1024]⟩ : Shape) .f32 := fun y =>
  ffnRow (fun e => X (ix2 (y 0) e)) (fun e => Nw (ix2 (0 : Fin 4) e)) (fun d f => Wg (ix3 (0 : Fin 4) d f))
    (fun d f => Wu (ix3 (0 : Fin 4) d f)) (fun f e => Wd (ix3 (0 : Fin 4) f e)) (y 1)

/-- The constant one half is a non-negative real number. -/
theorem half_eq : half = ((1 / 2 : ℝ) : EReal) := by
  simp [half, Ideal.ofBits, Ideal.ieee, -EReal.coe_mul]; norm_num

/-- The factor one half may multiply every down weight instead of the sum over the hidden columns. -/
theorem sum_half (a : Fin 2816 → EReal) (b : Fin 2816 → EReal) :
    ∑ f : Fin 2816, a f * (half * b f) = half * ∑ f : Fin 2816, a f * b f := by
  rw [half_eq]
  have h : ∀ s : Finset (Fin 2816), ∑ f ∈ s, a f * (((1 / 2 : ℝ) : EReal) * b f) = ((1 / 2 : ℝ) : EReal) * ∑ f ∈ s, a f * b f := by
    intro s
    induction s using Finset.cons_induction with
    | empty => simp
    | cons x s hx ih =>
      rw [Finset.sum_cons, Finset.sum_cons, ih, EReal.left_distrib_of_nonneg_of_ne_top (by exact_mod_cast (by norm_num : (0:ℝ) ≤ 1 / 2)) (EReal.coe_ne_top _)]
      rw [mul_left_comm]
  exact h _

end Cert.FfnMath

end
-- ==== Proof.FfnValue.lean ====
/- The feed-forward kernel's result array is the plain feed-forward block, row by row, at every float memory over the
   extended reals. -/
module

public import proofs.«01_k».proof.Proof.Gen.FfnIdeal.Value
public import proofs.«01_k».proof.Proof.FfnMath
public import Idealize.ShloMosaic.Lib.Claim
public import Idealize.ShloMosaic.Lib.StableHlo.ReadAt

@[expose] public section
set_option maxRecDepth 16384
noncomputable section
namespace Cert.FfnValue
open Cert.FfnIdeal Cert.FfnIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- What one grid point leaves in its output block: the gated tile of the normalised rows, over its five input blocks. -/
theorem out5 (c : Dev nD) (i : grid0.Coords) (arg1 : Memref sig .tc .vmem S512x1024 .f32) (harg1 : arg1.IsWhole) (arg2 : Memref sig .tc .vmem S1x1x1024 .f32) (harg2 : arg2.IsWhole) (arg3 : Memref sig .tc .vmem S1x1024x2816 .bf16) (harg3 : arg3.IsWhole) (arg4 : Memref sig .tc .vmem S1x1024x2816 .bf16) (harg4 : arg4.IsWhole) (arg5 : Memref sig .tc .vmem S1x2816x1024 .bf16) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S2x512x512 .f32) (harg8 : arg8.IsWhole)
    (x0 : Vec Ideal S512x1024 .f32) (x1 : Vec Ideal S1x1x1024 .f32) (x2 : Vec Ideal S1x1024x2816 .bf16) (x3 : Vec Ideal S1x1024x2816 .bf16) (x4 : Vec Ideal S1x2816x1024 .bf16) :
   out0_A_5 (F := Ideal) c i arg1 harg1 arg2 harg2 arg3 harg3 arg4 harg4 arg5 harg5 arg6 harg6 arg7 harg7 arg8 harg8 x0 x1 x2 x3 x4 = FfnTiles.tile (k0_pay3 x0 x1) x2 x3 x4 x0 := by
  unfold out0_A_5
  rw [View.read_writes_eq_canon _ _ _ (cover0_A_5 c _ _ _ _ _ _ _ _ _ _ _ _ _ _ _ _ _ _ _ _ _ _)]
  unfold kernelRun0_A
  dsimp only
  sl_unfold_words
  simp (disch := decide) only [↓ View.readCov_skip, ↓ View.readCov_cons_toLoadRect, ↓ View.readCov_fill, ↓ FfnTiles.read_slot]
  simp only [View.readAt_eq_ld, Memref.IsWhole.read_unread]
  rw [View.canon_cons_unit_zero (by decide)]
  rw [View.ld_unit_zero (by decide), View.ld_unit_zero (by decide)]
  rfl

/-- The normalised rows of a block, entry by entry. -/
theorem norm_apply (x0 : Vec Ideal S512x1024 .f32) (x1 : Vec Ideal S1x1x1024 .f32) (i : Fin 512) (d : Fin 1024) :
    k0_pay3 (F := Ideal) x0 x1 (ix2 i d) = FfnMath.rms (fun e => x0 (ix2 i e)) (fun e => x1 (ix3 (0 : Fin 1) (0 : Fin 1) e)) d := by
  pointwise [k0_pay3, FfnMath.rms]

/-- The blocks every grid point stages: its own 512 rows, the first layer's norm weights and matrices. -/
theorem idx : ∀ t : Fin cfg0.N, win0_0.index t = ![t.val, 0] ∧ win0_1.index t = ![0, 0, 0] ∧ win0_2.index t = ![0, 0, 0]
    ∧ win0_3.index t = ![0, 0, 0] ∧ win0_4.index t = ![0, 0, 0] ∧ win0_5.index t = ![t.val, 0] :=
  (by decide +kernel : ∀ t : Fin grid0.N, _)

/-- The prepared norm weights, read at an index. -/
theorem V0_apply (c : Dev nD) (i : Fin 4) (o : Fin 1) (d : Fin 1024) :
    (show FVec Ideal S4x1x1024 .f32 from V m c main_v0) (ix3 i o d)
      = (show FVec Ideal S4x1024 .f32 from m ((c : Thread nD τ).loc main_arg1)) (ix2 i d) := by
  unfold V
  after_reads_at

/-- The prepared gate weights, read at an index. -/
theorem V1_apply (c : Dev nD) (i : Fin 4) (d : Fin 1024) (f : Fin 2816) :
    (show FVec Ideal S4x1024x2816 .bf16 from V m c main_v1) (ix3 i d f)
      = (show FVec Ideal S4x1024x2816 .f32 from m ((c : Thread nD τ).loc main_arg2)) (ix3 i d f) := by
  unfold V
  after_reads_at

/-- The prepared up weights, read at an index. -/
theorem V2_apply (c : Dev nD) (i : Fin 4) (d : Fin 1024) (f : Fin 2816) :
    (show FVec Ideal S4x1024x2816 .bf16 from V m c main_v2) (ix3 i d f)
      = (show FVec Ideal S4x1024x2816 .f32 from m ((c : Thread nD τ).loc main_arg3)) (ix3 i d f) := by
  unfold V
  after_reads_at

/-- The prepared down weights, read at an index: one half of the argument. -/
theorem V5_apply (c : Dev nD) (i : Fin 4) (f : Fin 2816) (d : Fin 1024) :
    (show FVec Ideal S4x2816x1024 .bf16 from V m c main_v5) (ix3 i f d)
      = FfnMath.half * (show FVec Ideal S4x2816x1024 .f32 from m ((c : Thread nD τ).loc main_arg4)) (ix3 i f d) := by
  unfold V
  after_reads_at

/-- The row block of a grid point, read at an index of the array. -/
theorem blk0 (c : Dev nD) (t : Fin cfg0.N) (i : Fin 512) (j e : Fin 1024) :
    (show FVec Ideal S512x1024 .f32 from iblk m c 0 t) (ix2 i e)
      = (show FVec Ideal S32768x1024 .f32 from m ((c : Thread nD τ).loc main_arg0)) (ix2 (((cfg0.win 5).blk t).view.emb (ix2 i j) 0) e) := by
  blk_ext [iblk, V, idx t]

/-- The norm block of a grid point is the first layer's norm weights. -/
theorem blk1 (c : Dev nD) (t : Fin cfg0.N) (e : Fin 1024) :
    (show FVec Ideal S1x1x1024 .f32 from iblk m c 1 t) (ix3 (0 : Fin 1) (0 : Fin 1) e)
      = (show FVec Ideal S4x1024 .f32 from m ((c : Thread nD τ).loc main_arg1)) (ix2 (0 : Fin 4) e) := by
  refine Eq.trans ?_ (V0_apply m c 0 0 e)
  blk_ext [iblk, idx t]

/-- The gate block of a grid point is the first layer's gate matrix. -/
theorem blk2 (c : Dev nD) (t : Fin cfg0.N) (d : Fin 1024) (f : Fin 2816) :
    (show FVec Ideal S1x1024x2816 .bf16 from iblk m c 2 t) (ix3 (0 : Fin 1) d f)
      = (show FVec Ideal S4x1024x2816 .f32 from m ((c : Thread nD τ).loc main_arg2)) (ix3 (0 : Fin 4) d f) := by
  refine Eq.trans ?_ (V1_apply m c 0 d f)
  blk_ext [iblk, idx t]

/-- The up block of a grid point is the first layer's up matrix. -/
theorem blk3 (c : Dev nD) (t : Fin cfg0.N) (d : Fin 1024) (f : Fin 2816) :
    (show FVec Ideal S1x1024x2816 .bf16 from iblk m c 3 t) (ix3 (0 : Fin 1) d f)
      = (show FVec Ideal S4x1024x2816 .f32 from m ((c : Thread nD τ).loc main_arg3)) (ix3 (0 : Fin 4) d f) := by
  refine Eq.trans ?_ (V2_apply m c 0 d f)
  blk_ext [iblk, idx t]

/-- The down block of a grid point is one half of the first layer's down matrix. -/
theorem blk4 (c : Dev nD) (t : Fin cfg0.N) (f : Fin 2816) (d : Fin 1024) :
    (show FVec Ideal S1x2816x1024 .bf16 from iblk m c 4 t) (ix3 (0 : Fin 1) f d)
      = FfnMath.half * (show FVec Ideal S4x2816x1024 .f32 from m ((c : Thread nD τ).loc main_arg4)) (ix3 (0 : Fin 4) f d) := by
  refine Eq.trans ?_ (V5_apply m c 0 f d)
  blk_ext [iblk, idx t]

/-- A tile whose blocks are the layer's arrays (the down block one half of its array) is the feed-forward block of its rows. -/
theorem tile_row (x0 : Vec Ideal S512x1024 .f32) (x1 : Vec Ideal S1x1x1024 .f32) (x2 x3 : Vec Ideal S1x1024x2816 .bf16)
    (x4 : Vec Ideal S1x2816x1024 .bf16) (i : Fin 512) (j : Fin 1024) (x w : Fin 1024 → EReal) (wg wu : Fin 1024 → Fin 2816 → EReal)
    (wd : Fin 2816 → Fin 1024 → EReal) (h0 : ∀ e, x0 (ix2 i e) = x e) (h1 : ∀ e, x1 (ix3 (0 : Fin 1) (0 : Fin 1) e) = w e)
    (h2 : ∀ d f, x2 (ix3 (0 : Fin 1) d f) = wg d f) (h3 : ∀ d f, x3 (ix3 (0 : Fin 1) d f) = wu d f)
    (h4 : ∀ f d, x4 (ix3 (0 : Fin 1) f d) = FfnMath.half * wd f d) :
    FfnTiles.tile (k0_pay3 x0 x1) x2 x3 x4 x0 (ix2 i j) = FfnMath.ffnRow x w wg wu wd j := by
  rw [FfnTiles.tile_apply]
  simp only [FfnTiles.term, FfnTiles.proj, norm_apply]
  simp only [h0, h1, h2, h3, h4]
  rw [FfnMath.sum_half]
  rfl

/-- The result array after the run is the feed-forward block of the argument arrays. -/
theorem final (c : Dev nD) : (dats m 0 c).arrAt 5 (cfgs 0).N
    = FfnMath.ffn (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  simp only [outsAt0]
  rw [out5]
  obtain ⟨i, j, rfl⟩ : ∃ (i : Fin 512) (j : Fin 1024), y = ix2 i j := ⟨y 0, y 1, by funext a; fin_cases a <;> rfl⟩
  refine (tile_row _ _ _ _ _ i j _ _ _ _ _ (fun e => blk0 m c t i j e) (fun e => blk1 m c t e) (fun d f => blk2 m c t d f)
    (fun d f => blk3 m c t d f) (fun f d => blk4 m c t f d)).trans ?_
  unfold FfnMath.ffn
  congr 1
  refine Fin.ext ?_
  blk_simp [idx t]

end Cert.FfnValue

end
-- ==== Proof.FfnClaim.lean ====
/- The plain feed-forward program computes the feed-forward block, and so the kernel and the plain program agree. -/
module

public import proofs.«01_k».proof.Proof.Gen.FfnRefIdeal
public import proofs.«01_k».proof.Proof.Gen.FfnRefIdeal.Run
public import proofs.«01_k».proof.Proof.FfnValue
public import proofs.«01_k».proof.Defs

@[expose] public section
set_option maxRecDepth 16384
noncomputable section
namespace Cert.FfnClaim
open Cert.FfnRefIdeal Cert.FfnRefIdeal.Gen Idealize.ShloMosaic Idealize.ShloMosaic.TcCoe Idealize.SL.Sem
open scoped BigOperators

/-- The plain program's result as it is composed of its operations is the feed-forward block. -/
theorem ref_eq (X : FVec Ideal S32768x1024 .f32) (Nw : FVec Ideal S4x1024 .f32) (Wg Wu : FVec Ideal S4x1024x2816 .f32)
    (Wd : FVec Ideal S4x2816x1024 .f32) :
    (addf X (mulf (broadcastInDim S32768x1024 ![] bcast_S_S32768x1024 (constant (F := Ideal) S_ .f32 0x3F000000#32)) (Host.dotGeneral dot_S32768x2816_S2816x1024_S32768x1024_1_0_0_1_n_n none (mulf (mulf (Host.dotGeneral dot_S32768x1024_S1024x2816_S32768x2816_1_0_0_1_n_n none (mulf (mulf X (broadcastInDim S32768x1024 ![0, 1] bcast_S32768x1_S32768x1024_0_1 (Host.rsqrt (addf (Host.divf (broadcastInDim S32768x1 ![0] bcast_S32768_S32768x1_0 (Host.reduceAdd (mulf X X) (constant (F := Ideal) S_ .f32 0x00000000#32) reducesTo_S32768x1024_S32768_d1 h_S_)) (broadcastInDim S32768x1 ![] bcast_S_S32768x1 (constant (F := Ideal) S_ .f32 0x44800000#32))) (broadcastInDim S32768x1 ![] bcast_S_S32768x1 (constant (F := Ideal) S_ .f32 0x358637BD#32)))))) (broadcastInDim S32768x1024 ![0, 1] bcast_S1x1024_S32768x1024_0_1 (broadcastInDim S1x1024 ![1] bcast_S1024_S1x1024_1 (shapeCast _ (extractStridedSlice S1x1024 ![0, 0] Nw slices_S4x1024_S1x1024_0_0) shapeCasts_S1x1024_S1024)))) (shapeCast _ (extractStridedSlice S1x1024x2816 ![0, 0, 0] Wg slices_S4x1024x2816_S1x1024x2816_0_0_0) shapeCasts_S1x1024x2816_S1024x2816)) (Host.divf (broadcastInDim S32768x2816 ![] bcast_S_S32768x2816 (constant (F := Ideal) S_ .f32 0x3F800000#32)) (addf (broadcastInDim S32768x2816 ![] bcast_S_S32768x2816 (constant (F := Ideal) S_ .f32 0x3F800000#32)) (Host.exp (Host.negf (Host.dotGeneral dot_S32768x1024_S1024x2816_S32768x2816_1_0_0_1_n_n none (mulf (mulf X (broadcastInDim S32768x1024 ![0, 1] bcast_S32768x1_S32768x1024_0_1 (Host.rsqrt (addf (Host.divf (broadcastInDim S32768x1 ![0] bcast_S32768_S32768x1_0 (Host.reduceAdd (mulf X X) (constant (F := Ideal) S_ .f32 0x00000000#32) reducesTo_S32768x1024_S32768_d1 h_S_)) (broadcastInDim S32768x1 ![] bcast_S_S32768x1 (constant (F := Ideal) S_ .f32 0x44800000#32))) (broadcastInDim S32768x1 ![] bcast_S_S32768x1 (constant (F := Ideal) S_ .f32 0x358637BD#32)))))) (broadcastInDim S32768x1024 ![0, 1] bcast_S1x1024_S32768x1024_0_1 (broadcastInDim S1x1024 ![1] bcast_S1024_S1x1024_1 (shapeCast _ (extractStridedSlice S1x1024 ![0, 0] Nw slices_S4x1024_S1x1024_0_0) shapeCasts_S1x1024_S1024)))) (shapeCast _ (extractStridedSlice S1x1024x2816 ![0, 0, 0] Wg slices_S4x1024x2816_S1x1024x2816_0_0_0) shapeCasts_S1x1024x2816_S1024x2816))))))) (Host.dotGeneral dot_S32768x1024_S1024x2816_S32768x2816_1_0_0_1_n_n none (mulf (mulf X (broadcastInDim S32768x1024 ![0, 1] bcast_S32768x1_S32768x1024_0_1 (Host.rsqrt (addf (Host.divf (broadcastInDim S32768x1 ![0] bcast_S32768_S32768x1_0 (Host.reduceAdd (mulf X X) (constant (F := Ideal) S_ .f32 0x00000000#32) reducesTo_S32768x1024_S32768_d1 h_S_)) (broadcastInDim S32768x1 ![] bcast_S_S32768x1 (constant (F := Ideal) S_ .f32 0x44800000#32))) (broadcastInDim S32768x1 ![] bcast_S_S32768x1 (constant (F := Ideal) S_ .f32 0x358637BD#32)))))) (broadcastInDim S32768x1024 ![0, 1] bcast_S1x1024_S32768x1024_0_1 (broadcastInDim S1x1024 ![1] bcast_S1024_S1x1024_1 (shapeCast _ (extractStridedSlice S1x1024 ![0, 0] Nw slices_S4x1024_S1x1024_0_0) shapeCasts_S1x1024_S1024)))) (shapeCast _ (extractStridedSlice S1x1024x2816 ![0, 0, 0] Wu slices_S4x1024x2816_S1x1024x2816_0_0_0) shapeCasts_S1x1024x2816_S1024x2816))) (shapeCast _ (extractStridedSlice S1x2816x1024 ![0, 0, 0] Wd slices_S4x2816x1024_S1x2816x1024_0_0_0) shapeCasts_S1x2816x1024_S2816x1024))) : FVec Ideal S32768x1024 .f32) = FfnMath.ffn X Nw Wg Wu Wd := by
  funext y
  obtain ⟨r, j, rfl⟩ : ∃ (r : Fin 32768) (j : Fin 1024), y = ix2 r j := ⟨y 0, y 1, by funext a; fin_cases a <;> rfl⟩
  show _ = FfnMath.ffnRow (fun e => X (ix2 r e)) (fun e => Nw (ix2 (0 : Fin 4) e)) (fun d f => Wg (ix3 (0 : Fin 4) d f))
    (fun d f => Wu (ix3 (0 : Fin 4) d f)) (fun f e => Wd (ix3 (0 : Fin 4) f e)) j
  pointwise [FfnMath.ffnRow, FfnMath.rms, FfnTiles.gated, Ideal.logistic]

/-- From any float memory the feed-forward kernel and the plain program both end, with the same result and their arguments kept. -/
theorem algebraic : Cert.algebraic_FfnIdeal_FfnRefIdeal (hFfnIdeal := Cert.FfnIdeal.Gen.facts) (hFfnRefIdeal := Cert.FfnRefIdeal.Gen.facts) := by
  intro m g m' g' _ hag
  refine ⟨fun c => FfnMath.ffn (m ((c : Thread Cert.FfnIdeal.nD Cert.FfnIdeal.τ).loc Cert.FfnIdeal.main_arg0))
    (m ((c : Thread Cert.FfnIdeal.nD Cert.FfnIdeal.τ).loc Cert.FfnIdeal.main_arg1))
    (m ((c : Thread Cert.FfnIdeal.nD Cert.FfnIdeal.τ).loc Cert.FfnIdeal.main_arg2))
    (m ((c : Thread Cert.FfnIdeal.nD Cert.FfnIdeal.τ).loc Cert.FfnIdeal.main_arg3))
    (m ((c : Thread Cert.FfnIdeal.nD Cert.FfnIdeal.τ).loc Cert.FfnIdeal.main_arg4)), ?_, ?_⟩
  · refine (θ_run Cert.FfnIdeal.defs _ _).mono (fun r h c => ⟨(h c).1.trans (FfnValue.final m c), (h c).2⟩) (Cert.FfnIdeal.Value.run_blocks m g)
  · refine (θ_run Cert.FfnRefIdeal.defs _ _).mono (fun r h c => ⟨((h c).1.trans (ref_eq _ _ _ _ _)).trans ?_, (h c).2⟩)
      (Cert.FfnRefIdeal.Value.run m' g')
    rw [(hag c).1, (hag c).2.1, (hag c).2.2.1, (hag c).2.2.2.1, (hag c).2.2.2.2]

end Cert.FfnClaim

end
-- ==== Proof.MixBlock.lean ====
/- The second half of a layer in one kernel (mixing the attention and state-space outputs into the residual, then the gated
   feed-forward block, then the closing norm): what a grid point leaves in its output block. -/
module

public import proofs.«01_k».proof.Proof.Gen.MixIdeal.Value
public import proofs.«01_k».proof.Proof.FfnMath
public import Idealize.ShloMosaic.Lib.Claim
public import Idealize.ShloMosaic.Lib.StableHlo.ReadAt

@[expose] public section
set_option maxRecDepth 16384
noncomputable section
namespace Cert.MixValue
open Cert.MixIdeal Cert.MixIdeal.Gen Idealize.ShloMosaic Idealize.ShloMosaic.TcCoe Idealize.SL.Sem
open Idealize.ShloMosaic.Pipeline (Dat)
open scoped BigOperators

/-- The first 512 rows of the output projection. -/
def top (w : Vec Ideal S1x1024x1024 .bf16) : Vec Ideal S1x512x1024 .bf16 :=
  View.ld (Val := Elt Ideal) (e' := .bf16) w (Rect.unit (s := S1x1024x1024) ![0, 0, 0] ![1, 512, 1024] (by decide))

/-- The last 512 rows of the output projection. -/
def bottom (w : Vec Ideal S1x1024x1024 .bf16) : Vec Ideal S1x512x1024 .bf16 :=
  View.ld (Val := Elt Ideal) (e' := .bf16) w (Rect.unit (s := S1x1024x1024) ![0, 512, 0] ![1, 512, 1024] (by decide))

/-- What one grid point leaves in its output block, over its twelve input blocks. -/
theorem out12 (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .f32) (harg3 : arg3.IsWhole) (arg4 : Memref sig .tc .vmem S1x512x512 .bf16) (harg4 : arg4.IsWhole) (arg5 : Memref sig .tc .vmem S1x1x512 .f32) (harg5 : arg5.IsWhole) (arg6 : Memref sig .tc .vmem S1x1x512 .f32) (harg6 : arg6.IsWhole) (arg7 : Memref sig .tc .vmem S1x1024x1024 .bf16) (harg7 : arg7.IsWhole) (arg8 : Memref sig .tc .vmem S1x1x1024 .f32) (harg8 : arg8.IsWhole) (arg9 : Memref sig .tc .vmem S1x1024x2816 .bf16) (harg9 : arg9.IsWhole) (arg10 : Memref sig .tc .vmem S1x1024x2816 .bf16) (harg10 : arg10.IsWhole) (arg11 : Memref sig .tc .vmem S1x2816x1024 .bf16) (harg11 : arg11.IsWhole) (arg12 : Memref sig .tc .vmem S1x1024 .f32) (harg12 : arg12.IsWhole) (arg13 : Memref sig .tc .vmem S512x1024 .f32) (harg13 : arg13.IsWhole) (arg14 : Memref sig .tc .vmem S512x1024 .bf16) (harg14 : arg14.IsWhole) (arg15 : Memref sig .tc .vmem S2x512x512 .f32) (harg15 : arg15.IsWhole)
    (x0 : Vec Ideal S512x1024 .f32) (x1 : Vec Ideal S512x512 .bf16) (x2 : Vec Ideal S512x512 .f32) (x3 : Vec Ideal S1x512x512 .bf16) (x4 : Vec Ideal S1x1x512 .f32) (x5 : Vec Ideal S1x1x512 .f32) (x6 : Vec Ideal S1x1024x1024 .bf16) (x7 : Vec Ideal S1x1x1024 .f32) (x8 : Vec Ideal S1x1024x2816 .bf16) (x9 : Vec Ideal S1x1024x2816 .bf16) (x10 : Vec Ideal S1x2816x1024 .bf16) (x11 : Vec Ideal S1x1024 .f32) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11
      = k0_pay1 (FfnTiles.tile (k0_pay5 x0 (k0_pay2 x2 x3 x4) (k0_pay3 x5) x1 (top x6) (bottom x6) x7) x8 x9 x10
          (k0_pay4 x0 (k0_pay2 x2 x3 x4) (k0_pay3 x5) x1 (top x6) (bottom x6))) x11 := by
  unfold out0_A_12
  rw [View.read_writes_eq_canon _ _ _ (cover0_A_12 c _ _ _ _ _ _ _ _ _ _ _ _ _ _ _ _ _ _ _ _ _ _ _ _ _ _ _ _ _ _ _ _ _ _ _ _ _ _ _ _ _ _ _)]
  unfold kernelRun0_A
  dsimp only
  sl_unfold_words
  simp (disch := decide) only [↓ View.readCov_skip, ↓ View.readCov_cons_toLoadRect, ↓ View.readCov_fill, ↓ FfnTiles.read_slot]
  simp only [View.readAt_eq_ld, Memref.IsWhole.read_unread]
  rw [View.canon_cons_unit_zero (by decide)]
  repeat rw [View.ld_unit_zero (by decide)]
  rfl

end Cert.MixValue

end
-- ==== Proof.MixMath.lean ====
/- One row of the layer's second half, as extended-real arithmetic: the gated activation of the state-space output, its norm,
   the two halves of the output projection, the feed-forward block and the closing norm. -/
module

public import proofs.«01_k».proof.Proof.FfnMath

@[expose] public section
noncomputable section
namespace Cert.MixMath
open Idealize.ShloMosaic
open scoped BigOperators

/-- The tanh form of the Gaussian error linear unit. -/
def gelu (y : EReal) : EReal :=
  y * (Ideal.ofBits .f32 0x3F000000#32 * (1 + Ideal.tanh (Ideal.ofBits .f32 0x3F4C422A#32 * (y + Ideal.ofBits .f32 0x3D372713#32 * (y * y * y)))))

/-- The activated state-space row times the logistic function of its linear map. -/
def gate (y : Fin 512 → EReal) (w : Fin 512 → Fin 512 → EReal) (b : Fin 512 → EReal) (e : Fin 512) : EReal :=
  gelu (y e) * Ideal.logistic ((∑ k : Fin 512, gelu (y k) * w k e) + b e)

/-- A row of 512 numbers scaled by the reciprocal root of its mean square (with the guard 1e-6), then by the weights. -/
def rmsHalf (x w : Fin 512 → EReal) (d : Fin 512) : EReal :=
  x d * Ideal.rsqrt (Ideal.div (∑ e : Fin 512, x e * x e) (Ideal.ofBits .f32 0x44000000#32) + Ideal.ofBits .f32 0x358637BD#32) * w d

/-- The attention row and the normalised gated row side by side. -/
def side (a s : Fin 512 → EReal) (k : Fin 1024) : EReal :=
  if h : k.val < 512 then a ⟨k.val, h⟩ else s ⟨k.val - 512, by have := k.isLt; omega⟩

/-- The residual row after the output projection of the attention row and the normalised gated row. -/
def mixed (x : Fin 1024 → EReal) (a s : Fin 512 → EReal) (wo : Fin 1024 → Fin 1024 → EReal) (j : Fin 1024) : EReal :=
  x j + ∑ k : Fin 1024, side a s k * wo k j

/-- The product with the two rows side by side is the sum of the products with each. -/
theorem mixed_eq (x : Fin 1024 → EReal) (a s : Fin 512 → EReal) (wo : Fin 1024 → Fin 1024 → EReal) (j : Fin 1024) :
    mixed x a s wo j = x j + ∑ k : Fin 512, a k * wo ⟨k.val, by have := k.isLt; omega⟩ j
      + ∑ k : Fin 512, s k * wo ⟨512 + k.val, by have := k.isLt; omega⟩ j := by
  unfold mixed
  rw [add_assoc]
  refine congrArg (x j + ·) ?_
  refine (Fin.sum_univ_add (a := 512) (b := 512) fun k => side a s k * wo k j).trans ?_
  refine congrArg₂ (· + ·) ?_ ?_
  · refine Finset.sum_congr rfl fun k _ => ?_
    have hk := k.isLt
    simp only [side, Fin.val_castAdd, hk, dite_true]
    rfl
  · refine Finset.sum_congr rfl fun k _ => ?_
    have hk : ¬ (512 + k.val < 512) := by omega
    simp only [side, Fin.val_natAdd, hk, dite_false, Nat.add_sub_cancel_left]
    rfl

/-- The second half of the last layer over whole arrays. -/
def mix (X : FVec Ideal (⟨2, ![32768, 1024]⟩ : Shape) .f32) (At : FVec Ideal (⟨2, ![32768, 512]⟩ : Shape) .bf16)
    (Y : FVec Ideal (⟨2, ![32768, 512]⟩ : Shape) .f32) (W : FVec Ideal (⟨3, ![4, 512, 512]⟩ : Shape) .f32)
    (B Sn : FVec Ideal (⟨2, ![4, 512]⟩ : Shape) .f32) (Wo : FVec Ideal (⟨3, ![4, 1024, 1024]⟩ : Shape) .f32)
    (Nw : FVec Ideal (⟨2, ![4, 1024]⟩ : Shape) .f32)
    (Wg Wu : FVec Ideal (⟨3, ![4, 1024, 2816]⟩ : Shape) .f32) (Wd : FVec Ideal (⟨3, ![4, 2816, 1024]⟩ : Shape) .f32)
    (Fw : FVec Ideal (⟨1, ![1024]⟩ : Shape) .f32) :
    FVec Ideal (⟨2, ![32768, 1024]⟩ : Shape) .f32 := fun y =>
  FfnMath.rms (FfnMath.ffnRow
      (mixed (fun e => X (ix2 (y 0) e)) (fun k => At (ix2 (y 0) k))
        (rmsHalf (gate (fun k => Y (ix2 (y 0) k)) (fun k e => W (ix3 (3 : Fin 4) k e)) (fun e => B (ix2 (3 : Fin 4) e)))
          (fun e => Sn (ix2 (3 : Fin 4) e)))
        (fun k j => Wo (ix3 (3 : Fin 4) k j)))
      (fun e => Nw (ix2 (3 : Fin 4) e)) (fun d f => Wg (ix3 (3 : Fin 4) d f))
      (fun d f => Wu (ix3 (3 : Fin 4) d f)) (fun f e => Wd (ix3 (3 : Fin 4) f e)))
    (fun e => Fw (ix1 e)) (y 1)

end Cert.MixMath

end
-- ==== Proof.MixValue.lean ====
/- The second-half kernel's result array is the layer's plain mathematics, row by row, at every float memory over the
   extended reals. -/
module

public import proofs.«01_k».proof.Proof.MixBlock
public import proofs.«01_k».proof.Proof.MixMath

@[expose] public section
set_option maxRecDepth 16384
noncomputable section
namespace Cert.MixValue
open Cert.MixIdeal Cert.MixIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- The closing norm of a block, entry by entry. -/
theorem closing_apply (x : Vec Ideal S512x1024 .f32) (w : Vec Ideal S1x1024 .f32) (i : Fin 512) (j : Fin 1024) :
    k0_pay1 (F := Ideal) x w (ix2 i j) = FfnMath.rms (fun e => x (ix2 i e)) (fun e => w (ix2 (0 : Fin 1) e)) j := by
  pointwise [k0_pay1, FfnMath.rms]

/-- The gated and scaled row before its weights, times the weights. -/
theorem gated_apply (y : Vec Ideal S512x512 .f32) (w : Vec Ideal S1x512x512 .bf16) (b s : Vec Ideal S1x1x512 .f32) (i k : Fin 512) :
    k0_pay2 (F := Ideal) y w b (ix2 i k) * k0_pay3 (F := Ideal) s (ix2 i k)
      = MixMath.rmsHalf (MixMath.gate (fun k => y (ix2 i k)) (fun k e => w (ix3 (0 : Fin 1) k e)) (fun e => b (ix3 (0 : Fin 1) (0 : Fin 1) e)))
          (fun e => s (ix3 (0 : Fin 1) (0 : Fin 1) e)) k := by
  pointwise [k0_pay2, k0_pay3, MixMath.rmsHalf, MixMath.gate, MixMath.gelu]
  simp only [mul_assoc]

/-- The residual rows after the output projection, entry by entry. -/
theorem mixed_apply (x : Vec Ideal S512x1024 .f32) (g s : FVec Ideal S512x512 .f32) (a : Vec Ideal S512x512 .bf16)
    (w : Vec Ideal S1x1024x1024 .bf16) (i : Fin 512) (j : Fin 1024) :
    k0_pay4 (F := Ideal) x g s a (top w) (bottom w) (ix2 i j)
      = MixMath.mixed (fun e => x (ix2 i e)) (fun k => a (ix2 i k)) (fun k => g (ix2 i k) * s (ix2 i k))
          (fun k e => w (ix3 (0 : Fin 1) k e)) j := by
  rw [MixMath.mixed_eq]
  pointwise [k0_pay4, top, bottom]

/-- The normalised rows of a block, entry by entry. -/
theorem norm_apply (x : Vec Ideal S512x1024 .f32) (g s : FVec Ideal S512x512 .f32) (a : Vec Ideal S512x512 .bf16)
    (t b : Vec Ideal S1x512x1024 .bf16) (n : Vec Ideal S1x1x1024 .f32) (i : Fin 512) (d : Fin 1024) :
    k0_pay5 (F := Ideal) x g s a t b n (ix2 i d)
      = FfnMath.rms (fun e => k0_pay4 (F := Ideal) x g s a t b (ix2 i e)) (fun e => n (ix3 (0 : Fin 1) (0 : Fin 1) e)) d := by
  pointwise [k0_pay5, FfnMath.rms]

/-- The blocks every grid point stages: its own 512 rows, the last layer's weights, and the closing norm's weights. -/
theorem idx : ∀ t : Fin cfg0.N, win0_0.index t = ![t.val, 0] ∧ win0_1.index t = ![t.val, 0] ∧ win0_2.index t = ![t.val, 0]
    ∧ win0_3.index t = ![3, 0, 0] ∧ win0_4.index t = ![3, 0, 0] ∧ win0_5.index t = ![3, 0, 0] ∧ win0_6.index t = ![3, 0, 0]
    ∧ win0_7.index t = ![3, 0, 0] ∧ win0_8.index t = ![3, 0, 0] ∧ win0_9.index t = ![3, 0, 0] ∧ win0_10.index t = ![3, 0, 0]
    ∧ win0_11.index t = ![0, 0] ∧ win0_12.index t = ![t.val, 0] :=
  (by decide +kernel : ∀ t : Fin grid0.N, _)

/-- The prepared gate matrix of the state-space output, read at an index. -/
theorem V0_apply (c : Dev nD) (i : Fin 4) (k e : Fin 512) :
    (show FVec Ideal S4x512x512 .bf16 from V m c main_v0) (ix3 i k e)
      = (show FVec Ideal S4x512x512 .f32 from m ((c : Thread nD τ).loc main_arg3)) (ix3 i k e) := by
  unfold V
  after_reads_at

/-- The prepared gate bias, read at an index. -/
theorem V1_apply (c : Dev nD) (i : Fin 4) (o : Fin 1) (e : Fin 512) :
    (show FVec Ideal S4x1x512 .f32 from V m c main_v1) (ix3 i o e)
      = (show FVec Ideal S4x512 .f32 from m ((c : Thread nD τ).loc main_arg4)) (ix2 i e) := by
  unfold V
  after_reads_at

/-- The prepared norm weights of the state-space output, read at an index. -/
theorem V2_apply (c : Dev nD) (i : Fin 4) (o : Fin 1) (e : Fin 512) :
    (show FVec Ideal S4x1x512 .f32 from V m c main_v2) (ix3 i o e)
      = (show FVec Ideal S4x512 .f32 from m ((c : Thread nD τ).loc main_arg5)) (ix2 i e) := by
  unfold V
  after_reads_at

/-- The prepared output projection, read at an index. -/
theorem V3_apply (c : Dev nD) (i : Fin 4) (k e : Fin 1024) :
    (show FVec Ideal S4x1024x1024 .bf16 from V m c main_v3) (ix3 i k e)
      = (show FVec Ideal S4x1024x1024 .f32 from m ((c : Thread nD τ).loc main_arg6)) (ix3 i k e) := by
  unfold V
  after_reads_at

/-- The prepared norm weights of the feed-forward block, read at an index. -/
theorem V4_apply (c : Dev nD) (i : Fin 4) (o : Fin 1) (e : Fin 1024) :
    (show FVec Ideal S4x1x1024 .f32 from V m c main_v4) (ix3 i o e)
      = (show FVec Ideal S4x1024 .f32 from m ((c : Thread nD τ).loc main_arg7)) (ix2 i e) := by
  unfold V
  after_reads_at

/-- The prepared gate weights, read at an index. -/
theorem V5_apply (c : Dev nD) (i : Fin 4) (d : Fin 1024) (f : Fin 2816) :
    (show FVec Ideal S4x1024x2816 .bf16 from V m c main_v5) (ix3 i d f)
      = (show FVec Ideal S4x1024x2816 .f32 from m ((c : Thread nD τ).loc main_arg8)) (ix3 i d f) := by
  unfold V
  after_reads_at

/-- The prepared up weights, read at an index. -/
theorem V6_apply (c : Dev nD) (i : Fin 4) (d : Fin 1024) (f : Fin 2816) :
    (show FVec Ideal S4x1024x2816 .bf16 from V m c main_v6) (ix3 i d f)
      = (show FVec Ideal S4x1024x2816 .f32 from m ((c : Thread nD τ).loc main_arg9)) (ix3 i d f) := by
  unfold V
  after_reads_at

/-- The prepared down weights, read at an index: one half of the argument. -/
theorem V9_apply (c : Dev nD) (i : Fin 4) (f : Fin 2816) (d : Fin 1024) :
    (show FVec Ideal S4x2816x1024 .bf16 from V m c main_v9) (ix3 i f d)
      = FfnMath.half * (show FVec Ideal S4x2816x1024 .f32 from m ((c : Thread nD τ).loc main_arg10)) (ix3 i f d) := by
  unfold V
  after_reads_at

/-- The prepared closing norm weights, read at an index. -/
theorem V10_apply (c : Dev nD) (o : Fin 1) (e : Fin 1024) :
    (show FVec Ideal S1x1024 .f32 from V m c main_v10) (ix2 o e)
      = (show FVec Ideal S1024 .f32 from m ((c : Thread nD τ).loc main_arg11)) (ix1 e) := by
  unfold V
  after_reads_at

/-- Row block 0 of a grid point, read at an index of the array. -/
theorem blk0 (c : Dev nD) (t : Fin cfg0.N) (i : Fin 512) (j : Fin 1024) (e : Fin 1024) :
    (show FVec Ideal S512x1024 .f32 from iblk m c 0 t) (ix2 i e)
      = (show FVec Ideal S32768x1024 .f32 from m ((c : Thread nD τ).loc main_arg0)) (ix2 (((cfg0.win 12).blk t).view.emb (ix2 i j) 0) e) := by
  blk_ext [iblk, V, idx t]

/-- Row block 1 of a grid point, read at an index of the array. -/
theorem blk1 (c : Dev nD) (t : Fin cfg0.N) (i : Fin 512) (j : Fin 1024) (e : Fin 512) :
    (show FVec Ideal S512x512 .bf16 from iblk m c 1 t) (ix2 i e)
      = (show FVec Ideal S32768x512 .bf16 from m ((c : Thread nD τ).loc main_arg1)) (ix2 (((cfg0.win 12).blk t).view.emb (ix2 i j) 0) e) := by
  blk_ext [iblk, V, idx t]

/-- Row block 2 of a grid point, read at an index of the array. -/
theorem blk2 (c : Dev nD) (t : Fin cfg0.N) (i : Fin 512) (j : Fin 1024) (e : Fin 512) :
    (show FVec Ideal S512x512 .f32 from iblk m c 2 t) (ix2 i e)
      = (show FVec Ideal S32768x512 .f32 from m ((c : Thread nD τ).loc main_arg2)) (ix2 (((cfg0.win 12).blk t).view.emb (ix2 i j) 0) e) := by
  blk_ext [iblk, V, idx t]

/-- The gate matrix block of a grid point is the last layer's. -/
theorem blk3 (c : Dev nD) (t : Fin cfg0.N) (k e : Fin 512) :
    (show FVec Ideal S1x512x512 .bf16 from iblk m c 3 t) (ix3 (0 : Fin 1) k e)
      = (show FVec Ideal S4x512x512 .f32 from m ((c : Thread nD τ).loc main_arg3)) (ix3 (3 : Fin 4) k e) := by
  refine Eq.trans ?_ (V0_apply m c 3 k e)
  blk_ext [iblk, idx t]

/-- The gate bias block of a grid point is the last layer's. -/
theorem blk4 (c : Dev nD) (t : Fin cfg0.N) (e : Fin 512) :
    (show FVec Ideal S1x1x512 .f32 from iblk m c 4 t) (ix3 (0 : Fin 1) (0 : Fin 1) e)
      = (show FVec Ideal S4x512 .f32 from m ((c : Thread nD τ).loc main_arg4)) (ix2 (3 : Fin 4) e) := by
  refine Eq.trans ?_ (V1_apply m c 3 0 e)
  blk_ext [iblk, idx t]

/-- The state-space norm block of a grid point is the last layer's. -/
theorem blk5 (c : Dev nD) (t : Fin cfg0.N) (e : Fin 512) :
    (show FVec Ideal S1x1x512 .f32 from iblk m c 5 t) (ix3 (0 : Fin 1) (0 : Fin 1) e)
      = (show FVec Ideal S4x512 .f32 from m ((c : Thread nD τ).loc main_arg5)) (ix2 (3 : Fin 4) e) := by
  refine Eq.trans ?_ (V2_apply m c 3 0 e)
  blk_ext [iblk, idx t]

/-- The output projection block of a grid point is the last layer's. -/
theorem blk6 (c : Dev nD) (t : Fin cfg0.N) (k e : Fin 1024) :
    (show FVec Ideal S1x1024x1024 .bf16 from iblk m c 6 t) (ix3 (0 : Fin 1) k e)
      = (show FVec Ideal S4x1024x1024 .f32 from m ((c : Thread nD τ).loc main_arg6)) (ix3 (3 : Fin 4) k e) := by
  refine Eq.trans ?_ (V3_apply m c 3 k e)
  blk_ext [iblk, idx t]

/-- The feed-forward norm block of a grid point is the last layer's. -/
theorem blk7 (c : Dev nD) (t : Fin cfg0.N) (e : Fin 1024) :
    (show FVec Ideal S1x1x1024 .f32 from iblk m c 7 t) (ix3 (0 : Fin 1) (0 : Fin 1) e)
      = (show FVec Ideal S4x1024 .f32 from m ((c : Thread nD τ).loc main_arg7)) (ix2 (3 : Fin 4) e) := by
  refine Eq.trans ?_ (V4_apply m c 3 0 e)
  blk_ext [iblk, idx t]

/-- The gate block of a grid point is the last layer's. -/
theorem blk8 (c : Dev nD) (t : Fin cfg0.N) (d : Fin 1024) (f : Fin 2816) :
    (show FVec Ideal S1x1024x2816 .bf16 from iblk m c 8 t) (ix3 (0 : Fin 1) d f)
      = (show FVec Ideal S4x1024x2816 .f32 from m ((c : Thread nD τ).loc main_arg8)) (ix3 (3 : Fin 4) d f) := by
  refine Eq.trans ?_ (V5_apply m c 3 d f)
  blk_ext [iblk, idx t]

/-- The up block of a grid point is the last layer's. -/
theorem blk9 (c : Dev nD) (t : Fin cfg0.N) (d : Fin 1024) (f : Fin 2816) :
    (show FVec Ideal S1x1024x2816 .bf16 from iblk m c 9 t) (ix3 (0 : Fin 1) d f)
      = (show FVec Ideal S4x1024x2816 .f32 from m ((c : Thread nD τ).loc main_arg9)) (ix3 (3 : Fin 4) d f) := by
  refine Eq.trans ?_ (V6_apply m c 3 d f)
  blk_ext [iblk, idx t]

/-- The down block of a grid point is one half of the last layer's. -/
theorem blk10 (c : Dev nD) (t : Fin cfg0.N) (f : Fin 2816) (d : Fin 1024) :
    (show FVec Ideal S1x2816x1024 .bf16 from iblk m c 10 t) (ix3 (0 : Fin 1) f d)
      = FfnMath.half * (show FVec Ideal S4x2816x1024 .f32 from m ((c : Thread nD τ).loc main_arg10)) (ix3 (3 : Fin 4) f d) := by
  refine Eq.trans ?_ (V9_apply m c 3 f d)
  blk_ext [iblk, idx t]

/-- The closing norm block of a grid point is its argument. -/
theorem blk11 (c : Dev nD) (t : Fin cfg0.N) (e : Fin 1024) :
    (show FVec Ideal S1x1024 .f32 from iblk m c 11 t) (ix2 (0 : Fin 1) e)
      = (show FVec Ideal S1024 .f32 from m ((c : Thread nD τ).loc main_arg11)) (ix1 e) := by
  refine Eq.trans ?_ (V10_apply m c 0 e)
  blk_ext [iblk, idx t]

/-- A tile of the kernel over given blocks is the plain mathematics of their rows. -/
theorem tile_row (x0 : Vec Ideal S512x1024 .f32) (x1 : Vec Ideal S512x512 .bf16) (x2 : Vec Ideal S512x512 .f32)
    (x3 : Vec Ideal S1x512x512 .bf16) (x4 x5 : Vec Ideal S1x1x512 .f32) (x6 : Vec Ideal S1x1024x1024 .bf16)
    (x7 : Vec Ideal S1x1x1024 .f32) (x8 x9 : Vec Ideal S1x1024x2816 .bf16) (x10 : Vec Ideal S1x2816x1024 .bf16)
    (x11 : Vec Ideal S1x1024 .f32) (i : Fin 512) (j : Fin 1024)
    (x n f : Fin 1024 → EReal) (a y b s : Fin 512 → EReal) (w : Fin 512 → Fin 512 → EReal) (wo : Fin 1024 → Fin 1024 → EReal)
    (wg wu : Fin 1024 → Fin 2816 → EReal) (wd : Fin 2816 → Fin 1024 → EReal)
    (h0 : ∀ e, x0 (ix2 i e) = x e) (h1 : ∀ e, x1 (ix2 i e) = a e) (h2 : ∀ e, x2 (ix2 i e) = y e)
    (h3 : ∀ k e, x3 (ix3 (0 : Fin 1) k e) = w k e) (h4 : ∀ e, x4 (ix3 (0 : Fin 1) (0 : Fin 1) e) = b e)
    (h5 : ∀ e, x5 (ix3 (0 : Fin 1) (0 : Fin 1) e) = s e) (h6 : ∀ k e, x6 (ix3 (0 : Fin 1) k e) = wo k e)
    (h7 : ∀ e, x7 (ix3 (0 : Fin 1) (0 : Fin 1) e) = n e) (h8 : ∀ d f, x8 (ix3 (0 : Fin 1) d f) = wg d f)
    (h9 : ∀ d f, x9 (ix3 (0 : Fin 1) d f) = wu d f) (h10 : ∀ f d, x10 (ix3 (0 : Fin 1) f d) = FfnMath.half * wd f d)
    (h11 : ∀ e, x11 (ix2 (0 : Fin 1) e) = f e) :
    k0_pay1 (FfnTiles.tile (k0_pay5 x0 (k0_pay2 x2 x3 x4) (k0_pay3 x5) x1 (top x6) (bottom x6) x7) x8 x9 x10
          (k0_pay4 x0 (k0_pay2 x2 x3 x4) (k0_pay3 x5) x1 (top x6) (bottom x6))) x11 (ix2 i j)
      = FfnMath.rms (FfnMath.ffnRow (MixMath.mixed x a (MixMath.rmsHalf (MixMath.gate y w b) s) wo) n wg wu wd) f j := by
  have hm : ∀ e, k0_pay4 x0 (k0_pay2 x2 x3 x4) (k0_pay3 x5) x1 (top x6) (bottom x6) (ix2 i e)
      = MixMath.mixed x a (MixMath.rmsHalf (MixMath.gate y w b) s) wo e := by
    intro e
    rw [mixed_apply]
    simp only [gated_apply, h0, h1, h2, h3, h4, h5, h6]
  have ht : ∀ e, FfnTiles.tile (k0_pay5 x0 (k0_pay2 x2 x3 x4) (k0_pay3 x5) x1 (top x6) (bottom x6) x7) x8 x9 x10
          (k0_pay4 x0 (k0_pay2 x2 x3 x4) (k0_pay3 x5) x1 (top x6) (bottom x6)) (ix2 i e)
      = FfnMath.ffnRow (MixMath.mixed x a (MixMath.rmsHalf (MixMath.gate y w b) s) wo) n wg wu wd e := by
    intro e
    rw [FfnTiles.tile_apply]
    simp only [FfnTiles.term, FfnTiles.proj, norm_apply]
    simp only [hm, h7, h8, h9, h10]
    rw [FfnMath.sum_half]
    rfl
  rw [closing_apply]
  simp only [ht, h11]

/-- The result array after the run is the second half of the layer of the argument arrays. -/
theorem final (c : Dev nD) : (dats m 0 c).arrAt 12 (cfgs 0).N
    = MixMath.mix (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 12 _ (by decide +kernel) fun t _ y => ?_
  blk_simp
  rw [after0_12]
  simp only [outsAt0]
  rw [out12]
  obtain ⟨i, j, rfl⟩ : ∃ (i : Fin 512) (j : Fin 1024), y = ix2 i j := ⟨y 0, y 1, by funext a; fin_cases a <;> rfl⟩
  refine (tile_row _ _ _ _ _ _ _ _ _ _ _ _ i j _ _ _ _ _ _ _ _ _ _ _ _
    (fun e => blk0 m c t i j e) (fun e => blk1 m c t i j e) (fun e => blk2 m c t i j e)
    (fun k e => blk3 m c t k e) (fun e => blk4 m c t e) (fun e => blk5 m c t e) (fun k e => blk6 m c t k e)
    (fun e => blk7 m c t e) (fun d f => blk8 m c t d f) (fun d f => blk9 m c t d f) (fun f d => blk10 m c t f d)
    (fun e => blk11 m c t e)).trans ?_
  unfold MixMath.mix
  congr 1
  refine Fin.ext ?_
  blk_simp [idx t]

end Cert.MixValue

end
-- ==== Proof.MixClaim.lean ====
/- The plain program for the layer's second half computes the same mathematics, and so the kernel and the plain program agree. -/
module

public import proofs.«01_k».proof.Proof.Gen.MixRefIdeal
public import proofs.«01_k».proof.Proof.Gen.MixRefIdeal.Run
public import proofs.«01_k».proof.Proof.MixValue
public import proofs.«01_k».proof.Defs

@[expose] public section
set_option maxRecDepth 16384
noncomputable section
namespace Cert.MixClaim
open Cert.MixRefIdeal Cert.MixRefIdeal.Gen Cert.MixRefIdeal.Value Idealize.ShloMosaic Idealize.ShloMosaic.TcCoe Idealize.SL.Sem
open Idealize.ShloMosaic.StableHlo
open scoped BigOperators

variable (V0 : Valuation τ sig (Elt Ideal))

/-- The plain program's gated row. -/
theorem gate_apply (r : Fin 32768) (e : Fin 512) :
    (show FVec Ideal S32768x512 .f32 from res_main_v27 V0) (ix2 r e)
      = MixMath.gate (fun k => (show FVec Ideal S32768x512 .f32 from V0 (Proc.devRef .tc main_arg2)) (ix2 r k))
          (fun k e => (show FVec Ideal S4x512x512 .f32 from V0 (Proc.devRef .tc main_arg3)) (ix3 (3 : Fin 4) k e))
          (fun e => (show FVec Ideal S4x512 .f32 from V0 (Proc.devRef .tc main_arg4)) (ix2 (3 : Fin 4) e)) e := by
  pointwise [res_main_v27, res_main_v12, MixMath.gate, MixMath.gelu, Ideal.logistic]

/-- The plain program's residual row after the output projection. -/
theorem mixed_apply (r : Fin 32768) (j : Fin 1024) :
    (show FVec Ideal S32768x1024 .f32 from res_main_v48 V0) (ix2 r j)
      = MixMath.mixed (fun e => (show FVec Ideal S32768x1024 .f32 from V0 (Proc.devRef .tc main_arg0)) (ix2 r e))
          (fun k => (show FVec Ideal S32768x512 .bf16 from V0 (Proc.devRef .tc main_arg1)) (ix2 r k))
          (MixMath.rmsHalf (fun e => (show FVec Ideal S32768x512 .f32 from res_main_v27 V0) (ix2 r e))
            (fun e => (show FVec Ideal S4x512 .f32 from V0 (Proc.devRef .tc main_arg5)) (ix2 (3 : Fin 4) e)))
          (fun k j => (show FVec Ideal S4x1024x1024 .f32 from V0 (Proc.devRef .tc main_arg6)) (ix3 (3 : Fin 4) k j)) j := by
  pointwise [res_main_v48, MixMath.mixed, MixMath.rmsHalf, MixMath.side]

/-- The plain program's feed-forward row. -/
theorem ffn_apply (r : Fin 32768) (j : Fin 1024) :
    (show FVec Ideal S32768x1024 .f32 from res_main_v77 V0) (ix2 r j)
      = FfnMath.ffnRow (fun e => (show FVec Ideal S32768x1024 .f32 from res_main_v48 V0) (ix2 r e))
          (fun e => (show FVec Ideal S4x1024 .f32 from V0 (Proc.devRef .tc main_arg7)) (ix2 (3 : Fin 4) e))
          (fun d f => (show FVec Ideal S4x1024x2816 .f32 from V0 (Proc.devRef .tc main_arg8)) (ix3 (3 : Fin 4) d f))
          (fun d f => (show FVec Ideal S4x1024x2816 .f32 from V0 (Proc.devRef .tc main_arg9)) (ix3 (3 : Fin 4) d f))
          (fun f e => (show FVec Ideal S4x2816x1024 .f32 from V0 (Proc.devRef .tc main_arg10)) (ix3 (3 : Fin 4) f e)) j := by
  pointwise [res_main_v77, res_main_v70, res_main_v63, FfnMath.ffnRow, FfnMath.rms, FfnTiles.gated, Ideal.logistic]

/-- The plain program's result as it is composed of its operations is the second half of the layer. -/
theorem ref_eq : (show FVec Ideal S32768x1024 .f32 from mulf (mulf (res_main_v77 V0) (broadcastInDim S32768x1024 ![0, 1] bcast_S32768x1_S32768x1024_0_1 (Host.rsqrt (addf (Host.divf (broadcastInDim S32768x1 ![0] bcast_S32768_S32768x1_0 (Host.reduceAdd (mulf (res_main_v77 V0) (res_main_v77 V0)) (constant (F := Ideal) S_ .f32 0x00000000#32) reducesTo_S32768x1024_S32768_d1 h_S_)) (broadcastInDim S32768x1 ![] bcast_S_S32768x1 (constant (F := Ideal) S_ .f32 0x44800000#32))) (broadcastInDim S32768x1 ![] bcast_S_S32768x1 (constant (F := Ideal) S_ .f32 0x358637BD#32)))))) (broadcastInDim S32768x1024 ![0, 1] bcast_S1x1024_S32768x1024_0_1 (broadcastInDim S1x1024 ![1] bcast_S1024_S1x1024_1 (V0 (Proc.devRef .tc main_arg11)))))
    = MixMath.mix (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) := by
  funext y
  obtain ⟨r, j, rfl⟩ : ∃ (r : Fin 32768) (j : Fin 1024), y = ix2 r j := ⟨y 0, y 1, by funext a; fin_cases a <;> rfl⟩
  have hc : ∀ (Z : FVec Ideal S32768x1024 .f32) (w : FVec Ideal S1024 .f32),
      (mulf (mulf Z (broadcastInDim S32768x1024 ![0, 1] bcast_S32768x1_S32768x1024_0_1 (Host.rsqrt (addf (Host.divf (broadcastInDim S32768x1 ![0] bcast_S32768_S32768x1_0 (Host.reduceAdd (mulf Z Z) (constant (F := Ideal) S_ .f32 0x00000000#32) reducesTo_S32768x1024_S32768_d1 h_S_)) (broadcastInDim S32768x1 ![] bcast_S_S32768x1 (constant (F := Ideal) S_ .f32 0x44800000#32))) (broadcastInDim S32768x1 ![] bcast_S_S32768x1 (constant (F := Ideal) S_ .f32 0x358637BD#32)))))) (broadcastInDim S32768x1024 ![0, 1] bcast_S1x1024_S32768x1024_0_1 (broadcastInDim S1x1024 ![1] bcast_S1024_S1x1024_1 w)) : FVec Ideal S32768x1024 .f32) (ix2 r j)
        = FfnMath.rms (fun e => Z (ix2 r e)) (fun e => w (ix1 e)) j := by
    intro Z w
    pointwise [FfnMath.rms]
  refine (hc _ _).trans ?_
  simp only [ffn_apply, mixed_apply, gate_apply]
  rfl

/-- From any float memory the second-half kernel and the plain program both end, with the same result and their arguments kept. -/
theorem algebraic : Cert.algebraic_MixIdeal_MixRefIdeal (hMixIdeal := Cert.MixIdeal.Gen.facts) (hMixRefIdeal := Cert.MixRefIdeal.Gen.facts) := by
  intro m g m' g' _ hag
  refine ⟨fun c => MixMath.mix (m ((c : Thread Cert.MixIdeal.nD Cert.MixIdeal.τ).loc Cert.MixIdeal.main_arg0))
    (m ((c : Thread Cert.MixIdeal.nD Cert.MixIdeal.τ).loc Cert.MixIdeal.main_arg1))
    (m ((c : Thread Cert.MixIdeal.nD Cert.MixIdeal.τ).loc Cert.MixIdeal.main_arg2))
    (m ((c : Thread Cert.MixIdeal.nD Cert.MixIdeal.τ).loc Cert.MixIdeal.main_arg3))
    (m ((c : Thread Cert.MixIdeal.nD Cert.MixIdeal.τ).loc Cert.MixIdeal.main_arg4))
    (m ((c : Thread Cert.MixIdeal.nD Cert.MixIdeal.τ).loc Cert.MixIdeal.main_arg5))
    (m ((c : Thread Cert.MixIdeal.nD Cert.MixIdeal.τ).loc Cert.MixIdeal.main_arg6))
    (m ((c : Thread Cert.MixIdeal.nD Cert.MixIdeal.τ).loc Cert.MixIdeal.main_arg7))
    (m ((c : Thread Cert.MixIdeal.nD Cert.MixIdeal.τ).loc Cert.MixIdeal.main_arg8))
    (m ((c : Thread Cert.MixIdeal.nD Cert.MixIdeal.τ).loc Cert.MixIdeal.main_arg9))
    (m ((c : Thread Cert.MixIdeal.nD Cert.MixIdeal.τ).loc Cert.MixIdeal.main_arg10))
    (m ((c : Thread Cert.MixIdeal.nD Cert.MixIdeal.τ).loc Cert.MixIdeal.main_arg11)), ?_, ?_⟩
  · refine (θ_run Cert.MixIdeal.defs _ _).mono (fun r h c => ⟨(h c).1.trans (MixValue.final m c), (h c).2⟩) (Cert.MixIdeal.Value.run_blocks m g)
  · refine (θ_run Cert.MixRefIdeal.defs _ _).mono (fun r h c => ⟨((h c).1.trans (ref_eq (launchContents m' c))).trans ?_, (h c).2⟩)
      (Cert.MixRefIdeal.Value.run m' g')
    obtain ⟨h0, h1, h2, h3, h4, h5, h6, h7, h8, h9, h10, h11⟩ := hag c
    show MixMath.mix (m' ((c : Thread nD τ).loc main_arg0))
      (m' ((c : Thread nD τ).loc main_arg1))
      (m' ((c : Thread nD τ).loc main_arg2))
      (m' ((c : Thread nD τ).loc main_arg3))
      (m' ((c : Thread nD τ).loc main_arg4))
      (m' ((c : Thread nD τ).loc main_arg5))
      (m' ((c : Thread nD τ).loc main_arg6))
      (m' ((c : Thread nD τ).loc main_arg7))
      (m' ((c : Thread nD τ).loc main_arg8))
      (m' ((c : Thread nD τ).loc main_arg9))
      (m' ((c : Thread nD τ).loc main_arg10))
      (m' ((c : Thread nD τ).loc main_arg11))
      = MixMath.mix (m ((c : Thread Cert.MixIdeal.nD Cert.MixIdeal.τ).loc Cert.MixIdeal.main_arg0))
      (m ((c : Thread Cert.MixIdeal.nD Cert.MixIdeal.τ).loc Cert.MixIdeal.main_arg1))
      (m ((c : Thread Cert.MixIdeal.nD Cert.MixIdeal.τ).loc Cert.MixIdeal.main_arg2))
      (m ((c : Thread Cert.MixIdeal.nD Cert.MixIdeal.τ).loc Cert.MixIdeal.main_arg3))
      (m ((c : Thread Cert.MixIdeal.nD Cert.MixIdeal.τ).loc Cert.MixIdeal.main_arg4))
      (m ((c : Thread Cert.MixIdeal.nD Cert.MixIdeal.τ).loc Cert.MixIdeal.main_arg5))
      (m ((c : Thread Cert.MixIdeal.nD Cert.MixIdeal.τ).loc Cert.MixIdeal.main_arg6))
      (m ((c : Thread Cert.MixIdeal.nD Cert.MixIdeal.τ).loc Cert.MixIdeal.main_arg7))
      (m ((c : Thread Cert.MixIdeal.nD Cert.MixIdeal.τ).loc Cert.MixIdeal.main_arg8))
      (m ((c : Thread Cert.MixIdeal.nD Cert.MixIdeal.τ).loc Cert.MixIdeal.main_arg9))
      (m ((c : Thread Cert.MixIdeal.nD Cert.MixIdeal.τ).loc Cert.MixIdeal.main_arg10))
      (m ((c : Thread Cert.MixIdeal.nD Cert.MixIdeal.τ).loc Cert.MixIdeal.main_arg11))
    rw [h0, h1, h2, h3, h4, h5, h6, h7, h8, h9, h10, h11]

end Cert.MixClaim

end
-- ==== Proof.ProjValue.lean ====
/- The projection kernel's three result arrays are the columns of one plain product, row by row, at every float memory over the
   extended reals. -/
module

public import proofs.«01_k».proof.Proof.Gen.ProjIdeal.Value
public import proofs.«01_k».proof.Proof.FfnMath
public import Idealize.ShloMosaic.Lib.Claim
public import Idealize.ShloMosaic.Lib.StableHlo.ReadAt

@[expose] public section
set_option maxRecDepth 16384
noncomputable section
namespace Cert.ProjValue
open Cert.ProjIdeal Cert.ProjIdeal.Gen Idealize.ShloMosaic Idealize.ShloMosaic.TcCoe Idealize.SL.Sem
open Idealize.ShloMosaic.Pipeline (Dat)
open scoped BigOperators

/-- The input projection of one position: its normalised row times column `f` of the first layer's matrix. -/
def column (X : FVec Ideal S8x4096x1024 .f32) (Nw : FVec Ideal S4x1024 .f32) (W : FVec Ideal S4x1024x1280 .f32) (b : Fin 8) (r : Fin 4096)
    (f : Fin 1280) : EReal :=
  ∑ d : Fin 1024, FfnMath.rms (fun e => X (ix3 b r e)) (fun e => Nw (ix2 (0 : Fin 4) e)) d * W (ix3 (0 : Fin 4) d f)

/-- The queries: the first 512 columns, scaled by one eighth. -/
def queries (X : FVec Ideal S8x4096x1024 .f32) (Nw : FVec Ideal S4x1024 .f32) (W : FVec Ideal S4x1024x1280 .f32) :
    FVec Ideal S8x4096x512 .bf16 := fun y =>
  column X Nw W (y 0) (y 1) ⟨(y 2).val, lt_trans (show (y 2).val < 512 from (y 2).isLt) (by decide)⟩ * Ideal.ofBits .f32 0x3E000000#32

/-- The keys and values: the next 256 columns. -/
def keyvals (X : FVec Ideal S8x4096x1024 .f32) (Nw : FVec Ideal S4x1024 .f32) (W : FVec Ideal S4x1024x1280 .f32) :
    FVec Ideal S8x4096x256 .bf16 := fun y =>
  column X Nw W (y 0) (y 1) ⟨512 + (y 2).val, by have : (y 2).val < 256 := (y 2).isLt; omega⟩

/-- The scan's input: the last 512 columns. -/
def inputs (X : FVec Ideal S8x4096x1024 .f32) (Nw : FVec Ideal S4x1024 .f32) (W : FVec Ideal S4x1024x1280 .f32) :
    FVec Ideal S8x4096x512 .f32 := fun y =>
  column X Nw W (y 0) (y 1) ⟨768 + (y 2).val, by have : (y 2).val < 512 := (y 2).isLt; omega⟩

/-- The product of a block, entry by entry. -/
theorem prod_apply (x0 : Vec Ideal S1x512x1024 .f32) (x1 : Vec Ideal S1x1x1024 .f32) (x2 : Vec Ideal S1x1024x1280 .bf16) (i : Fin 512)
    (f : Fin 1280) :
    k0_pay2 (F := Ideal) x0 x1 x2 (ix2 i f) = ∑ d : Fin 1024, FfnMath.rms (fun e => x0 (ix3 (0 : Fin 1) i e))
      (fun e => x1 (ix3 (0 : Fin 1) (0 : Fin 1) e)) d * x2 (ix3 (0 : Fin 1) d f) := by
  pointwise [k0_pay2, FfnMath.rms]

/-- What a grid point stores as queries. -/
theorem pay3_apply (x0 : Vec Ideal S1x512x1024 .f32) (x1 : Vec Ideal S1x1x1024 .f32) (x2 : Vec Ideal S1x1024x1280 .bf16) (i j : Fin 512) :
    k0_pay3 (F := Ideal) x0 x1 x2 (ix3 (0 : Fin 1) i j)
      = k0_pay2 (F := Ideal) x0 x1 x2 (ix2 i (⟨j.val, by omega⟩ : Fin 1280)) * Ideal.ofBits .f32 0x3E000000#32 := by
  unfold k0_pay3
  generalize k0_pay2 (F := Ideal) x0 x1 x2 = p
  pointwise

/-- What a grid point stores as keys and values. -/
theorem pay4_apply (x0 : Vec Ideal S1x512x1024 .f32) (x1 : Vec Ideal S1x1x1024 .f32) (x2 : Vec Ideal S1x1024x1280 .bf16) (i : Fin 512)
    (j : Fin 256) :
    k0_pay4 (F := Ideal) x0 x1 x2 (ix3 (0 : Fin 1) i j) = k0_pay2 (F := Ideal) x0 x1 x2 (ix2 i (⟨512 + j.val, by omega⟩ : Fin 1280)) := by
  unfold k0_pay4
  generalize k0_pay2 (F := Ideal) x0 x1 x2 = p
  pointwise

/-- What a grid point stores as the scan's input. -/
theorem pay5_apply (x0 : Vec Ideal S1x512x1024 .f32) (x1 : Vec Ideal S1x1x1024 .f32) (x2 : Vec Ideal S1x1024x1280 .bf16) (i j : Fin 512) :
    k0_pay1 (F := Ideal) (k0_pay5 x0 x1 x2) (ix3 (0 : Fin 1) i j)
      = k0_pay2 (F := Ideal) x0 x1 x2 (ix2 i (⟨768 + j.val, by omega⟩ : Fin 1280)) := by
  unfold k0_pay1 k0_pay5
  generalize k0_pay2 (F := Ideal) x0 x1 x2 = p
  pointwise

variable (m : (ℓ : Loc nD τ sig) → Buf (Elt Ideal) ℓ)

/-- The blocks every grid point stages: its own 512 rows of its batch row, the first layer's norm weights and matrix. -/
theorem idx : ∀ t : Fin cfg0.N, win0_0.index t = ![t.val / 8, t.val % 8, 0] ∧ win0_1.index t = ![0, 0, 0] ∧ win0_2.index t = ![0, 0, 0]
    ∧ win0_3.index t = ![t.val / 8, t.val % 8, 0] ∧ win0_4.index t = ![t.val / 8, t.val % 8, 0]
    ∧ win0_5.index t = ![t.val / 8, t.val % 8, 0] :=
  (by decide +kernel : ∀ t : Fin grid0.N, _)

/-- The prepared norm weights, read at an index. -/
theorem V0_apply (c : Dev nD) (i : Fin 4) (o : Fin 1) (d : Fin 1024) :
    (show FVec Ideal S4x1x1024 .f32 from V m c main_v0) (ix3 i o d)
      = (show FVec Ideal S4x1024 .f32 from m ((c : Thread nD τ).loc main_arg1)) (ix2 i d) := by
  unfold V
  after_reads_at

/-- The prepared matrices, read at an index. -/
theorem V1_apply (c : Dev nD) (i : Fin 4) (d : Fin 1024) (f : Fin 1280) :
    (show FVec Ideal S4x1024x1280 .bf16 from V m c main_v1) (ix3 i d f)
      = (show FVec Ideal S4x1024x1280 .f32 from m ((c : Thread nD τ).loc main_arg2)) (ix3 i d f) := by
  unfold V
  after_reads_at

/-- The batch row of a grid point. -/
def batch (t : Fin cfg0.N) : Fin 8 := ⟨t.val / 8, by have : t.val < 64 := t.isLt; omega⟩

/-- The position of row `i` of a grid point's block. -/
def pos (t : Fin cfg0.N) (i : Fin 512) : Fin 4096 := ⟨512 * (t.val % 8) + i.val, by omega⟩

/-- The row block of a grid point, read at an index of the array. -/
theorem blk0 (c : Dev nD) (t : Fin cfg0.N) (i : Fin 512) (e : Fin 1024) :
    (show FVec Ideal S1x512x1024 .f32 from iblk m c 0 t) (ix3 (0 : Fin 1) i e)
      = (show FVec Ideal S8x4096x1024 .f32 from m ((c : Thread nD τ).loc main_arg0))
          (ix3 (⟨t.val / 8, by have : t.val < 64 := t.isLt; omega⟩ : Fin 8) (⟨512 * (t.val % 8) + i.val, by omega⟩ : Fin 4096) e) := by
  blk_ext [iblk, V, idx t]

/-- The norm block of a grid point is the first layer's norm weights. -/
theorem blk1 (c : Dev nD) (t : Fin cfg0.N) (e : Fin 1024) :
    (show FVec Ideal S1x1x1024 .f32 from iblk m c 1 t) (ix3 (0 : Fin 1) (0 : Fin 1) e)
      = (show FVec Ideal S4x1024 .f32 from m ((c : Thread nD τ).loc main_arg1)) (ix2 (0 : Fin 4) e) := by
  refine Eq.trans ?_ (V0_apply m c 0 0 e)
  blk_ext [iblk, idx t]

/-- The matrix block of a grid point is the first layer's matrix. -/
theorem blk2 (c : Dev nD) (t : Fin cfg0.N) (d : Fin 1024) (f : Fin 1280) :
    (show FVec Ideal S1x1024x1280 .bf16 from iblk m c 2 t) (ix3 (0 : Fin 1) d f)
      = (show FVec Ideal S4x1024x1280 .f32 from m ((c : Thread nD τ).loc main_arg2)) (ix3 (0 : Fin 4) d f) := by
  refine Eq.trans ?_ (V1_apply m c 0 d f)
  blk_ext [iblk, idx t]

/-- The product of a grid point's blocks is the projection of its positions. -/
theorem prod_blk (c : Dev nD) (t : Fin cfg0.N) (i : Fin 512) (f : Fin 1280) :
    k0_pay2 (F := Ideal) (iblk m c 0 t) (iblk m c 1 t) (iblk m c 2 t) (ix2 i f)
      = column (m ((c : Thread nD τ).loc main_arg0)) (m ((c : Thread nD τ).loc main_arg1)) (m ((c : Thread nD τ).loc main_arg2))
          (batch t) (pos t i) f := by
  refine (prod_apply _ _ _ i f).trans ?_
  unfold column
  refine Finset.sum_congr rfl fun d _ => ?_
  exact congrArg₂ (· * ·) (congrArg₂ (fun x w => FfnMath.rms x w d) (funext fun e => blk0 m c t i e) (funext fun e => blk1 m c t e))
    (blk2 m c t d f)

/-- The query array after the run. -/
theorem final3 (c : Dev nD) : (dats m 0 c).arrAt 3 (cfgs 0).N
    = queries (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold out0_3
  rw [View.canon_cons_unit_zero (by decide), View.ld_unit_zero (by decide), View.ld_unit_zero (by decide), View.ld_unit_zero (by decide)]
  obtain ⟨i, j, rfl⟩ : ∃ (i : Fin 512) (j : Fin 512), y = ix3 (0 : Fin 1) i j := ⟨y 1, y 2, by
    funext a
    match a with
    | ⟨0, _⟩ => exact Fin.ext (by have : (y 0).val < 1 := (y 0).isLt; show (y 0).val = 0; omega)
    | ⟨1, _⟩ => rfl
    | ⟨2, _⟩ => rfl⟩
  refine (pay3_apply _ _ _ i j).trans ?_
  rw [prod_blk]
  unfold queries
  congr 2
  · refine Fin.ext ?_; blk_simp [idx t]; show t.val / 8 = t.val / 8 + 0; omega
  · refine Fin.ext ?_; blk_simp [idx t]; show 512 * (t.val % 8) + i.val = t.val % 8 * 512 + i.val; omega
  · refine Fin.ext ?_; blk_simp [idx t]

/-- The key-value array after the run. -/
theorem final4 (c : Dev nD) : (dats m 0 c).arrAt 4 (cfgs 0).N
    = keyvals (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  unfold out0_4
  rw [View.canon_cons_unit_zero (by decide), View.ld_unit_zero (by decide), View.ld_unit_zero (by decide), View.ld_unit_zero (by decide)]
  obtain ⟨i, j, rfl⟩ : ∃ (i : Fin 512) (j : Fin 256), y = ix3 (0 : Fin 1) i j := ⟨y 1, y 2, by
    funext a
    match a with
    | ⟨0, _⟩ => exact Fin.ext (by have : (y 0).val < 1 := (y 0).isLt; show (y 0).val = 0; omega)
    | ⟨1, _⟩ => rfl
    | ⟨2, _⟩ => rfl⟩
  refine (pay4_apply _ _ _ i j).trans ?_
  rw [prod_blk]
  unfold keyvals
  congr 1
  · refine Fin.ext ?_; blk_simp [idx t]; show t.val / 8 = t.val / 8 + 0; omega
  · refine Fin.ext ?_; blk_simp [idx t]; show 512 * (t.val % 8) + i.val = t.val % 8 * 512 + i.val; omega
  · refine Fin.ext ?_; blk_simp [idx t]

/-- The array of the scan's input after the run. -/
theorem final5 (c : Dev nD) : (dats m 0 c).arrAt 5 (cfgs 0).N
    = inputs (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  unfold out0_5
  rw [View.canon_cons_unit_zero (by decide), View.ld_unit_zero (by decide), View.ld_unit_zero (by decide), View.ld_unit_zero (by decide)]
  obtain ⟨i, j, rfl⟩ : ∃ (i : Fin 512) (j : Fin 512), y = ix3 (0 : Fin 1) i j := ⟨y 1, y 2, by
    funext a
    match a with
    | ⟨0, _⟩ => exact Fin.ext (by have : (y 0).val < 1 := (y 0).isLt; show (y 0).val = 0; omega)
    | ⟨1, _⟩ => rfl
    | ⟨2, _⟩ => rfl⟩
  refine (pay5_apply _ _ _ i j).trans ?_
  rw [prod_blk]
  unfold inputs
  congr 1
  · refine Fin.ext ?_; blk_simp [idx t]; show t.val / 8 = t.val / 8 + 0; omega
  · refine Fin.ext ?_; blk_simp [idx t]; show 512 * (t.val % 8) + i.val = t.val % 8 * 512 + i.val; omega
  · refine Fin.ext ?_; blk_simp [idx t]

end Cert.ProjValue

end
-- ==== Proof.ProjClaim.lean ====
/- The plain projection program computes the same columns, and so the projection kernel and the plain program agree. -/
module

public import proofs.«01_k».proof.Proof.Gen.ProjRefIdeal
public import proofs.«01_k».proof.Proof.Gen.ProjRefIdeal.Run
public import proofs.«01_k».proof.Proof.ProjValue
public import proofs.«01_k».proof.Defs

@[expose] public section
set_option maxRecDepth 16384
noncomputable section
namespace Cert.ProjClaim
open Cert.ProjRefIdeal Cert.ProjRefIdeal.Gen Idealize.ShloMosaic Idealize.ShloMosaic.TcCoe Idealize.SL.Sem
open scoped BigOperators

/-- The plain program's queries as composed of its operations. -/
theorem ref_queries (X : FVec Ideal S8x4096x1024 .f32) (Nw : FVec Ideal S4x1024 .f32) (W : FVec Ideal S4x1024x1280 .f32) :
    (truncf .bf16 (mulf (extractStridedSlice S8x4096x512 ![0, 0, 0] (Host.dotGeneral dot_S8x4096x1024_S1024x1280_S8x4096x1280_2_0_01_1_n_n none (mulf (mulf X (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf X X) (constant (F := Ideal) S_ .f32 0x00000000#32) reducesTo_S8x4096x1024_S8x4096_d2 h_S_)) (broadcastInDim S8x4096x1 ![] bcast_S_S8x4096x1 (constant (F := Ideal) S_ .f32 0x44800000#32))) (broadcastInDim S8x4096x1 ![] bcast_S_S8x4096x1 (constant (F := Ideal) S_ .f32 0x358637BD#32)))))) (broadcastInDim S8x4096x1024 ![0, 1, 2] bcast_S1x1x1024_S8x4096x1024_0_1_2 (broadcastInDim S1x1x1024 ![2] bcast_S1024_S1x1x1024_2 (shapeCast _ (extractStridedSlice S1x1024 ![0, 0] Nw slices_S4x1024_S1x1024_0_0) shapeCasts_S1x1024_S1024)))) (shapeCast _ (extractStridedSlice S1x1024x1280 ![0, 0, 0] W slices_S4x1024x1280_S1x1024x1280_0_0_0) shapeCasts_S1x1024x1280_S1024x1280)) slices_S8x4096x1280_S8x4096x512_0_0_0) (broadcastInDim S8x4096x512 ![] bcast_S_S8x4096x512 (constant (F := Ideal) S_ .f32 0x3E000000#32))) bitsLt_bf16_f32 : FVec Ideal S8x4096x512 .bf16) = ProjValue.queries X Nw W := by
  funext y
  obtain ⟨b, r, j, rfl⟩ : ∃ (b : Fin 8) (r : Fin 4096) (j : Fin 512), y = ix3 b r j := ⟨y 0, y 1, y 2, by funext a; fin_cases a <;> rfl⟩
  unfold ProjValue.queries ProjValue.column
  pointwise [FfnMath.rms]

/-- The plain program's key-value array as composed of its operations. -/
theorem ref_keyvals (X : FVec Ideal S8x4096x1024 .f32) (Nw : FVec Ideal S4x1024 .f32) (W : FVec Ideal S4x1024x1280 .f32) :
    (truncf .bf16 (extractStridedSlice S8x4096x256 ![0, 0, 512] (Host.dotGeneral dot_S8x4096x1024_S1024x1280_S8x4096x1280_2_0_01_1_n_n none (mulf (mulf X (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf X X) (constant (F := Ideal) S_ .f32 0x00000000#32) reducesTo_S8x4096x1024_S8x4096_d2 h_S_)) (broadcastInDim S8x4096x1 ![] bcast_S_S8x4096x1 (constant (F := Ideal) S_ .f32 0x44800000#32))) (broadcastInDim S8x4096x1 ![] bcast_S_S8x4096x1 (constant (F := Ideal) S_ .f32 0x358637BD#32)))))) (broadcastInDim S8x4096x1024 ![0, 1, 2] bcast_S1x1x1024_S8x4096x1024_0_1_2 (broadcastInDim S1x1x1024 ![2] bcast_S1024_S1x1x1024_2 (shapeCast _ (extractStridedSlice S1x1024 ![0, 0] Nw slices_S4x1024_S1x1024_0_0) shapeCasts_S1x1024_S1024)))) (shapeCast _ (extractStridedSlice S1x1024x1280 ![0, 0, 0] W slices_S4x1024x1280_S1x1024x1280_0_0_0) shapeCasts_S1x1024x1280_S1024x1280)) slices_S8x4096x1280_S8x4096x256_0_0_512) bitsLt_bf16_f32 : FVec Ideal S8x4096x256 .bf16) = ProjValue.keyvals X Nw W := by
  funext y
  obtain ⟨b, r, j, rfl⟩ : ∃ (b : Fin 8) (r : Fin 4096) (j : Fin 256), y = ix3 b r j := ⟨y 0, y 1, y 2, by funext a; fin_cases a <;> rfl⟩
  unfold ProjValue.keyvals ProjValue.column
  pointwise [FfnMath.rms]

/-- The plain program's scan's input as composed of its operations. -/
theorem ref_inputs (X : FVec Ideal S8x4096x1024 .f32) (Nw : FVec Ideal S4x1024 .f32) (W : FVec Ideal S4x1024x1280 .f32) :
    (extractStridedSlice S8x4096x512 ![0, 0, 768] (Host.dotGeneral dot_S8x4096x1024_S1024x1280_S8x4096x1280_2_0_01_1_n_n none (mulf (mulf X (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf X X) (constant (F := Ideal) S_ .f32 0x00000000#32) reducesTo_S8x4096x1024_S8x4096_d2 h_S_)) (broadcastInDim S8x4096x1 ![] bcast_S_S8x4096x1 (constant (F := Ideal) S_ .f32 0x44800000#32))) (broadcastInDim S8x4096x1 ![] bcast_S_S8x4096x1 (constant (F := Ideal) S_ .f32 0x358637BD#32)))))) (broadcastInDim S8x4096x1024 ![0, 1, 2] bcast_S1x1x1024_S8x4096x1024_0_1_2 (broadcastInDim S1x1x1024 ![2] bcast_S1024_S1x1x1024_2 (shapeCast _ (extractStridedSlice S1x1024 ![0, 0] Nw slices_S4x1024_S1x1024_0_0) shapeCasts_S1x1024_S1024)))) (shapeCast _ (extractStridedSlice S1x1024x1280 ![0, 0, 0] W slices_S4x1024x1280_S1x1024x1280_0_0_0) shapeCasts_S1x1024x1280_S1024x1280)) slices_S8x4096x1280_S8x4096x512_0_0_768 : FVec Ideal S8x4096x512 .f32) = ProjValue.inputs X Nw W := by
  funext y
  obtain ⟨b, r, j, rfl⟩ : ∃ (b : Fin 8) (r : Fin 4096) (j : Fin 512), y = ix3 b r j := ⟨y 0, y 1, y 2, by funext a; fin_cases a <;> rfl⟩
  unfold ProjValue.inputs ProjValue.column
  pointwise [FfnMath.rms]

/-- From any float memory the projection kernel and the plain program both end, with the same three results and their arguments kept. -/
theorem algebraic : Cert.algebraic_ProjIdeal_ProjRefIdeal (hProjIdeal := Cert.ProjIdeal.Gen.facts) (hProjRefIdeal := Cert.ProjRefIdeal.Gen.facts) := by
  intro m g m' g' _ hag
  refine ⟨fun c => ProjValue.queries (m ((c : Thread Cert.ProjIdeal.nD Cert.ProjIdeal.τ).loc Cert.ProjIdeal.main_arg0)) (m ((c : Thread Cert.ProjIdeal.nD Cert.ProjIdeal.τ).loc Cert.ProjIdeal.main_arg1)) (m ((c : Thread Cert.ProjIdeal.nD Cert.ProjIdeal.τ).loc Cert.ProjIdeal.main_arg2)),
    fun c => ProjValue.keyvals (m ((c : Thread Cert.ProjIdeal.nD Cert.ProjIdeal.τ).loc Cert.ProjIdeal.main_arg0)) (m ((c : Thread Cert.ProjIdeal.nD Cert.ProjIdeal.τ).loc Cert.ProjIdeal.main_arg1)) (m ((c : Thread Cert.ProjIdeal.nD Cert.ProjIdeal.τ).loc Cert.ProjIdeal.main_arg2)),
    fun c => ProjValue.inputs (m ((c : Thread Cert.ProjIdeal.nD Cert.ProjIdeal.τ).loc Cert.ProjIdeal.main_arg0)) (m ((c : Thread Cert.ProjIdeal.nD Cert.ProjIdeal.τ).loc Cert.ProjIdeal.main_arg1)) (m ((c : Thread Cert.ProjIdeal.nD Cert.ProjIdeal.τ).loc Cert.ProjIdeal.main_arg2)), ?_, ?_⟩
  · exact (θ_run Cert.ProjIdeal.defs _ _).mono (fun r h c => ⟨(h c).1.trans (ProjValue.final3 m c), (h c).2.1.trans (ProjValue.final4 m c),
      (h c).2.2.1.trans (ProjValue.final5 m c), (h c).2.2.2⟩) (Cert.ProjIdeal.Value.run_blocks m g)
  · refine (θ_run Cert.ProjRefIdeal.defs _ _).mono (fun r h c => ⟨((h c).1.trans (ref_queries _ _ _)).trans ?_,
      ((h c).2.1.trans (ref_keyvals _ _ _)).trans ?_, ((h c).2.2.1.trans (ref_inputs _ _ _)).trans ?_, (h c).2.2.2⟩)
      (Cert.ProjRefIdeal.Value.run m' g')
    all_goals rw [(hag c).1, (hag c).2.1, (hag c).2.2]

end Cert.ProjClaim

end
-- ==== Proof.BiasIndex.lean ====
/- The bucket of every pair of positions, and that it lies among the table's 32 rows. -/
module

public import proofs.«01_k».proof.Proof.Gen.BiasRefIdeal
public import Idealize.ShloMosaic.Lib.StableHlo.ReadAt
public import Idealize.ShloMosaic.Lib.Pointwise.Tactic
public import Idealize.ShloMosaic.Lib.Pointwise
public import Mathlib.Analysis.SpecialFunctions.Log.Basic

@[expose] public section
set_option maxRecDepth 16384
noncomputable section
namespace Cert.BiasIndex
open Cert.BiasRefIdeal Cert.BiasRefIdeal.Gen Idealize.ShloMosaic Idealize.ShloMosaic.TcCoe Idealize.SL.Sem

/-- Key position minus query position, in the window of 384 keys around a block of 128 queries. -/
def rel : IVec S128x384 32 :=
  subi (broadcastInDim S128x384 ![0, 1] bcast_S1x384_S128x384_0_1 (subi (broadcastInDim S1x384 ![1] bcast_S384_S1x384_1 (iotaInDim S384 32 0)) (broadcastInDim S1x384 ![] bcast_S_S1x384 (constantI S_ 32 128#32)))) (broadcastInDim S128x384 ![0, 1] bcast_S128x1_S128x384_0_1 (broadcastInDim S128x1 ![0] bcast_S128_S128x1_0 (iotaInDim S128 32 0)))

/-- The bucket of a pair of positions. -/
def idx : IVec S128x384 32 :=
  addi (id (select (cmpi .sgt rel (broadcastInDim S128x384 ![] bcast_S_S128x384 (constantI S_ 32 0#32))) (broadcastInDim S128x384 ![] bcast_S_S128x384 (constantI S_ 32 16#32)) (broadcastInDim S128x384 ![] bcast_S_S128x384 (constantI S_ 32 0#32)))) (select (cmpi .slt (absi rel) (broadcastInDim S128x384 ![] bcast_S_S128x384 (constantI S_ 32 8#32))) (absi rel) (minsi (addi (broadcastInDim S128x384 ![] bcast_S_S128x384 (constantI S_ 32 8#32)) (fptosi 32 (mulf (Host.divf (Host.log (Host.divf (sitofp .f32 (maxsi (absi rel) (broadcastInDim S128x384 ![] bcast_S_S128x384 (constantI S_ 32 1#32)))) (broadcastInDim S128x384 ![] bcast_S_S128x384 (constant (F := Ideal) S_ .f32 0x41000000#32)))) (broadcastInDim S128x384 ![] bcast_S_S128x384 (constant (F := Ideal) S_ .f32 0x40317218#32))) (broadcastInDim S128x384 ![] bcast_S_S128x384 (constant (F := Ideal) S_ .f32 0x41000000#32)) : (⟨S128x384, .f32⟩ : BufTy).Contents (Elt Ideal)))) (broadcastInDim S128x384 ![] bcast_S_S128x384 (constantI S_ 32 15#32))))

/-- Whether a pair of positions lies in the band. -/
def band : IVec S128x384 1 :=
  cmpi .sle (absi rel) (broadcastInDim S128x384 ![] bcast_S_S128x384 (constantI S_ 32 128#32))

/-- The logarithmic part of a bucket, past the exact ones. -/
def steps (w : BitVec 32) : BitVec 32 :=
  Ideal.fptosi 32 (Ideal.div (Ideal.log (Ideal.div (((w.toInt : ℝ)) : EReal) (Ideal.ofBits .f32 0x41000000#32)))
    (Ideal.ofBits .f32 0x40317218#32) * Ideal.ofBits .f32 0x41000000#32)

/-- The bucket of a difference of positions. -/
def bucket (x : BitVec 32) : BitVec 32 :=
  Scalar.select (IntOp.cmpi .sgt x 0#32) 16#32 0#32
    + Scalar.select (IntOp.cmpi .slt (IntOp.absi x) 8#32) (IntOp.absi x)
        (IntOp.minsi (8#32 + steps (IntOp.maxsi (IntOp.absi x) 1#32)) 15#32)

/-- The difference of two positions. -/
theorem rel_apply (r : Fin 128) (t : Fin 384) : rel (ix2 r t) = (BitVec.ofNat 32 t.val - 128#32) - BitVec.ofNat 32 r.val := rfl

/-- The bucket of two positions is that of their difference. -/
theorem idx_apply (r : Fin 128) (t : Fin 384) : idx (ix2 r t) = bucket (rel (ix2 r t)) := rfl

/-- No two positions are further apart than 255. -/
theorem abs_le (r : Fin 128) (t : Fin 384) : (IntOp.absi (rel (ix2 r t))).toNat ≤ 255 := by
  rw [rel_apply]
  have : ∀ (r : Fin 128) (t : Fin 384), (IntOp.absi ((BitVec.ofNat 32 t.val - 128#32) - BitVec.ofNat 32 r.val)).toNat ≤ 255 := by
    decide +kernel
  exact this r t

/-- The bit pattern of 8. -/
theorem eight : Ideal.ofBits .f32 0x41000000#32 = ((8 : ℝ) : EReal) := by
  simp [Ideal.ofBits, Ideal.ieee]
  norm_num
  rw [← EReal.coe_mul]
  norm_num

/-- The logarithm's scale is a real number above 1. -/
theorem scale : ∃ s : ℝ, 1 ≤ s ∧ Ideal.ofBits .f32 0x40317218#32 = (s : EReal) := by
  refine ⟨11629080 / 4194304, by norm_num, ?_⟩
  simp [Ideal.ofBits, Ideal.ieee]
  norm_num
  rw [← EReal.coe_mul]
  norm_num

/-- From 8 to 255 the logarithmic part is a small number. -/
theorem steps_le (w : BitVec 32) (h8 : 8 ≤ w.toNat) (h : w.toNat ≤ 255) : (steps w).toNat ≤ 256 := by
  obtain ⟨s, hs, hS⟩ := scale
  have hw : w.toInt = (w.toNat : ℤ) := BitVec.toInt_eq_toNat_of_lt (by omega)
  have h8' : (8 : ℝ) ≤ (w.toNat : ℝ) := by exact_mod_cast h8
  have h' : (w.toNat : ℝ) ≤ 255 := by exact_mod_cast h
  have hs0 : (0 : ℝ) < s := by linarith
  have e1 : Ideal.div (((w.toInt : ℝ)) : EReal) ((8 : ℝ) : EReal) = (((w.toNat : ℝ) * 8⁻¹ : ℝ) : EReal) := by
    rw [hw]; unfold Ideal.div
    rw [if_neg (by exact_mod_cast (by norm_num : (8 : ℝ) ≠ 0)), ← EReal.coe_inv, ← EReal.coe_mul]; norm_num
  have hq : (1 : ℝ) ≤ (w.toNat : ℝ) * 8⁻¹ := by linarith
  have e2 : Ideal.log (((w.toNat : ℝ) * 8⁻¹ : ℝ) : EReal) = ((Real.log ((w.toNat : ℝ) * 8⁻¹) : ℝ) : EReal) := by
    show (if (w.toNat : ℝ) * 8⁻¹ ≤ 0 then (⊥ : EReal) else _) = _
    rw [if_neg (by linarith)]
  have hl0 : 0 ≤ Real.log ((w.toNat : ℝ) * 8⁻¹) := Real.log_nonneg hq
  have hl1 : Real.log ((w.toNat : ℝ) * 8⁻¹) ≤ 32 := le_trans (Real.log_le_self (by linarith)) (by linarith)
  have e3 : Ideal.div ((Real.log ((w.toNat : ℝ) * 8⁻¹) : ℝ) : EReal) (s : EReal) = ((Real.log ((w.toNat : ℝ) * 8⁻¹) * s⁻¹ : ℝ) : EReal) := by
    unfold Ideal.div
    rw [if_neg (by exact_mod_cast hs0.ne'), ← EReal.coe_inv, ← EReal.coe_mul]
  have hi0 : 0 ≤ s⁻¹ := inv_nonneg.2 hs0.le
  have hi1 : s⁻¹ ≤ 1 := inv_le_one_of_one_le₀ hs
  have hz0 : 0 ≤ Real.log ((w.toNat : ℝ) * 8⁻¹) * s⁻¹ * 8 := by positivity
  have hz1 : Real.log ((w.toNat : ℝ) * 8⁻¹) * s⁻¹ * 8 ≤ 256 := by nlinarith
  unfold steps
  rw [eight, hS, e1, e2, e3, ← EReal.coe_mul]
  generalize Real.log ((w.toNat : ℝ) * 8⁻¹) * s⁻¹ * 8 = z at hz0 hz1
  unfold Ideal.fptosi
  show (BitVec.ofInt 32 (max _ (min _ (if 0 ≤ z then ⌊z⌋ else ⌈z⌉)))).toNat ≤ 256
  rw [if_pos hz0]
  have f0 : 0 ≤ ⌊z⌋ := Int.floor_nonneg.2 hz0
  have f1 : ⌊z⌋ ≤ 256 := by
    have : (⌊z⌋ : ℝ) ≤ 256 := le_trans (Int.floor_le z) hz1
    exact_mod_cast this
  generalize ⌊z⌋ = f at f0 f1
  have : max (-((2 ^ (32 - 1) : ℕ) : ℤ)) (min (((2 ^ (32 - 1) : ℕ) : ℤ) - 1) f) = f := by
    rw [min_eq_right (by norm_num; omega), max_eq_right (by norm_num; omega)]
  rw [this, BitVec.toNat_ofInt]
  norm_num
  omega

/-- A bucket is one of the table's 32 rows. -/
theorem bucket_lt (x : BitVec 32) (h : (IntOp.absi x).toNat ≤ 255) : (bucket x).toNat < 32 := by
  unfold bucket
  generalize IntOp.absi x = n at h
  have h1 : (Scalar.select (IntOp.cmpi .sgt x 0#32) 16#32 0#32 : BitVec 32).toNat ≤ 16 := by
    unfold Scalar.select; split <;> decide
  have h2 : (Scalar.select (IntOp.cmpi .slt n 8#32) n (IntOp.minsi (8#32 + steps (IntOp.maxsi n 1#32)) 15#32)).toNat ≤ 15 := by
    have hn : n.toInt = (n.toNat : ℤ) := BitVec.toInt_eq_toNat_of_lt (by omega)
    unfold Scalar.select IntOp.cmpi
    by_cases h8 : n.toNat < 8
    · have : n.slt 8#32 = true := by
        simp only [BitVec.slt, hn, decide_eq_true_eq]; show (n.toNat : ℤ) < 8; omega
      simp [this]; omega
    · have : n.slt 8#32 = false := by
        simp only [BitVec.slt, hn, decide_eq_false_iff_not]; show ¬ (n.toNat : ℤ) < 8; omega
      have hm : IntOp.maxsi n 1#32 = n := by
        unfold IntOp.maxsi
        rw [if_pos]
        simp only [BitVec.slt, hn, decide_eq_true_eq]; show (1 : ℤ) < n.toNat; omega
      have hst := steps_le n (by omega) h
      rw [hm]
      generalize steps n = f at hst
      simp only [this]
      show (IntOp.minsi (8#32 + f) 15#32).toNat ≤ 15
      have hf : (8#32 + f).toNat = 8 + f.toNat := by rw [BitVec.toNat_add]; show (8 + f.toNat) % 2 ^ 32 = _; omega
      have hf' : (8#32 + f).toInt = ((8 + f.toNat : ℕ) : ℤ) := by rw [← hf]; exact BitVec.toInt_eq_toNat_of_lt (by omega)
      unfold IntOp.minsi
      split
      · rename_i hlt
        simp only [BitVec.slt, hf', decide_eq_true_eq] at hlt
        have : ((8 + f.toNat : ℕ) : ℤ) < 15 := hlt
        omega
      · decide
  rw [BitVec.toNat_add]
  omega

/-- The bucket of every pair of positions is one of the table's 32 rows. -/
theorem idx_lt (r : Fin 128) (t : Fin 384) : (idx (ix2 r t)).toNat < 32 := by
  rw [idx_apply]; exact bucket_lt _ (abs_le r t)

end Cert.BiasIndex

end
-- ==== Proof.BiasRefValue.lean ====
/- The plain bias program computes the same banded lookup. -/
module

public import proofs.«01_k».proof.Proof.BiasIndex

@[expose] public section
set_option maxRecDepth 16384
noncomputable section
namespace Cert.BiasIndex
open Cert.BiasRefIdeal Cert.BiasRefIdeal.Gen Idealize.ShloMosaic Idealize.ShloMosaic.TcCoe Idealize.SL.Sem

/-- The gather of rows reads the row its start index names, clamped to the table. -/
theorem gather_apply (T : FVec Ideal S32x8 .f32) (k : IVec S128x384x1 32) (r : Fin 128) (t : Fin 384) (h : Fin 8) :
    Host.gather gather_S32x8_S128x384x1_S128x384x8_2_0_n_n_0_2_18 T k (ix3 r t h)
      = T (ix2 (⟨min (k (ix3 r t (0 : Fin 1))).toInt.toNat 31, by omega⟩ : Fin 32) h) := by
  unfold Host.gather
  congr 1
  funext a
  match a with
  | ⟨0, _⟩ =>
    refine Fin.ext ?_
    set d := gather_S32x8_S128x384x1_S128x384x8_2_0_n_n_0_2_18
    show d.start (ix3 r t h) k 0 + d.batchCoord (ix3 r t h) 0 + d.offCoord (ix3 r t h) 0 = min (k (ix3 r t (0 : Fin 1))).toInt.toNat 31
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ d.startIndexMap from List.mem_singleton.mpr rfl)]
    have hsi : d.siIdx (ix3 r t h) ⟨List.idxOf (0 : Fin 2) d.startIndexMap,
        List.idxOf_lt_length_iff.2 (List.mem_singleton.mpr rfl)⟩ = ix3 r t (0 : Fin 1) := by
      funext b; refine Fin.ext ?_
      match b with
      | ⟨0, _⟩ => rfl
      | ⟨1, _⟩ => rfl
      | ⟨2, _⟩ => rfl
    rw [hsi]
    rfl
  | ⟨1, _⟩ =>
    refine Fin.ext ?_
    set d := gather_S32x8_S128x384x1_S128x384x8_2_0_n_n_0_2_18
    show d.start (ix3 r t h) k 1 + d.batchCoord (ix3 r t h) 1 + d.offCoord (ix3 r t h) 1 = h.val
    rw [GatherDims.batchCoord_eq_zero _ _ _ List.not_mem_nil]
    have hs : d.start (ix3 r t h) k 1 = 0 := by
      unfold GatherDims.start
      rw [dif_neg (show (1 : Fin 2) ∉ d.startIndexMap from fun hm => absurd (List.mem_singleton.1 hm) (by decide))]
    have ho : d.offCoord (ix3 r t h) 1 = h.val := rfl
    rw [hs, ho]
    omega

end Cert.BiasIndex

end
-- ==== Proof.BiasValue.lean ====
/- What the bias kernel stores: for every head, the table's entry of the pair's bucket inside the band and the named mask outside. -/
module

public import proofs.«01_k».proof.Proof.Gen.BiasIdeal.Value
public import Idealize.ShloMosaic.Lib.Claim
public import Idealize.ShloMosaic.Lib.StableHlo.ReadAt

@[expose] public section
set_option maxRecDepth 16384
noncomputable section
namespace Cert.BiasValue
open Cert.BiasIdeal Cert.BiasIdeal.Gen Idealize.ShloMosaic Idealize.ShloMosaic.TcCoe Idealize.SL.Sem

/-- An entry of the table, read as a word. -/
def entry (x0 : Vec Ideal S32x8 .f32) (b : Fin 32) (h : Fin 8) : EReal :=
  View.ld (Val := Elt Ideal) (e' := .f32) x0 (Rect.unit (s := S32x8) ![b.val, h.val] ![1, 1] (by
    intro a; have := b.isLt; have := h.isLt
    match a with
    | ⟨0, _⟩ => show b.val + 1 ≤ 32; omega
    | ⟨1, _⟩ => show h.val + 1 ≤ 8; omega)) (Shape.Idx.first (by show 0 < Shape.numel (⟨2, ![1, 1]⟩ : Shape); decide))

/-- The word read is the table's entry. -/
theorem entry_eq (x0 : Vec Ideal S32x8 .f32) (b : Fin 32) (h : Fin 8) : entry x0 b h = x0 (ix2 b h) := by
  unfold entry
  show x0 _ = x0 _
  congr 1
  funext a
  match a with
  | ⟨0, _⟩ => refine Fin.ext ?_; show b.val + _ = b.val; rfl
  | ⟨1, _⟩ => refine Fin.ext ?_; show h.val + _ = h.val; rfl

/-- One head's table entries looked up in the first `n` buckets, one after another. -/
def chosen (x0 : Vec Ideal S32x8 .f32) (x1 : IVec S128x384 32) (h : Fin 8) : ℕ → FVec Ideal S128x384 .f32
  | 0 => broadcast S128x384 (FloatOps.ofBits (F := Ideal) .f32 0x00000000#32)
  | n + 1 => select (cmpi .eq x1 (broadcast S128x384 (BitVec.ofNat 32 n))) (broadcast S128x384 (entry x0 (Fin.ofNat 32 n) h)) (chosen x0 x1 h n)

/-- One head's stored tile. -/
def tile (x0 : Vec Ideal S32x8 .f32) (x1 x2 : IVec S128x384 32) (h : Fin 8) : FVec Ideal S1x128x384 .f32 :=
  shapeCast S1x128x384 (select (cmpi .sgt (shapeCast S128x384 x2 shapeCasts_S128x384_S128x384) (broadcast S128x384 0#32))
    (chosen x0 (shapeCast S128x384 x1 shapeCasts_S128x384_S128x384) h 32)
    (broadcast S128x384 (Named.named κ "mask" 0xF149F2CA#32))) shapeCasts_S128x384_S1x128x384

/-- Two lists of stored tiles with the same places agree if their contents do. -/
theorem piece {s : Shape} {e : EltTy} {r : Rect s} {v v' : r.shape.Idx → Elt Ideal e} {l l' : List (View.Piece (Elt Ideal) s e)} (h : v = v')
    (h' : l = l') : ((⟨r, v⟩ : View.Piece (Elt Ideal) s e) :: l) = ⟨r, v'⟩ :: l' := by rw [h, h']

/-- The eight stored tiles, last first. -/
def stored (x0 : Vec Ideal S32x8 .f32) (x1 x2 : IVec S128x384 32) : List (View.Piece (Elt Ideal) S8x128x384 .f32) :=
  [⟨Rect.unit (s := S8x128x384) ![7, 0, 0] S1x128x384.size inb_S8x128x384_S1x128x384_7_0_0, tile x0 x1 x2 7⟩,
   ⟨Rect.unit (s := S8x128x384) ![6, 0, 0] S1x128x384.size inb_S8x128x384_S1x128x384_6_0_0, tile x0 x1 x2 6⟩,
   ⟨Rect.unit (s := S8x128x384) ![5, 0, 0] S1x128x384.size inb_S8x128x384_S1x128x384_5_0_0, tile x0 x1 x2 5⟩,
   ⟨Rect.unit (s := S8x128x384) ![4, 0, 0] S1x128x384.size inb_S8x128x384_S1x128x384_4_0_0, tile x0 x1 x2 4⟩,
   ⟨Rect.unit (s := S8x128x384) ![3, 0, 0] S1x128x384.size inb_S8x128x384_S1x128x384_3_0_0, tile x0 x1 x2 3⟩,
   ⟨Rect.unit (s := S8x128x384) ![2, 0, 0] S1x128x384.size inb_S8x128x384_S1x128x384_2_0_0, tile x0 x1 x2 2⟩,
   ⟨Rect.unit (s := S8x128x384) ![1, 0, 0] S1x128x384.size inb_S8x128x384_S1x128x384_1_0_0, tile x0 x1 x2 1⟩,
   ⟨Rect.unit (s := S8x128x384) ![0, 0, 0] S1x128x384.size inb_S8x128x384_S1x128x384_0_0_0, tile x0 x1 x2 0⟩]

set_option maxHeartbeats 4000000 in
/-- The output block, from the three input blocks. -/
theorem out3 (c : Dev nD) (arg0 : Memref sig .tc .smem S32x8 .f32) (harg0 : arg0.IsWhole) (arg1 : Memref sig .tc .vmem S128x384 .i32) (harg1 : arg1.IsWhole)
    (arg2 : Memref sig .tc .vmem S128x384 .i32) (harg2 : arg2.IsWhole) (arg3 : Memref sig .tc .vmem S8x128x384 .f32) (harg3 : arg3.IsWhole)
    (x0 : Vec Ideal S32x8 .f32) (x1 : Vec Ideal S128x384 .i32) (x2 : Vec Ideal S128x384 .i32) :
   out0_A_3 (F := Ideal) c arg0 harg0 arg1 harg1 arg2 harg2 arg3 harg3 x0 x1 x2 =
    View.canon (Val := Elt Ideal) (e := .f32) (s := S8x128x384) (stored x0 x1 x2) := by
  unfold out0_A_3
  rw [View.read_writes_eq_canon _ _ _ (cover0_A_3 c _ _ _ _ _ _ _ _ _ _ _)]
  unfold kernelRun0_A
  dsimp only
  sl_unfold_words
  simp only [View.readAt_eq_ld, harg0.read_unread, harg1.read_unread, harg2.read_unread, StableHlo.readPieces]
  generalize hX1 : View.ld (Val := Elt Ideal) (e' := .i32) x1 (Rect.unit (s := S128x384) ![0, 0] ![128, 384] inb_S128x384_S128x384_0_0) = X1
  generalize hX2 : View.ld (Val := Elt Ideal) (e' := .i32) x2 (Rect.unit (s := S128x384) ![0, 0] ![128, 384] inb_S128x384_S128x384_0_0) = X2
  have hX1 : x1 = X1 := by rw [← hX1, View.ld_unit_zero (by decide)]
  have hX2 : x2 = X2 := by rw [← hX2, View.ld_unit_zero (by decide)]
  rw [hX1, hX2]
  refine congrArg (View.canon (Val := Elt Ideal) (e := .f32) (s := S8x128x384)) ?_
  unfold stored
  simp only [tile, chosen, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
  generalize shapeCast S128x384 X1 shapeCasts_S128x384_S128x384 = Y1
  generalize cmpi .sgt (shapeCast S128x384 X2 shapeCasts_S128x384_S128x384) (broadcast S128x384 0#32) = Y2
  repeat' apply piece
  all_goals rfl

end Cert.BiasValue

end
-- ==== Proof.BiasFinal.lean ====
/- The bias kernel's result array: the table's entry of each pair's bucket inside the band, and the named mask outside it. -/
module

public import proofs.«01_k».proof.Proof.BiasValue
public import proofs.«01_k».proof.Proof.BiasIndex
public import Idealize.ShloMosaic.Lib.Pipeline.Value
public import Idealize.ShloMosaic.Lib.Pipeline.ValueKit
public import Idealize.ShloMosaic.Lib.Pipeline.ValueKit.Tiles

@[expose] public section
set_option maxRecDepth 16384
noncomputable section
namespace Cert.BiasValue
open Cert.BiasIdeal Cert.BiasIdeal.Gen Idealize.ShloMosaic Idealize.ShloMosaic.TcCoe Idealize.SL.Sem
open Idealize.ShloMosaic.Pipeline (Dat)

/-- The banded bias of a table: for every head and pair of positions in the band the entry of the pair's bucket, and outside minus infinity. -/
def biases (T : FVec Ideal S32x8 .f32) : FVec Ideal S8x128x384 .f32 := fun y =>
  if BiasIndex.band (ix2 (y 1) (y 2)) = 1#1 then
    T (ix2 (⟨(BiasIndex.idx (ix2 (y 1) (y 2))).toNat, BiasIndex.idx_lt (y 1) (y 2)⟩ : Fin 32) (y 0)) else ⊥

/-- Looking up the first `n` buckets finds the pair's own entry if its bucket is among them. -/
theorem chosen_apply (x0 : Vec Ideal S32x8 .f32) (x1 : IVec S128x384 32) (h : Fin 8) (y : S128x384.Idx) : ∀ n : ℕ, n ≤ 32 →
    chosen x0 x1 h n y = if (x1 y).toNat < n then x0 (ix2 (Fin.ofNat 32 (x1 y).toNat) h) else 0
  | 0, _ => by
    rw [if_neg (Nat.not_lt_zero _)]
    exact Ideal.ofBits_zero_f32
  | n + 1, hn => by
    show Scalar.select (IntOp.cmpi .eq (x1 y) (BitVec.ofNat 32 n)) (entry x0 (Fin.ofNat 32 n) h) (chosen x0 x1 h n y) = _
    rw [chosen_apply x0 x1 h y n (by omega), entry_eq]
    unfold Scalar.select IntOp.cmpi
    by_cases e : x1 y = BitVec.ofNat 32 n
    · have e' : (x1 y).toNat = n := by rw [e, BitVec.toNat_ofNat]; exact Nat.mod_eq_of_lt (by omega)
      rw [e', if_pos (Nat.lt_succ_self n)]
      simp [e]
    · have e' : (x1 y).toNat ≠ n := fun h => e (by rw [← h, BitVec.ofNat_toNat]; simp)
      have : ((x1 y).toNat < n + 1) = ((x1 y).toNat < n) := by apply propext; omega
      simp only [this]
      rw [show (x1 y == BitVec.ofNat 32 n) = false from beq_false_of_ne e]
      rfl

/-- A head's stored tile, read at a pair of positions. -/
theorem tile_apply (x0 : Vec Ideal S32x8 .f32) (x1 x2 : IVec S128x384 32) (h : Fin 8) (r : Fin 128) (t : Fin 384) :
    tile x0 x1 x2 h (ix3 (0 : Fin 1) r t) = Scalar.select (IntOp.cmpi .sgt (x2 (ix2 r t)) 0#32) (chosen x0 x1 h 32 (ix2 r t)) ⊥ := by
  have e (x : IVec S128x384 32) : shapeCast S128x384 x shapeCasts_S128x384_S128x384 = x := by
    funext y
    obtain ⟨i, j, rfl⟩ : ∃ (i : Fin 128) (j : Fin 384), y = ix2 i j := ⟨y 0, y 1, by funext a; fin_cases a <;> rfl⟩
    pointwise
  unfold tile
  rw [e, e]
  generalize chosen x0 x1 h 32 = f
  pointwise
  rfl

/-- A stored tile holds its head's plane of the block. -/
theorem plane (x0 : Vec Ideal S32x8 .f32) (x1 x2 : IVec S128x384 32) (h : Fin 8) (r : Fin 128) (t : Fin 384) (o : ℕ) (k : Fin 8) (ho : o = k.val)
    (x : (⟨3, S1x128x384.size⟩ : Shape).Idx) (hx : ∀ a, (ix3 h r t a).val = (![o, 0, 0] : Fin 3 → ℕ) a + (x a).val) :
    tile x0 x1 x2 k x = tile x0 x1 x2 h (ix3 (0 : Fin 1) r t) := by
  have h0 : h.val = o + (x 0).val := hx 0
  have h1 : r.val = 0 + (x 1).val := hx 1
  have h2 : t.val = 0 + (x 2).val := hx 2
  have b0 : (x 0).val < 1 := (x 0).isLt
  have e : k = h := Fin.ext (by omega)
  subst e
  refine congrArg (tile x0 x1 x2 k) ?_
  funext a
  match a with
  | ⟨0, _⟩ => exact Fin.ext (by show (x 0).val = 0; omega)
  | ⟨1, _⟩ => exact Fin.ext (by show (x 1).val = r.val; omega)
  | ⟨2, _⟩ => exact Fin.ext (by show (x 2).val = t.val; omega)

/-- The block at an index is its head's tile. -/
theorem stored_apply (x0 : Vec Ideal S32x8 .f32) (x1 x2 : IVec S128x384 32) (h : Fin 8) (r : Fin 128) (t : Fin 384) :
    View.canon (Val := Elt Ideal) (e := .f32) (s := S8x128x384) (stored x0 x1 x2) (ix3 h r t) = tile x0 x1 x2 h (ix3 (0 : Fin 1) r t) := by
  unfold stored
  refine View.canon_eq_of_allAt _ _ _ (View.cover_of_tiled_head _ _ _ (by rfl) _) ?_
  exact View.allAt_cons_unit _ _ _ _ _ (plane x0 x1 x2 h r t 7 7 rfl) <| View.allAt_cons_unit _ _ _ _ _ (plane x0 x1 x2 h r t 6 6 rfl) <|
    View.allAt_cons_unit _ _ _ _ _ (plane x0 x1 x2 h r t 5 5 rfl) <| View.allAt_cons_unit _ _ _ _ _ (plane x0 x1 x2 h r t 4 4 rfl) <|
    View.allAt_cons_unit _ _ _ _ _ (plane x0 x1 x2 h r t 3 3 rfl) <| View.allAt_cons_unit _ _ _ _ _ (plane x0 x1 x2 h r t 2 2 rfl) <|
    View.allAt_cons_unit _ _ _ _ _ (plane x0 x1 x2 h r t 1 1 rfl) <| View.allAt_cons_unit _ _ _ _ _ (plane x0 x1 x2 h r t 0 0 rfl) <|
    View.allAt_nil _ _

variable (m : (ℓ : Loc nD τ sig) → Buf (Elt Ideal) ℓ)

/-- The one grid point stages every array whole. -/
theorem whole : ∀ t : Fin cfg0.N, win0_0.index t = ![0, 0] ∧ win0_1.index t = ![0, 0] ∧ win0_2.index t = ![0, 0] ∧ win0_3.index t = ![0, 0, 0] :=
  (by decide +kernel : ∀ t : Fin grid0.N, _)

/-- The buckets the host prepares. -/
theorem V32 (c : Dev nD) : (show IVec S128x384 32 from V m c main_v32) = BiasIndex.idx := by
  show (show IVec S128x384 32 from StableHlo.after (List.flatten [hostOps0, hostOps0_1, hostOps0_2, hostOps0_3, hostOps0_4]) (fun b => m (c, b)) main_v32) = _
  simp only [hostOps0, hostOps0_1, hostOps0_2, hostOps0_3, hostOps0_4, List.flatten_cons, List.flatten_nil, List.cons_append, List.nil_append, List.append_nil, StableHlo.TRef.ternary, StableHlo.TRef.unary, StableHlo.TRef.toBuf,
    StableHlo.TRef.ofBuf, cast_eq]
  after_results_simp <;> rfl

/-- The band the host prepares. -/
theorem V36 (c : Dev nD) : (show IVec S128x384 32 from V m c main_v36) = extui 32 BiasIndex.band (by decide) := by
  show (show IVec S128x384 32 from StableHlo.after (List.flatten [hostOps0, hostOps0_1, hostOps0_2, hostOps0_3, hostOps0_4]) (fun b => m (c, b)) main_v36) = _
  simp only [hostOps0, hostOps0_1, hostOps0_2, hostOps0_3, hostOps0_4, List.flatten_cons, List.flatten_nil, List.cons_append, List.nil_append, List.append_nil, StableHlo.TRef.ternary, StableHlo.TRef.unary, StableHlo.TRef.toBuf,
    StableHlo.TRef.ofBuf, cast_eq]
  after_results_simp <;> rfl

/-- The table's block is the table. -/
theorem blk0 (c : Dev nD) (t : Fin cfg0.N) (b : Fin 32) (h : Fin 8) :
    (show FVec Ideal S32x8 .f32 from iblk m c 0 t) (ix2 b h) = (show FVec Ideal S32x8 .f32 from m ((c : Thread nD τ).loc main_arg0)) (ix2 b h) := by
  blk_ext [iblk, V, whole t]

/-- The buckets' block is the buckets. -/
theorem blk1 (c : Dev nD) (t : Fin cfg0.N) (i : Fin 128) (j : Fin 384) :
    (show IVec S128x384 32 from iblk m c 1 t) (ix2 i j) = BiasIndex.idx (ix2 i j) := by
  rw [← V32 m c]
  blk_ext [iblk, whole t]

/-- The band's block is the band. -/
theorem blk2 (c : Dev nD) (t : Fin cfg0.N) (i : Fin 128) (j : Fin 384) :
    (show IVec S128x384 32 from iblk m c 2 t) (ix2 i j) = (BiasIndex.band (ix2 i j)).setWidth 32 := by
  refine Eq.trans ?_ (congrFun (V36 m c) (ix2 i j))
  blk_ext [iblk, whole t]

/-- The bias array after the run. -/
theorem final3 (c : Dev nD) : (dats m 0 c).arrAt 3 (cfgs 0).N = biases (m ((c : Thread nD τ).loc main_arg0)) := by
  refine (dats m 0 c).arrAt_eq_of_covers 3 _ (by decide +kernel) fun t _ y => ?_
  blk_simp
  rw [after0_3]
  simp only [outsAt0]
  rw [out3]
  obtain ⟨h, i, j, rfl⟩ : ∃ (h : Fin 8) (i : Fin 128) (j : Fin 384), y = ix3 h i j := ⟨y 0, y 1, y 2, by
    funext a
    match a with
    | ⟨0, _⟩ => rfl
    | ⟨1, _⟩ => rfl
    | ⟨2, _⟩ => rfl⟩
  refine (stored_apply _ _ _ h i j).trans ?_
  rw [tile_apply, chosen_apply _ _ _ _ 32 le_rfl]
  have e1 := blk1 m c t i j
  have e2 := blk2 m c t i j
  have hl := BiasIndex.idx_lt i j
  refine Eq.trans (b := biases (m ((c : Thread nD τ).loc main_arg0)) (ix3 h i j)) ?_ ?_
  · unfold biases
    show Scalar.select (IntOp.cmpi .sgt ((show IVec S128x384 32 from iblk m c 2 t) (ix2 i j)) 0#32)
      (if ((show IVec S128x384 32 from iblk m c 1 t) (ix2 i j)).toNat < 32 then (show FVec Ideal S32x8 .f32 from iblk m c 0 t)
        (ix2 (Fin.ofNat 32 ((show IVec S128x384 32 from iblk m c 1 t) (ix2 i j)).toNat) h) else 0) ⊥ =
      if BiasIndex.band (ix2 i j) = 1#1 then (show FVec Ideal S32x8 .f32 from m ((c : Thread nD τ).loc main_arg0))
        (ix2 (⟨(BiasIndex.idx (ix2 i j)).toNat, hl⟩ : Fin 32) h) else ⊥
    rw [e1, e2, if_pos hl, blk0]
    have ef : Fin.ofNat 32 (BiasIndex.idx (ix2 i j)).toNat = ⟨(BiasIndex.idx (ix2 i j)).toNat, hl⟩ := Fin.ext (Nat.mod_eq_of_lt hl)
    rw [ef]
    generalize BiasIndex.band (ix2 i j) = p
    have hp : ∀ p : BitVec 1, (p = 1#1 ∧ IntOp.cmpi .sgt (p.setWidth 32) 0#32 = 1#1) ∨ (p ≠ 1#1 ∧ IntOp.cmpi .sgt (p.setWidth 32) 0#32 = 0#1) := by decide
    rcases hp p with ⟨ha, hb⟩ | ⟨ha, hb⟩
    · rw [hb, if_pos ha]; rfl
    · rw [hb, if_neg ha]; rfl
  · congr 1
    funext a
    match a with
    | ⟨0, _⟩ => refine Fin.ext ?_; blk_simp [whole t]
    | ⟨1, _⟩ => refine Fin.ext ?_; blk_simp [whole t]
    | ⟨2, _⟩ => refine Fin.ext ?_; blk_simp [whole t]

end Cert.BiasValue

end
-- ==== Proof.BiasClaim.lean ====
/- The bias kernel and the plain bias program agree. -/
module

public import proofs.«01_k».proof.Proof.Gen.BiasRefIdeal.Run
public import proofs.«01_k».proof.Proof.BiasRefValue
public import proofs.«01_k».proof.Proof.BiasFinal
public import proofs.«01_k».proof.Defs

@[expose] public section
set_option maxRecDepth 16384
noncomputable section
namespace Cert.BiasClaim
open Cert.BiasRefIdeal Cert.BiasRefIdeal.Gen Idealize.ShloMosaic Idealize.ShloMosaic.TcCoe Idealize.SL.Sem

/-- The start indices of the plain program's gather: the buckets, with negative ones counted from the end. -/
def starts : IVec S128x384x1 32 :=
  broadcastInDim S128x384x1 ![0, 1] bcast_S128x384_S128x384x1_0_1 (select (cmpi .slt BiasIndex.idx (broadcastInDim S128x384 ![] bcast_S_S128x384 (constantI S_ 32 0#32)))
    (addi BiasIndex.idx (broadcastInDim S128x384 ![] bcast_S_S128x384 (constantI S_ 32 32#32))) BiasIndex.idx)

/-- No bucket is negative, so a start index is its pair's bucket. -/
theorem starts_apply (r : Fin 128) (t : Fin 384) : (starts (ix3 r t (0 : Fin 1))).toInt.toNat = (BiasIndex.idx (ix2 r t)).toNat := by
  show (Scalar.select (IntOp.cmpi .slt (BiasIndex.idx (ix2 r t)) 0#32) (BiasIndex.idx (ix2 r t) + 32#32) (BiasIndex.idx (ix2 r t))).toInt.toNat = _
  have hl := BiasIndex.idx_lt r t
  generalize BiasIndex.idx (ix2 r t) = w at hl
  have hw : w.toInt = (w.toNat : ℤ) := BitVec.toInt_eq_toNat_of_lt (by omega)
  have : w.slt 0#32 = false := by
    simp only [BitVec.slt, hw, decide_eq_false_iff_not]; show ¬ (w.toNat : ℤ) < 0; omega
  have hc : IntOp.cmpi .slt w 0#32 = 0#1 := by unfold IntOp.cmpi; simp only [this]; rfl
  rw [hc]
  show w.toInt.toNat = w.toNat
  rw [hw]; rfl

/-- The transposed array, read at an index. -/
theorem turned (g : FVec Ideal S128x384x8 .f32) (h : Fin 8) (r : Fin 128) (t : Fin 384) :
    transpose S8x128x384 [2, 0, 1] g transposes_S128x384x8_S8x128x384_2_0_1 (ix3 h r t) = g (ix3 r t h) := by
  pointwise

/-- The gathered array is the lookup. -/
theorem gathered (T : FVec Ideal S32x8 .f32) (h : Fin 8) (r : Fin 128) (t : Fin 384) :
    Host.gather gather_S32x8_S128x384x1_S128x384x8_2_0_n_n_0_2_18 T starts (ix3 r t h)
      = T (ix2 (⟨(BiasIndex.idx (ix2 r t)).toNat, BiasIndex.idx_lt r t⟩ : Fin 32) h) := by
  refine (BiasIndex.gather_apply T starts r t h).trans (congrArg (fun k => T (ix2 k h)) (Fin.ext ?_))
  have e := starts_apply r t
  have hl := BiasIndex.idx_lt r t
  exact (congrArg (min · 31) e).trans (min_eq_left (Nat.le_of_lt_succ hl))

/-- The plain program's result as composed of its operations. -/
theorem ref_value (T : FVec Ideal S32x8 .f32) :
    select (broadcastInDim S8x128x384 ![1, 2] bcast_S128x384_S8x128x384_1_2 BiasIndex.band)
      (transpose S8x128x384 [2, 0, 1] (Host.gather gather_S32x8_S128x384x1_S128x384x8_2_0_n_n_0_2_18 T starts) transposes_S128x384x8_S8x128x384_2_0_1)
      (broadcastInDim S8x128x384 ![] bcast_S_S8x128x384 (id (constant (F := Ideal) S_ .f32 0xFF800000#32))) = BiasValue.biases T := by
  funext y
  obtain ⟨h, r, t, rfl⟩ : ∃ (h : Fin 8) (r : Fin 128) (t : Fin 384), y = ix3 h r t := ⟨y 0, y 1, y 2, by funext a; fin_cases a <;> rfl⟩
  show Scalar.select (BiasIndex.band (ix2 r t)) (transpose S8x128x384 [2, 0, 1] (Host.gather gather_S32x8_S128x384x1_S128x384x8_2_0_n_n_0_2_18 T starts)
      transposes_S128x384x8_S8x128x384_2_0_1 (ix3 h r t)) (Ideal.ofBits .f32 0xFF800000#32)
    = if BiasIndex.band (ix2 r t) = 1#1 then T (ix2 (⟨(BiasIndex.idx (ix2 r t)).toNat, BiasIndex.idx_lt r t⟩ : Fin 32) h) else ⊥
  rw [turned, gathered, show Ideal.ofBits .f32 0xFF800000#32 = (⊥ : EReal) from by simp [Ideal.ofBits, Ideal.ieee]]
  rfl

/-- From any float memory the bias kernel and the plain program both end, with the same result and their argument kept. -/
theorem algebraic : Cert.algebraic_BiasIdeal_BiasRefIdeal (hBiasIdeal := Cert.BiasIdeal.Gen.facts) (hBiasRefIdeal := Cert.BiasRefIdeal.Gen.facts) := by
  intro m g m' g' _ hag
  refine ⟨fun c => BiasValue.biases (m ((c : Thread Cert.BiasIdeal.nD Cert.BiasIdeal.τ).loc Cert.BiasIdeal.main_arg0)), ?_, ?_⟩
  · exact (θ_run Cert.BiasIdeal.defs _ _).mono (fun r h c => ⟨(h c).1.trans (BiasValue.final3 m c), (h c).2⟩) (Cert.BiasIdeal.Value.run_blocks m g)
  · refine (θ_run Cert.BiasRefIdeal.defs _ _).mono (fun r h c => ⟨((h c).1.trans (ref_value _)).trans ?_, (h c).2⟩) (Cert.BiasRefIdeal.Value.run m' g')
    rw [hag c]

end Cert.BiasClaim

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.Pre_finite_scores
public import proofs.«01_k».proof.Proof.Gen.ProjIdeal.Value
public import proofs.«01_k».proof.Proof.Gen.ProjRefIdeal.Run
public import proofs.«01_k».proof.Proof.Gen.Bias
public import proofs.«01_k».proof.Proof.Gen.Bias.Skeleton
public import proofs.«01_k».proof.Proof.Gen.Bias.Launch
public import proofs.«01_k».proof.Proof.Gen.Bias.Points
public import proofs.«01_k».proof.Proof.Gen.Bias.Frame
public import proofs.«01_k».proof.Proof.Gen.BiasIdeal
public import proofs.«01_k».proof.Proof.Gen.BiasIdeal.Skeleton
public import proofs.«01_k».proof.Proof.Gen.BiasIdeal.Launch
public import proofs.«01_k».proof.Proof.Gen.BiasIdeal.Points
public import proofs.«01_k».proof.Proof.Gen.BiasIdeal.Frame
public import proofs.«01_k».proof.Proof.Gen.BiasRefIdeal
public import proofs.«01_k».proof.Proof.Gen.BiasIdeal.Value
public import proofs.«01_k».proof.Proof.Gen.BiasRefIdeal.Run
public import proofs.«01_k».proof.Proof.Gen.KernelIdeal.Value
public import proofs.«01_k».proof.Proof.Gen.FfnIdeal.Value
public import proofs.«01_k».proof.Proof.Gen.MixIdeal.Value
public import proofs.«01_k».proof.Proof.Gen.ReferenceIdeal.Run
public import proofs.«01_k».proof.Proof.Gen.FfnRefIdeal.Run
public import proofs.«01_k».proof.Proof.Gen.MixRefIdeal.Run
public import proofs.«01_k».proof.Proof.AttnClaim
public import proofs.«01_k».proof.Proof.FfnClaim
public import proofs.«01_k».proof.Proof.MixClaim
public import proofs.«01_k».proof.Proof.ProjClaim
public import proofs.«01_k».proof.Proof.BiasClaim
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The certificate: every program's frame, the sanctioned replacement of the mask constant, and the value claims. -/
theorem claim : Cert.Claim := ⟨Cert.Kernel.Gen.facts, Cert.KernelIdeal.Gen.facts, Cert.ReferenceIdeal.Gen.facts, Cert.Ffn.Gen.facts,
  Cert.FfnIdeal.Gen.facts, Cert.FfnRefIdeal.Gen.facts, Cert.Mix.Gen.facts, Cert.MixIdeal.Gen.facts, Cert.MixRefIdeal.Gen.facts,
  Cert.Proj.Gen.facts, Cert.ProjIdeal.Gen.facts, Cert.ProjRefIdeal.Gen.facts, Cert.Bias.Gen.facts, Cert.BiasIdeal.Gen.facts,
  Cert.BiasRefIdeal.Gen.facts, Cert.Pre_finite_scores.Gen.facts,
  fun m ρ _ => Cert.Kernel.Gen.frame m ρ,
  fun m ρ _ => Cert.KernelIdeal.Gen.frame m ρ,
  fun m ρ _ => Cert.KernelIdeal.Gen.frame m ρ,
  fun m ρ _ => (θ_run _ _ _).mono (fun r h => ⟨fun c => (h c).2, sem_eq_zero_of_no_sems (by decide) r.2⟩) (Cert.ReferenceIdeal.Value.run m ρ),
  fun m ρ _ => (θ_run _ _ _).mono (fun r h => ⟨fun c => (h c).2, sem_eq_zero_of_no_sems (by decide) r.2⟩) (Cert.ReferenceIdeal.Value.run m ρ),
  fun m ρ _ => Cert.Ffn.Gen.frame m ρ,
  fun m ρ _ => Cert.FfnIdeal.Gen.frame m ρ,
  fun m ρ _ => (θ_run _ _ _).mono (fun r h => ⟨fun c => (h c).2, sem_eq_zero_of_no_sems (by decide) r.2⟩) (Cert.FfnRefIdeal.Value.run m ρ),
  fun m ρ _ => Cert.Mix.Gen.frame m ρ,
  fun m ρ _ => Cert.MixIdeal.Gen.frame m ρ,
  fun m ρ _ => (θ_run _ _ _).mono (fun r h => ⟨fun c => (h c).2, sem_eq_zero_of_no_sems (by decide) r.2⟩) (Cert.MixRefIdeal.Value.run m ρ),
  fun m ρ _ => Cert.Proj.Gen.frame m ρ,
  fun m ρ _ => Cert.ProjIdeal.Gen.frame m ρ,
  fun m ρ _ => (θ_run _ _ _).mono (fun r h => ⟨fun c => (h c).2.2.2, sem_eq_zero_of_no_sems (by decide) r.2⟩) (Cert.ProjRefIdeal.Value.run m ρ),
  fun m ρ _ => Cert.Bias.Gen.frame m ρ,
  fun m ρ _ => Cert.BiasIdeal.Gen.frame m ρ,
  fun m ρ _ => (θ_run _ _ _).mono (fun r h => ⟨fun c => (h c).2, sem_eq_zero_of_no_sems (by decide) r.2⟩) (Cert.BiasRefIdeal.Value.run m ρ),
  IdealRules.named_const.statement Cert.KernelIdeal.κ "mask" .f32 0xF149F2CA#32 ⊥ rfl,
  Cert.AttnClaim.algebraic,
  trivial, Cert.FfnClaim.algebraic, trivial, Cert.MixClaim.algebraic,
  trivial, Cert.ProjClaim.algebraic,
  IdealRules.named_const.statement Cert.BiasIdeal.κ "mask" .f32 0xF149F2CA#32 ⊥ rfl, Cert.BiasClaim.algebraic⟩

end Cert.Proof

end
